-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2_4) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8_4) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v2) = v2 c
          ∧ r.2.mem ((c.tc : Thread Cert.Reference10Ideal.nD Cert.Reference10Ideal.τ).loc Cert.Reference10Ideal.main_v23) = v3 c
          ∧ r.2.mem ((c.tc : Thread Cert.Reference10Ideal.nD Cert.Reference10Ideal.τ).loc Cert.Reference10Ideal.main_v38) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v25_0)) (v1 : (c : Dev Cert.Kernel11Ideal.nD) → Buf (Elt Ideal) ((c.tc : Thread Cert.Kernel11Ideal.nD Cert.Kernel11Ideal.τ).loc Cert.Kernel11Ideal.main_v25_1)) (v2 : (c : Dev Cert.Kernel11Ideal.nD) → Buf (Elt Ideal) ((c.tc : Thread Cert.Kernel11Ideal.nD Cert.Kernel11Ideal.τ).loc Cert.Kernel11Ideal.main_v25_2)) (v3 : (c : Dev Cert.Kernel11Ideal.nD) → Buf (Elt Ideal) ((c.tc : Thread Cert.Kernel11Ideal.nD Cert.Kernel11Ideal.τ).loc Cert.Kernel11Ideal.main_v25_3)) (v4 : (c : Dev Cert.Kernel11Ideal.nD) → Buf (Elt Ideal) ((c.tc : Thread Cert.Kernel11Ideal.nD Cert.Kernel11Ideal.τ).loc Cert.Kernel11Ideal.main_v25_4)) (v5 : (c : Dev Cert.Kernel11Ideal.nD) → Buf (Elt Ideal) ((c.tc : Thread Cert.Kernel11Ideal.nD Cert.Kernel11Ideal.τ).loc Cert.Kernel11Ideal.main_v25_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v25_0) = v0 c
          ∧ r.2.mem ((c.tc : Thread Cert.Kernel11Ideal.nD Cert.Kernel11Ideal.τ).loc Cert.Kernel11Ideal.main_v25_1) = v1 c
          ∧ r.2.mem ((c.tc : Thread Cert.Kernel11Ideal.nD Cert.Kernel11Ideal.τ).loc Cert.Kernel11Ideal.main_v25_2) = v2 c
          ∧ r.2.mem ((c.tc : Thread Cert.Kernel11Ideal.nD Cert.Kernel11Ideal.τ).loc Cert.Kernel11Ideal.main_v25_3) = v3 c
          ∧ r.2.mem ((c.tc : Thread Cert.Kernel11Ideal.nD Cert.Kernel11Ideal.τ).loc Cert.Kernel11Ideal.main_v25_4) = v4 c
          ∧ r.2.mem ((c.tc : Thread Cert.Kernel11Ideal.nD Cert.Kernel11Ideal.τ).loc Cert.Kernel11Ideal.main_v25_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v74) = v0 c
          ∧ r.2.mem ((c.tc : Thread Cert.Reference11Ideal.nD Cert.Reference11Ideal.τ).loc Cert.Reference11Ideal.main_v73) = v1 c
          ∧ r.2.mem ((c.tc : Thread Cert.Reference11Ideal.nD Cert.Reference11Ideal.τ).loc Cert.Reference11Ideal.main_v40) = v2 c
          ∧ r.2.mem ((c.tc : Thread Cert.Reference11Ideal.nD Cert.Reference11Ideal.τ).loc Cert.Reference11Ideal.main_v37) = v3 c
          ∧ r.2.mem ((c.tc : Thread Cert.Reference11Ideal.nD Cert.Reference11Ideal.τ).loc Cert.Reference11Ideal.main_v71) = v4 c
          ∧ r.2.mem ((c.tc : Thread Cert.Reference11Ideal.nD Cert.Reference11Ideal.τ).loc Cert.Reference11Ideal.main_v79) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v90) = v0 c
          ∧ r.2.mem ((c.tc : Thread Cert.Reference12Ideal.nD Cert.Reference12Ideal.τ).loc Cert.Reference12Ideal.main_v91) = v1 c
          ∧ r.2.mem ((c.tc : Thread Cert.Reference12Ideal.nD Cert.Reference12Ideal.τ).loc Cert.Reference12Ideal.main_v89) = v2 c
          ∧ r.2.mem ((c.tc : Thread Cert.Reference12Ideal.nD Cert.Reference12Ideal.τ).loc Cert.Reference12Ideal.main_v56) = v3 c
          ∧ r.2.mem ((c.tc : Thread Cert.Reference12Ideal.nD Cert.Reference12Ideal.τ).loc Cert.Reference12Ideal.main_v53) = v4 c
          ∧ r.2.mem ((c.tc : Thread Cert.Reference12Ideal.nD Cert.Reference12Ideal.τ).loc Cert.Reference12Ideal.main_v87) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite6 : Cert.Pre_finite6.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite.lean ====
abbrev S8192x2048 : Shape := ⟨2, ![8192, 2048]⟩
abbrev S8192x6144 : Shape := ⟨2, ![8192, 6144]⟩
abbrev S3x512 : Shape := ⟨2, ![3, 512]⟩
abbrev S_ : Shape := ⟨0, ![]⟩

class Facts : Prop where
  bcast_S_S8192x2048 : S_.BroadcastsInDim S8192x2048 (![] : Fin 0 → Fin S8192x2048.rank)
  bcast_S_S8192x6144 : S_.BroadcastsInDim S8192x6144 (![] : Fin 0 → Fin S8192x6144.rank)
  bcast_S_S3x512 : S_.BroadcastsInDim S3x512 (![] : Fin 0 → Fin S3x512.rank)

variable [Facts]

def fn {F : FTy → Type} [FloatOps F] (main_arg0 : FVec F S8192x2048 .f32) (main_arg1 : FVec F S8192x6144 .f32) (main_arg2 : FVec F S3x512 .f32) : IVec S8192x2048 1 × IVec S8192x6144 1 × IVec S3x512 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x6144 .f32 := Host.absf main_arg1
  let main_cst_0 : FVec F S_ .f32 := constant S_ .f32 0x7F800000#32
  let main_v4 : FVec F S8192x6144 .f32 := broadcastInDim S8192x6144 ![] bcast_S_S8192x6144 main_cst_0
  let main_v5 : IVec S8192x6144 1 := cmpf .olt main_v3 main_v4
  let main_v6 : FVec F S3x512 .f32 := Host.absf main_arg2
  let main_cst_1 : FVec F S_ .f32 := constant S_ .f32 0x7F800000#32
  let main_v7 : FVec F S3x512 .f32 := broadcastInDim S3x512 ![] bcast_S_S3x512 main_cst_1
  let main_v8 : IVec S3x512 1 := cmpf .olt main_v6 main_v7
  (main_v2, main_v5, main_v8)
-- ==== Pre_finite11.lean ====
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S8192x2048 .f32) (main_arg3 : FVec F S1x2048 .f32) (main_arg4 : FVec F S1x2048 .f32) (main_arg5 : FVec F S2048x2048 .bf16) : IVec S8192x2048 1 × IVec S8192x2048 1 × IVec S8192x2048 1 × IVec S1x2048 1 × IVec S1x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_finite12.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn_part1 {F : FTy → Type} [FloatOps F] (main_arg6 : FVec F S8192x2048 .f32) (main_v3 : IVec S8192x2048 1) (main_v7 : IVec S2048x2048 1) (main_v10 : IVec S8192x2048 1) (main_v13 : IVec S1x2048 1) (main_v16 : IVec S1x2048 1) (main_v17 : FVec F S1x2048 .f32) (main_cst_4 : FVec F S_ .f32) : IVec S8192x2048 1 × IVec S2048x2048 1 × IVec S8192x2048 1 × IVec S1x2048 1 × IVec S1x2048 1 × IVec S1x2048 1 × IVec S8192x2048 1 :=
  let main_v18 : FVec F S1x2048 .f32 := broadcastInDim S1x2048 ![] bcast_S_S1x2048 main_cst_4
  let main_v19 : IVec S1x2048 1 := cmpf .olt main_v17 main_v18
  let main_v20 : FVec F S8192x2048 .f32 := Host.absf main_arg6
  let main_cst_5 : FVec F S_ .f32 := constant S_ .f32 0x7F800000#32
  let main_v21 : FVec F S8192x2048 .f32 := broadcastInDim S8192x2048 ![] bcast_S_S8192x2048 main_cst_5
  let main_v22 : IVec S8192x2048 1 := cmpf .olt main_v20 main_v21
  (main_v3, main_v7, main_v10, main_v13, main_v16, main_v19, main_v22)

def fn {F : FTy → Type} [FloatOps F] (main_arg0 : FVec F S8192x2048 .bf16) (main_arg1 : FVec F S2048x2048 .bf16) (main_arg2 : FVec F S8192x2048 .f32) (main_arg3 : FVec F S1x2048 .f32) (main_arg4 : FVec F S1x2048 .f32) (main_arg5 : FVec F S1x2048 .f32) (main_arg6 : FVec F S8192x2048 .f32) : IVec S8192x2048 1 × IVec S2048x2048 1 × IVec S8192x2048 1 × IVec S1x2048 1 × IVec S1x2048 1 × IVec S1x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S8192x2048 .f32 := Host.absf main_arg2
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  let main_v11 : FVec F S1x2048 .f32 := Host.absf main_arg3
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  let main_v14 : FVec F S1x2048 .f32 := Host.absf main_arg4
  let main_cst_3 : FVec F S_ .f32 := constant S_ .f32 0x7F800000#32
  let main_v15 : FVec F S1x2048 .f32 := broadcastInDim S1x2048 ![] bcast_S_S1x2048 main_cst_3
  let main_v16 : IVec S1x2048 1 := cmpf .olt main_v14 main_v15
  let main_v17 : FVec F S1x2048 .f32 := Host.absf main_arg5
  let main_cst_4 : FVec F S_ .f32 := constant S_ .f32 0x7F800000#32
  fn_part1 (F := F) main_arg6 main_v3 main_v7 main_v10 main_v13 main_v16 main_v17 main_cst_4
-- ==== Pre_finite6.lean ====
abbrev S8192x512 : Shape := ⟨2, ![8192, 512]⟩
abbrev S8192x2048 : Shape := ⟨2, ![8192, 2048]⟩
abbrev S8192x6144 : Shape := ⟨2, ![8192, 6144]⟩
abbrev S_ : Shape := ⟨0, ![]⟩

class Facts : Prop where
  bcast_S_S8192x2048 : S_.BroadcastsInDim S8192x2048 (![] : Fin 0 → Fin S8192x2048.rank)
  bcast_S_S8192x512 : S_.BroadcastsInDim S8192x512 (![] : Fin 0 → Fin S8192x512.rank)

variable [Facts]

def fn {F : FTy → Type} [FloatOps F] (main_arg0 : FVec F S8192x512 .f32) (main_arg1 : FVec F S8192x2048 .f32) (main_arg2 : FVec F S8192x512 .f32) (main_arg3 : FVec F S8192x6144 .f32) : IVec S8192x2048 1 × IVec S8192x512 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x512 .f32 := Host.absf main_arg2
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== Kernel.lean ====
abbrev S8192x2048 : Shape := ⟨2, ![8192, 2048]⟩
abbrev S8192x6144 : Shape := ⟨2, ![8192, 6144]⟩
abbrev S3x512 : Shape := ⟨2, ![3, 512]⟩
abbrev S_ : Shape := ⟨0, ![]⟩
abbrev S8x512 : Shape := ⟨2, ![8, 512]⟩
abbrev S512x512 : Shape := ⟨2, ![512, 512]⟩
abbrev S512x2048 : Shape := ⟨2, ![512, 2048]⟩
abbrev S1x512 : Shape := ⟨2, ![1, 512]⟩
abbrev S504x512 : Shape := ⟨2, ![504, 512]⟩
abbrev S512 : Shape := ⟨1, ![512]⟩

abbrev nBuf : Space → Nat
  | .hbm => 8
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S3x512, .f32⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S8192x2048, .bf16⟩
  | .hbm, ⟨7, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S8x512, .f32⟩
  | .local _ .vmem, ⟨15, _⟩ => ⟨S8x512, .f32⟩
  | .local _ .vmem, ⟨16, _⟩ => ⟨S512x512, .f32⟩
  | .local _ .vmem, ⟨17, _⟩ => ⟨S512x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S512x2048, .bf16⟩
  | .local _ .vmem, ⟨22, _⟩ => ⟨S512x2048, .bf16⟩
  | .local _ .vmem, ⟨23, _⟩ => ⟨S8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c3_i32 : BitVec 32 := 3#32
  let c0_i32 : BitVec 32 := 0#32
  ![v2.toNat, c3_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x2048 : Shape := ⟨2, ![8192, 2048]⟩
abbrev S8192x6144 : Shape := ⟨2, ![8192, 6144]⟩
abbrev S3x512 : Shape := ⟨2, ![3, 512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S8x512 : Shape := ⟨2, ![8, 512]⟩

abbrev nBuf : Space → Nat
  | .hbm => 110
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S3x512, .f32⟩
  | .hbm, ⟨3, _⟩ => ⟨S8192x2048, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S2x512, .f32⟩
  | .hbm, ⟨11, _⟩ => ⟨S8194x512, .f32⟩
  | .hbm, ⟨12, _⟩ => ⟨S_, .f32⟩
  | .hbm, ⟨13, _⟩ => ⟨S2x512, .f32⟩
  | .hbm, ⟨14, _⟩ => ⟨S8192x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S_, .f32⟩
  | .hbm, ⟨68, _⟩ => ⟨S3x512, .f32⟩
  | .hbm, ⟨69, _⟩ => ⟨S_, .f32⟩
  | .hbm, ⟨70, _⟩ => ⟨S8194x512, .f32⟩
  | .hbm, ⟨71, _⟩ => ⟨S8192x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S_, .f32⟩
  | .hbm, ⟨81, _⟩ => ⟨S3x512, .f32⟩
  | .hbm, ⟨82, _⟩ => ⟨S3x512, .f32⟩
  | .hbm, ⟨83, _⟩ => ⟨S_, .f32⟩
  | .hbm, ⟨84, _⟩ => ⟨S8194x512, .f32⟩
  | .hbm, ⟨85, _⟩ => ⟨S8194x512, .f32⟩
  | .hbm, ⟨86, _⟩ => ⟨S8192x512, .f32⟩
  | .hbm, ⟨87, _⟩ => ⟨S_, .f32⟩
  | .hbm, ⟨88, _⟩ => ⟨S512, .f32⟩
  | .hbm, ⟨89, _⟩ => ⟨S1x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S512, .f32⟩
  | .hbm, ⟨94, _⟩ => ⟨S1x512, .f32⟩
  | .hbm, ⟨95, _⟩ => ⟨S_, .f32⟩
  | .hbm, ⟨96, _⟩ => ⟨S3x512, .f32⟩
  | .hbm, ⟨97, _⟩ => ⟨S3x512, .f32⟩
  | .hbm, ⟨98, _⟩ => ⟨S_, .f32⟩
  | .hbm, ⟨99, _⟩ => ⟨S8194x512, .f32⟩
  | .hbm, ⟨100, _⟩ => ⟨S8194x512, .f32⟩
  | .hbm, ⟨101, _⟩ => ⟨S2x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S8192x2048, .f32⟩
  | .hbm, ⟨106, _⟩ => ⟨S8192x2048, .bf16⟩
  | .hbm, ⟨107, _⟩ => ⟨S_, .i32⟩
  | .hbm, ⟨108, _⟩ => ⟨S_, .f32⟩
  | .hbm, ⟨109, _⟩ => ⟨S8x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v30_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v30_1 : Ref sig .tc := ⟨.hbm, 46, rfl⟩
abbrev main_v30_0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_1 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_cst_7 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c : Ref sig .tc := ⟨.hbm, 107, rfl⟩
abbrev main_call2_v0 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== Kernel2.lean ====
abbrev S8192x512 : Shape := ⟨2, ![8192, 512]⟩
abbrev S8192x6144 : Shape := ⟨2, ![8192, 6144]⟩
abbrev S4x512 : Shape := ⟨2, ![4, 512]⟩
abbrev S_ : Shape := ⟨0, ![]⟩
abbrev S8x512 : Shape := ⟨2, ![8, 512]⟩
abbrev S1x512 : Shape := ⟨2, ![1, 512]⟩
abbrev S512x512 : Shape := ⟨2, ![512, 512]⟩
abbrev S504x512 : Shape := ⟨2, ![504, 512]⟩
abbrev S512 : Shape := ⟨1, ![512]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x6144, .f32⟩
  | .hbm, ⟨2, _⟩ => ⟨S4x512, .f32⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S8192x512, .bf16⟩
  | .hbm, ⟨7, _⟩ => ⟨S8x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S512x512, .bf16⟩
  | .local _ .vmem, ⟨10, _⟩ => ⟨S512x512, .bf16⟩
  | .local _ .vmem, ⟨11, _⟩ => ⟨S8x512, .f32⟩
  | .local _ .vmem, ⟨12, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x512 : Shape := ⟨2, ![8192, 512]⟩
abbrev S8192x6144 : Shape := ⟨2, ![8192, 6144]⟩
abbrev S4x512 : Shape := ⟨2, ![4, 512]⟩
abbrev S_ : Shape := ⟨0, ![]⟩
abbrev S1x512 : Shape := ⟨2, ![1, 512]⟩
abbrev S3x512 : Shape := ⟨2, ![3, 512]⟩
abbrev S8195x512 : Shape := ⟨2, ![8195, 512]⟩
abbrev S512 : Shape := ⟨1, ![512]⟩
abbrev S8x512 : Shape := ⟨2, ![8, 512]⟩

abbrev nBuf : Space → Nat
  | .hbm => 108
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x6144, .f32⟩
  | .hbm, ⟨2, _⟩ => ⟨S4x512, .f32⟩
  | .hbm, ⟨3, _⟩ => ⟨S8192x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S3x512, .f32⟩
  | .hbm, ⟨8, _⟩ => ⟨S8195x512, .f32⟩
  | .hbm, ⟨9, _⟩ => ⟨S_, .f32⟩
  | .hbm, ⟨10, _⟩ => ⟨S3x512, .f32⟩
  | .hbm, ⟨11, _⟩ => ⟨S8192x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S8192x512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S4x512, .f32⟩
  | .hbm, ⟨55, _⟩ => ⟨S_, .f32⟩
  | .hbm, ⟨56, _⟩ => ⟨S8195x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S_, .f32⟩
  | .hbm, ⟨67, _⟩ => ⟨S4x512, .f32⟩
  | .hbm, ⟨68, _⟩ => ⟨S4x512, .f32⟩
  | .hbm, ⟨69, _⟩ => ⟨S_, .f32⟩
  | .hbm, ⟨70, _⟩ => ⟨S8195x512, .f32⟩
  | .hbm, ⟨71, _⟩ => ⟨S8195x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S_, .f32⟩
  | .hbm, ⟨82, _⟩ => ⟨S4x512, .f32⟩
  | .hbm, ⟨83, _⟩ => ⟨S4x512, .f32⟩
  | .hbm, ⟨84, _⟩ => ⟨S_, .f32⟩
  | .hbm, ⟨85, _⟩ => ⟨S8195x512, .f32⟩
  | .hbm, ⟨86, _⟩ => ⟨S8195x512, .f32⟩
  | .hbm, ⟨87, _⟩ => ⟨S8192x512, .f32⟩
  | .hbm, ⟨88, _⟩ => ⟨S_, .f32⟩
  | .hbm, ⟨89, _⟩ => ⟨S512, .f32⟩
  | .hbm, ⟨90, _⟩ => ⟨S1x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S512, .f32⟩
  | .hbm, ⟨95, _⟩ => ⟨S1x512, .f32⟩
  | .hbm, ⟨96, _⟩ => ⟨S_, .f32⟩
  | .hbm, ⟨97, _⟩ => ⟨S4x512, .f32⟩
  | .hbm, ⟨98, _⟩ => ⟨S4x512, .f32⟩
  | .hbm, ⟨99, _⟩ => ⟨S_, .f32⟩
  | .hbm, ⟨100, _⟩ => ⟨S8195x512, .f32⟩
  | .hbm, ⟨101, _⟩ => ⟨S8195x512, .f32⟩
  | .hbm, ⟨102, _⟩ => ⟨S3x512, .f32⟩
  | .hbm, ⟨103, _⟩ => ⟨S8192x512, .f32⟩
  | .hbm, ⟨104, _⟩ => ⟨S8192x512, .bf16⟩
  | .hbm, ⟨105, _⟩ => ⟨S_, .i32⟩
  | .hbm, ⟨106, _⟩ => ⟨S_, .f32⟩
  | .hbm, ⟨107, _⟩ => ⟨S8x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_15 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c : Ref sig .tc := ⟨.hbm, 105, rfl⟩
abbrev main_call0_v0 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== Kernel3.lean ====
abbrev S8192x6144 : Shape := ⟨2, ![8192, 6144]⟩
abbrev S2048x6144 : Shape := ⟨2, ![2048, 6144]⟩
abbrev S8192x2048 : Shape := ⟨2, ![8192, 2048]⟩
abbrev S1x2048 : Shape := ⟨2, ![1, 2048]⟩
abbrev S1024x1536 : Shape := ⟨2, ![1024, 1536]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference3Ideal.lean ====
abbrev S8192x6144 : Shape := ⟨2, ![8192, 6144]⟩
abbrev S2048x6144 : Shape := ⟨2, ![2048, 6144]⟩
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S2048x6144, .f32⟩
  | .hbm, ⟨6, _⟩ => ⟨S_, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x6144, .f32⟩
  | .hbm, ⟨16, _⟩ => ⟨S8192x6144, .f32⟩
  | .hbm, ⟨17, _⟩ => ⟨S8192x2048, .f32⟩
  | .hbm, ⟨18, _⟩ => ⟨S_, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S_, .f32⟩
  | .hbm, ⟨23, _⟩ => ⟨S2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel4.lean ====
abbrev S8192x2048 : Shape := ⟨2, ![8192, 2048]⟩
abbrev S8192x6144 : Shape := ⟨2, ![8192, 6144]⟩
abbrev S2048x6144 : Shape := ⟨2, ![2048, 6144]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x512 : Shape := ⟨2, ![8192, 512]⟩
abbrev S8192x6144 : Shape := ⟨2, ![8192, 6144]⟩
abbrev S512x512 : Shape := ⟨2, ![512, 512]⟩
abbrev S1x512 : Shape := ⟨2, ![1, 512]⟩
abbrev S8x512 : Shape := ⟨2, ![8, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x6144, .f32⟩
  | .hbm, ⟨3, _⟩ => ⟨S8192x512, .f32⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c64_i32 : BitVec 32 := 64#32
  let v4 : BitVec 32 := Scalar.addi c0_i32_2 c64_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c8_i32 : BitVec 32 := 8#32
  let v17 : BitVec 32 := Scalar.muli arg7 c8_i32
  v17
def k0_off1 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c8_i32 : BitVec 32 := 8#32
  let v17 : BitVec 32 := Scalar.muli arg7 c8_i32
  let v18 : BitVec 32 := v17
  let v19 : Index := Scalar.indexCast v18
  let c0_12 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x512 : Shape := ⟨2, ![8192, 512]⟩
abbrev S8192x6144 : Shape := ⟨2, ![8192, 6144]⟩
abbrev S_ : Shape := ⟨0, ![]⟩
abbrev S512 : Shape := ⟨1, ![512]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x6144, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S8192x512, .f32⟩
  | .hbm, ⟨7, _⟩ => ⟨S_, .i32⟩
  | .hbm, ⟨8, _⟩ => ⟨S8192x512, .f32⟩
  | .hbm, ⟨9, _⟩ => ⟨S8192x512, .f32⟩
  | .hbm, ⟨10, _⟩ => ⟨S_, .i32⟩
  | .hbm, ⟨11, _⟩ => ⟨S512, .f32⟩
  | .hbm, ⟨12, _⟩ => ⟨S8192x512, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S1x512, .f32⟩
  | .hbm, ⟨17, _⟩ => ⟨S512, .f32⟩
  | .hbm, ⟨18, _⟩ => ⟨S_, .i32⟩
  | .hbm, ⟨19, _⟩ => ⟨S1x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S1x512, .f32⟩
  | .hbm, ⟨24, _⟩ => ⟨S_, .i32⟩
  | .hbm, ⟨25, _⟩ => ⟨S8192x512, .f32⟩
  | .hbm, ⟨26, _⟩ => ⟨S_, .i32⟩
  | .hbm, ⟨27, _⟩ => ⟨S_, .i32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_while0c_c_5 : Ref sig .tc := ⟨.hbm, 13, rfl⟩
abbrev main_while0c_v7 : Ref sig .tc := ⟨.hbm, 14, rfl⟩
abbrev main_while0b_call0_c : Ref sig .tc := ⟨.hbm, 15, rfl⟩
abbrev main_while0b_call0_v0 : Ref sig .tc := ⟨.hbm, 16, rfl⟩
abbrev main_while0b_v7 : Ref sig .tc := ⟨.hbm, 17, rfl⟩
abbrev main_while0b_call1_c : Ref sig .tc := ⟨.hbm, 18, rfl⟩
abbrev main_while0b_call1_v0 : Ref sig .tc := ⟨.hbm, 19, rfl⟩
abbrev main_while0b_v8 : Ref sig .tc := ⟨.hbm, 20, rfl⟩
abbrev main_while0b_v9 : Ref sig .tc := ⟨.hbm, 21, rfl⟩
abbrev main_while0b_v10 : Ref sig .tc := ⟨.hbm, 22, rfl⟩
abbrev main_while0b_call2_v0 : Ref sig .tc := ⟨.hbm, 23, rfl⟩
abbrev main_while0b_call2_c : Ref sig .tc := ⟨.hbm, 24, rfl⟩
abbrev main_while0b_v11 : Ref sig .tc := ⟨.hbm, 25, rfl⟩
abbrev main_while0b_c_5 : Ref sig .tc := ⟨.hbm, 26, rfl⟩
abbrev main_while0b_v12 : Ref sig .tc := ⟨.hbm, 27, rfl⟩
abbrev main_v3 : Ref sig .tc := ⟨.hbm, 28, rfl⟩
abbrev main_call3_v0 : Ref sig .tc := ⟨.hbm, 29, rfl⟩
abbrev main_call3_v1 : Ref sig .tc := ⟨.hbm, 30, rfl⟩
abbrev main_call3_cst : Ref sig .tc := ⟨.hbm, 31, rfl⟩
abbrev main_call3_v2 : Ref sig .tc := ⟨.hbm, 32, rfl⟩
abbrev main_call3_v3 : Ref sig .tc := ⟨.hbm, 33, rfl⟩
abbrev main_call3_cst_0 : Ref sig .tc := ⟨.hbm, 34, rfl⟩
abbrev main_call3_v4 : Ref sig .tc := ⟨.hbm, 35, rfl⟩
abbrev main_call3_v5 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩

abbrev nD : Nat := 1
abbrev τ : Topo := Topo.v7x

variable {F : FTy → Type} [FloatOps F]

abbrev main_while0_count : Scf.Loop 32 := ⟨0#32, 8192#32, 1#32⟩
-- ==== Kernel6.lean ====
abbrev S8192x512 : Shape := ⟨2, ![8192, 512]⟩
abbrev S8192x2048 : Shape := ⟨2, ![8192, 2048]⟩
abbrev S8192x6144 : Shape := ⟨2, ![8192, 6144]⟩
abbrev S512x512 : Shape := ⟨2, ![512, 512]⟩
abbrev S1x512 : Shape := ⟨2, ![1, 512]⟩
abbrev S8x512 : Shape := ⟨2, ![8, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .f32⟩
  | .hbm, ⟨3, _⟩ => ⟨S8192x6144, .f32⟩
  | .hbm, ⟨4, _⟩ => ⟨S8192x512, .f32⟩
  | .hbm, ⟨5, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_17 : BitVec 32 := 0#32
  let c64_i32 : BitVec 32 := 64#32
  let v26 : BitVec 32 := Scalar.addi c0_i32_17 c64_i32
  let c1_i32 : BitVec 32 := 1#32
  ⟨c0_i32_17, v26, c1_i32⟩
def k0_mult1 (k0_t1 : Fin k0_t1_loop.trips) : BitVec 32 :=
  let c63_i32 : BitVec 32 := 63#32
  let c0_i32_17 : BitVec 32 := 0#32
  let c1_i32 : BitVec 32 := 1#32
  let arg9 : BitVec 32 := Scf.iv c0_i32_17 c1_i32 k0_t1
  let v31 : BitVec 32 := Scalar.subi c63_i32 arg9
  let c8_i32 : BitVec 32 := 8#32
  let v32 : BitVec 32 := Scalar.muli v31 c8_i32
  v32
def k0_off1 (k0_t1 : Fin k0_t1_loop.trips) : Fin 2 → Nat :=
  let c63_i32 : BitVec 32 := 63#32
  let c0_i32_17 : BitVec 32 := 0#32
  let c1_i32 : BitVec 32 := 1#32
  let arg9 : BitVec 32 := Scf.iv c0_i32_17 c1_i32 k0_t1
  let v31 : BitVec 32 := Scalar.subi c63_i32 arg9
  let c8_i32 : BitVec 32 := 8#32
  let v32 : BitVec 32 := Scalar.muli v31 c8_i32
  let v33 : BitVec 32 := v32
  let v34 : Index := Scalar.indexCast v33
  let c0_21 : Index := 0#32
  ![v34.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c9_i32 : BitVec 32 := 9#32
  let c0_i32 : BitVec 32 := 0#32
  ![v0.toNat, c9_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x512 : Shape := ⟨2, ![8192, 512]⟩
abbrev S8192x2048 : Shape := ⟨2, ![8192, 2048]⟩
abbrev S8192x6144 : Shape := ⟨2, ![8192, 6144]⟩
abbrev S_ : Shape := ⟨0, ![]⟩
abbrev S512 : Shape := ⟨1, ![512]⟩
abbrev S1x512 : Shape := ⟨2, ![1, 512]⟩

abbrev nBuf : Space → Nat
  | .hbm => 70
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .f32⟩
  | .hbm, ⟨3, _⟩ => ⟨S8192x6144, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S8192x512, .f32⟩
  | .hbm, ⟨23, _⟩ => ⟨S_, .i32⟩
  | .hbm, ⟨24, _⟩ => ⟨S8192x512, .f32⟩
  | .hbm, ⟨25, _⟩ => ⟨S8192x512, .f32⟩
  | .hbm, ⟨26, _⟩ => ⟨S_, .i32⟩
  | .hbm, ⟨27, _⟩ => ⟨S512, .f32⟩
  | .hbm, ⟨28, _⟩ => ⟨S8192x512, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x512, .f32⟩
  | .hbm, ⟨37, _⟩ => ⟨S512, .f32⟩
  | .hbm, ⟨38, _⟩ => ⟨S_, .i32⟩
  | .hbm, ⟨39, _⟩ => ⟨S1x512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S1x512, .f32⟩
  | .hbm, ⟨44, _⟩ => ⟨S_, .i32⟩
  | .hbm, ⟨45, _⟩ => ⟨S8192x512, .f32⟩
  | .hbm, ⟨46, _⟩ => ⟨S_, .i32⟩
  | .hbm, ⟨47, _⟩ => ⟨S_, .i32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_c : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev main_while0c_c_6 : Ref sig .tc := ⟨.hbm, 29, rfl⟩
abbrev main_while0c_v16 : Ref sig .tc := ⟨.hbm, 30, rfl⟩
abbrev main_while0b_c_6 : Ref sig .tc := ⟨.hbm, 31, rfl⟩
abbrev main_while0b_v16 : Ref sig .tc := ⟨.hbm, 32, rfl⟩
abbrev main_while0b_c_7 : Ref sig .tc := ⟨.hbm, 33, rfl⟩
abbrev main_while0b_v17 : Ref sig .tc := ⟨.hbm, 34, rfl⟩
abbrev main_while0b_call1_c : Ref sig .tc := ⟨.hbm, 35, rfl⟩
abbrev main_while0b_call1_v0 : Ref sig .tc := ⟨.hbm, 36, rfl⟩
abbrev main_while0b_v18 : Ref sig .tc := ⟨.hbm, 37, rfl⟩
abbrev main_while0b_call2_c : Ref sig .tc := ⟨.hbm, 38, rfl⟩
abbrev main_while0b_call2_v0 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_call3_v0 : Ref sig .tc := ⟨.hbm, 43, rfl⟩
abbrev main_while0b_call3_c : Ref sig .tc := ⟨.hbm, 44, rfl⟩
abbrev main_while0b_v22 : Ref sig .tc := ⟨.hbm, 45, rfl⟩
abbrev main_while0b_c_8 : Ref sig .tc := ⟨.hbm, 46, rfl⟩
abbrev main_while0b_v23 : Ref sig .tc := ⟨.hbm, 47, rfl⟩
abbrev main_v9 : Ref sig .tc := ⟨.hbm, 48, rfl⟩
abbrev main_call4_v0 : Ref sig .tc := ⟨.hbm, 49, rfl⟩
abbrev main_call4_v1 : Ref sig .tc := ⟨.hbm, 50, rfl⟩
abbrev main_call4_cst : Ref sig .tc := ⟨.hbm, 51, rfl⟩
abbrev main_call4_v2 : Ref sig .tc := ⟨.hbm, 52, rfl⟩
abbrev main_call4_v3 : Ref sig .tc := ⟨.hbm, 53, rfl⟩
abbrev main_call4_cst_0 : Ref sig .tc := ⟨.hbm, 54, rfl⟩
abbrev main_call4_v4 : Ref sig .tc := ⟨.hbm, 55, rfl⟩
abbrev main_v10_2 : Ref sig .tc := ⟨.hbm, 56, rfl⟩
abbrev main_call4_cst_1 : Ref sig .tc := ⟨.hbm, 57, rfl⟩
abbrev main_call4_v6 : Ref sig .tc := ⟨.hbm, 58, rfl⟩
abbrev main_call4_v7 : Ref sig .tc := ⟨.hbm, 59, rfl⟩
abbrev main_v10_1 : Ref sig .tc := ⟨.hbm, 60, rfl⟩
abbrev main_v10_0 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_v14 : Ref sig .tc := ⟨.hbm, 68, rfl⟩
abbrev main_v15 : Ref sig .tc := ⟨.hbm, 69, rfl⟩

abbrev nD : Nat := 1
abbrev τ : Topo := Topo.v7x

variable {F : FTy → Type} [FloatOps F]

abbrev main_while0_count : Scf.Loop 32 := ⟨0#32, 8192#32, 1#32⟩
-- ==== Kernel7.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1x2048 : Shape := ⟨2, ![1, 2048]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩

abbrev nBuf : Space → Nat
  | .hbm => 13
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x1, .f32⟩
  | .hbm, ⟨12, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x1, .f32⟩
  | .local _ .vmem, ⟨17, _⟩ => ⟨S256x1, .f32⟩
  | .local _ .vmem, ⟨18, _⟩ => ⟨S256x2048, .bf16⟩
  | .local _ .vmem, ⟨19, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel11.lean ====
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 44
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .bf16⟩
  | .hbm, ⟨39, _⟩ => ⟨S8192x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | .local _ .vmem, ⟨8, _⟩ => ⟨S1x2048, .f32⟩
  | .local _ .vmem, ⟨9, _⟩ => ⟨S1x2048, .f32⟩
  | .local _ .vmem, ⟨10, _⟩ => ⟨S2048x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev main_v25_4 : Ref sig .tc := ⟨.hbm, 42, rfl⟩
abbrev main_v25_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference11Ideal.lean ====
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S_, .f32⟩
  | .hbm, ⟨7, _⟩ => ⟨S1x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S8192x1, .f32⟩
  | .hbm, ⟨68, _⟩ => ⟨S8192x2048, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x2048, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S_, .f32⟩
  | .hbm, ⟨96, _⟩ => ⟨S2048, .f32⟩
  | .hbm, ⟨97, _⟩ => ⟨S1x2048, .f32⟩
  | .hbm, ⟨98, _⟩ => ⟨S_, .f32⟩
  | .hbm, ⟨99, _⟩ => ⟨S8192x2048, .f32⟩
  | .hbm, ⟨100, _⟩ => ⟨S8192x2048, .f32⟩
  | .hbm, ⟨101, _⟩ => ⟨S8192x2048, .bf16⟩
  | .hbm, ⟨102, _⟩ => ⟨S2048x2048, .f32⟩
  | .hbm, ⟨103, _⟩ => ⟨S_, .f32⟩
  | .hbm, ⟨104, _⟩ => ⟨S8192x2048, .f32⟩
  | .hbm, ⟨105, _⟩ => ⟨S8192x2048, .f32⟩
  | .hbm, ⟨106, _⟩ => ⟨S8192x2048, .f32⟩
  | .hbm, ⟨107, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_18 : Ref sig .tc := ⟨.hbm, 95, rfl⟩
abbrev main_v70 : Ref sig .tc := ⟨.hbm, 96, rfl⟩
abbrev main_v71 : Ref sig .tc := ⟨.hbm, 97, rfl⟩
abbrev main_cst_19 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_20 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S2048 : Shape := ⟨1, ![2048]⟩

abbrev nBuf : Space → Nat
  | .hbm => 13
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S1x1, .f32⟩
  | .hbm, ⟨8, _⟩ => ⟨S8192x2048, .bf16⟩
  | .hbm, ⟨9, _⟩ => ⟨S8192x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x1, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference12Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S8192x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x2048, .f32⟩
  | .hbm, ⟨90, _⟩ => ⟨S8192x2048, .f32⟩
  | .hbm, ⟨91, _⟩ => ⟨S8192x1, .f32⟩
  | .hbm, ⟨92, _⟩ => ⟨S8192x2048, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x2048, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x2048, .f32⟩
  | .hbm, ⟨115, _⟩ => ⟨S8192x2048, .f32⟩
  | .hbm, ⟨116, _⟩ => ⟨S8192x2048, .f32⟩
  | .hbm, ⟨117, _⟩ => ⟨S8192x2048, .f32⟩
  | .hbm, ⟨118, _⟩ => ⟨S8192x2048, .f32⟩
  | .hbm, ⟨119, _⟩ => ⟨S_, .f32⟩
  | .hbm, ⟨120, _⟩ => ⟨S2048, .f32⟩
  | .hbm, ⟨121, _⟩ => ⟨S1x2048, .f32⟩
  | .hbm, ⟨122, _⟩ => ⟨S_, .f32⟩
  | .hbm, ⟨123, _⟩ => ⟨S8192x2048, .f32⟩
  | .hbm, ⟨124, _⟩ => ⟨S8192x2048, .f32⟩
  | .hbm, ⟨125, _⟩ => ⟨S1x1, .f32⟩
  | .hbm, ⟨126, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_cst_13 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_19 : Ref sig .tc := ⟨.hbm, 93, rfl⟩
abbrev main_v66 : Ref sig .tc := ⟨.hbm, 94, rfl⟩
abbrev main_v67 : Ref sig .tc := ⟨.hbm, 95, rfl⟩
abbrev main_cst_20 : Ref sig .tc := ⟨.hbm, 96, rfl⟩
abbrev main_v68 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_23 : Ref sig .tc := ⟨.hbm, 109, rfl⟩
abbrev main_v78 : Ref sig .tc := ⟨.hbm, 110, rfl⟩
abbrev main_v79 : Ref sig .tc := ⟨.hbm, 111, rfl⟩
abbrev main_cst_24 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_25 : Ref sig .tc := ⟨.hbm, 119, rfl⟩
abbrev main_v86 : Ref sig .tc := ⟨.hbm, 120, rfl⟩
abbrev main_v87 : Ref sig .tc := ⟨.hbm, 121, rfl⟩
abbrev main_cst_26 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]
-- ==== Proof.Refs.lean ====
module

public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Defs
public import Idealize.ShloMosaic.Lib.Claim

/-! The references run, leave their arguments as they were, and use no semaphore. -/

@[expose] public section

noncomputable section

namespace Cert.Refs

open Idealize.ShloMosaic Idealize.SL.Sem

/-- The frame of the reference of mixer A. -/
theorem frame : Cert.quiescent_ReferenceIdeal := fun m ρ _ =>
  (θ_run Cert.ReferenceIdeal.defs _ _).mono
    (fun r h => ⟨fun c => ⟨(h c).2.2.1, (h c).2.2.2.1, (h c).2.2.2.2⟩, sem_eq_zero_of_no_sems (by decide) r.2⟩) (Cert.ReferenceIdeal.Value.run (F := Ideal) m ρ)

/-- The frame of the reference of mixer C's convolution. -/
theorem frame2 : Cert.quiescent_Reference2Ideal := fun m ρ _ =>
  (θ_run Cert.Reference2Ideal.defs _ _).mono
    (fun r h => ⟨fun c => ⟨(h c).2.2.2.1, (h c).2.2.2.2.1, (h c).2.2.2.2.2⟩, sem_eq_zero_of_no_sems (by decide) r.2⟩) (Cert.Reference2Ideal.Value.run (F := Ideal) m ρ)

/-- The frame of the reference of the layer's input. -/
theorem frame3 : Cert.quiescent_Reference3Ideal := fun m ρ _ =>
  (θ_run Cert.Reference3Ideal.defs _ _).mono
    (fun r h => ⟨fun c => ⟨(h c).2.2.2.1, (h c).2.2.2.2.1, (h c).2.2.2.2.2.1, (h c).2.2.2.2.2.2.1, (h c).2.2.2.2.2.2.2⟩, sem_eq_zero_of_no_sems (by decide) r.2⟩) (Cert.Reference3Ideal.Value.run (F := Ideal) m ρ)

/-- The frame of the reference of the input projection's weight. -/
theorem frame4 : Cert.quiescent_Reference4Ideal := fun m ρ _ =>
  (θ_run Cert.Reference4Ideal.defs _ _).mono
    (fun r h => ⟨fun c => ⟨(h c).2.1, (h c).2.2⟩, sem_eq_zero_of_no_sems (by decide) r.2⟩) (Cert.Reference4Ideal.Value.run (F := Ideal) m ρ)

/-- The frame of the reference of the recurrence. -/
theorem frame5 : Cert.quiescent_Reference5Ideal := fun m ρ _ =>
  (θ_run Cert.Reference5Ideal.defs _ _).mono
    (fun r h => ⟨fun c => ⟨(h c).2.2.1, (h c).2.2.2.1, (h c).2.2.2.2⟩, sem_eq_zero_of_no_sems (by decide) r.2⟩) (Cert.Reference5Ideal.Value.run (F := Ideal) m ρ)

/-- The frame of the reference of the recurrence's gradient. -/
theorem frame6 : Cert.quiescent_Reference6Ideal := fun m ρ _ =>
  (θ_run Cert.Reference6Ideal.defs _ _).mono
    (fun r h => ⟨fun c => ⟨(h c).2.2.1, (h c).2.2.2.1, (h c).2.2.2.2.1, (h c).2.2.2.2.2⟩, sem_eq_zero_of_no_sems (by decide) r.2⟩) (Cert.Reference6Ideal.Value.run (F := Ideal) m ρ)

/-- The frame of the reference of the input projection. -/
theorem frame7 : Cert.quiescent_Reference7Ideal := fun m ρ _ =>
  (θ_run Cert.Reference7Ideal.defs _ _).mono
    (fun r h => ⟨fun c => ⟨(h c).2.1, (h c).2.2⟩, sem_eq_zero_of_no_sems (by decide) r.2⟩) (Cert.Reference7Ideal.Value.run (F := Ideal) m ρ)

/-- The frame of the reference of the output projection's weight. -/
theorem frame8 : Cert.quiescent_Reference8Ideal := fun m ρ _ =>
  (θ_run Cert.Reference8Ideal.defs _ _).mono
    (fun r h => ⟨fun c => ⟨(h c).2.1, (h c).2.2⟩, sem_eq_zero_of_no_sems (by decide) r.2⟩) (Cert.Reference8Ideal.Value.run (F := Ideal) m ρ)

/-- The frame of the reference of the mixers' outputs. -/
theorem frame9 : Cert.quiescent_Reference9Ideal := fun m ρ _ =>
  (θ_run Cert.Reference9Ideal.defs _ _).mono
    (fun r h => ⟨fun c => ⟨(h c).2.1, (h c).2.2⟩, sem_eq_zero_of_no_sems (by decide) r.2⟩) (Cert.Reference9Ideal.Value.run (F := Ideal) m ρ)

/-- The frame of the reference of the layer norm. -/
theorem frame10 : Cert.quiescent_Reference10Ideal := fun m ρ _ =>
  (θ_run Cert.Reference10Ideal.defs _ _).mono
    (fun r h => ⟨fun c => ⟨(h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩, sem_eq_zero_of_no_sems (by decide) r.2⟩) (Cert.Reference10Ideal.Value.run (F := Ideal) m ρ)

/-- The frame of the reference of the layer norm's gradient. -/
theorem frame11 : Cert.quiescent_Reference11Ideal := fun m ρ _ =>
  (θ_run Cert.Reference11Ideal.defs _ _).mono
    (fun r h => ⟨fun c => ⟨(h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩, sem_eq_zero_of_no_sems (by decide) r.2⟩) (Cert.Reference11Ideal.Value.run (F := Ideal) m ρ)

/-- The frame of the reference of the loss head. -/
theorem frame12 : Cert.quiescent_Reference12Ideal := fun m ρ _ =>
  (θ_run Cert.Reference12Ideal.defs _ _).mono
    (fun r h => ⟨fun c => ⟨(h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩, sem_eq_zero_of_no_sems (by decide) r.2⟩) (Cert.Reference12Ideal.Value.run (F := Ideal) m ρ)

end Cert.Refs
end
-- ==== Proof.LruF.lean ====
module

public import Idealize.ShloMosaic.Lib.Claim
public import proofs.«01_k».proof.Proof.Gen.Kernel5Ideal.Frame
public import proofs.«01_k».proof.Proof.Gen.Kernel5Ideal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body clears the carried row when the block coordinate is zero. -/
abbrev cond0_0 (i : grid0.Coords) : Prop := (Scalar.cmpi .ne (Scalar.extui (Scalar.cmpi .eq (BitVec.ofNat 32 (i 0).val) 0#32)) 0#32) = 1#1

/-- That is at the first grid point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val = 0)

/-- Window 0 is used at every point. -/
theorem liveAt0_0 : ∀ t : Fin cfg0.N, cfg0.idle 0 (grid0.coords t) = false := fun _ => rfl
/-- Window 1 is used at every point. -/
theorem liveAt0_1 : ∀ t : Fin cfg0.N, cfg0.idle 1 (grid0.coords t) = false := fun _ => rfl
/-- Window 2 is used at every point. -/
theorem liveAt0_2 : ∀ t : Fin cfg0.N, cfg0.idle 2 (grid0.coords t) = false := fun _ => rfl
/-- Window 3 is used at every point. -/
theorem liveAt0_3 : ∀ t : Fin cfg0.N, cfg0.idle 3 (grid0.coords t) = false := fun _ => rfl
/-- Window 4 is used at every point. -/
theorem liveAt0_4 : ∀ t : Fin cfg0.N, cfg0.idle 4 (grid0.coords t) = false := fun _ => rfl

/-- A staging buffer of output 3, through which its contents are stated. -/
abbrev VO3 : View sig .tc .vmem S512x512 .f32 := (Memref.whole cc0_stg3_0 : Memref sig .tc .vmem S512x512 .f32).view
/-- A staging buffer of output 4, through which its contents are stated. -/
abbrev VO4 : View sig .tc .vmem S512x512 .bf16 := (Memref.whole cc0_stg4_0 : Memref sig .tc .vmem S512x512 .bf16).view
/-- Window 0's staging buffer at point `t`. -/
abbrev ms0 (t : Fin cfg0.N) : Memref sig .tc .vmem S512x512 .f32 := win0_0.stage (cfg0.slots t 0)
/-- It is a whole buffer. -/
abbrev hs0 (t : Fin cfg0.N) : (ms0 t).IsWhole := hstage0_0 ((cfg0.slots t 0).cast nbuf0_0)
/-- Window 1's staging buffer at point `t`. -/
abbrev ms1 (t : Fin cfg0.N) : Memref sig .tc .vmem S512x512 .f32 := win0_1.stage (cfg0.slots t 1)
/-- It is a whole buffer. -/
abbrev hs1 (t : Fin cfg0.N) : (ms1 t).IsWhole := hstage0_1 ((cfg0.slots t 1).cast nbuf0_1)
/-- Window 2's staging buffer at point `t`. -/
abbrev ms2 (t : Fin cfg0.N) : Memref sig .tc .vmem S512x512 .f32 := win0_2.stage (cfg0.slots t 2)
/-- It is a whole buffer. -/
abbrev hs2 (t : Fin cfg0.N) : (ms2 t).IsWhole := hstage0_2 ((cfg0.slots t 2).cast nbuf0_2)
/-- Window 3's staging buffer at point `t`. -/
abbrev ms3 (t : Fin cfg0.N) : Memref sig .tc .vmem S512x512 .f32 := win0_3.stage (cfg0.slots t 3)
/-- It is a whole buffer. -/
abbrev hs3 (t : Fin cfg0.N) : (ms3 t).IsWhole := hstage0_3 ((cfg0.slots t 3).cast nbuf0_3)
/-- Window 4's staging buffer at point `t`. -/
abbrev ms4 (t : Fin cfg0.N) : Memref sig .tc .vmem S512x512 .bf16 := win0_4.stage (cfg0.slots t 4)
/-- It is a whole buffer. -/
abbrev hs4 (t : Fin cfg0.N) : (ms4 t).IsWhole := hstage0_4 ((cfg0.slots t 4).cast nbuf0_4)
/-- Scratch buffer 0. -/
abbrev scM0 : Memref sig .tc .vmem S1x512 .f32 := Memref.whole cc0_scratch0
/-- Scratch buffer 0 as a view. -/
abbrev VS0 : View sig .tc .vmem S1x512 .f32 := scM0.view

/-- What the launch hands the region: each scratch buffer at some contents and the generator register. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

set_option maxHeartbeats 4000000 in
/-- The body at the first block of a sequence: the carried row is cleared. What its stores leave in
    each output and scratch is found by running it, and the proof of the run comes with it. -/
noncomputable def runA (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x512 .f32) (harg6 : arg6.IsWhole) (hc0 : cond0_0 i)
    (x0 : Vec F S512x512 .f32) (x1 : Vec F S512x512 .f32) (x2 : Vec F S512x512 .f32) :
    Σ' (L3 : List (View.Piece (Elt F) S512x512 .f32)), Σ' (L4 : List (View.Piece (Elt F) S512x512 .bf16)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_lru_scan i arg1 harg1 arg2 harg2 arg3 harg3 arg4 harg4 arg5 harg5 arg6 harg6) K } := by
  refine ⟨?_, ?_, ?_, fun E K => ?run⟩
  case run =>
    simp only [cc0_lru_scan_eq_skeleton]; unfold cc0_lru_scan_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := sl_exact hc0)
    have hcov : ∀ f, runA.sl.v9 c i arg1 harg1 arg2 harg2 arg3 harg3 arg4 harg4 arg5 harg5 arg6 harg6 x0 x1 f = runA.sl.v9 c i arg1 harg1 arg2 harg2 arg3 harg3 arg4 harg4 arg5 harg5 arg6 harg6 x0 x1 arg4.view.junk := fun f => by
      unfold runA.sl.v9
      exact funext fun j => View.read_writes_apply_eq arg4.view f arg4.view _ _ _ (View.cover_of_tiledL _ ![8, 512] (by sl_kernel_rfl) _)
    simp only [hcov]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

set_option maxHeartbeats 4000000 in
/-- The body at a later block: the carried row is what the block before left. What its stores leave in
    each output and scratch is found by running it, and the proof of the run comes with it. -/
noncomputable def runB (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x512 .f32) (harg6 : arg6.IsWhole) (hc0 : ¬cond0_0 i)
    (x0 : Vec F S512x512 .f32) (x1 : Vec F S512x512 .f32) (x2 : Vec F S512x512 .f32) (xs0 : Vec F S1x512 .f32) :
    Σ' (L3 : List (View.Piece (Elt F) S512x512 .f32)), Σ' (L4 : List (View.Piece (Elt F) S512x512 .bf16)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_lru_scan i arg1 harg1 arg2 harg2 arg3 harg3 arg4 harg4 arg5 harg5 arg6 harg6) K } := by
  refine ⟨?_, ?_, ?_, fun E K => ?run⟩
  case run =>
    simp only [cc0_lru_scan_eq_skeleton]; unfold cc0_lru_scan_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := sl_exact hc0)
    have hcov : ∀ f, runB.sl.v9 c i arg1 harg1 arg2 harg2 arg3 harg3 arg4 harg4 arg5 harg5 arg6 harg6 x0 x1 xs0 f = runB.sl.v9 c i arg1 harg1 arg2 harg2 arg3 harg3 arg4 harg4 arg5 harg5 arg6 harg6 x0 x1 xs0 arg4.view.junk := fun f => by
      unfold runB.sl.v9
      exact funext fun j => View.read_writes_apply_eq arg4.view f arg4.view _ _ _ (View.cover_of_tiledL _ ![8, 512] (by sl_kernel_rfl) _)
    simp only [hcov]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-- The stores of case A cover output 3. -/
theorem covA_0 (c : Dev nD) (t : Fin cfg0.N) (h0 : t.val = 0) (x0 : Vec F S512x512 .f32) (x1 : Vec F S512x512 .f32) (x2 : Vec F S512x512 .f32) (y : S512x512.Idx) :
    ∃ pc ∈ (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).1, y ∈ pc.1.set :=
  View.cover_of_tiledL (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).1 ![8, 512] (by sl_kernel_rfl) y

/-- What case A leaves in output 3. -/
def valA_0 (c : Dev nD) (t : Fin cfg0.N) (h0 : t.val = 0) (x0 : Vec F S512x512 .f32) (x1 : Vec F S512x512 .f32) (x2 : Vec F S512x512 .f32) : Vec F S512x512 .f32 :=
  VO3.read (Elt F) (VO3.writes (Elt F) VO3.junk (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).1)

/-- The stores of case A cover output 4. -/
theorem covA_1 (c : Dev nD) (t : Fin cfg0.N) (h0 : t.val = 0) (x0 : Vec F S512x512 .f32) (x1 : Vec F S512x512 .f32) (x2 : Vec F S512x512 .f32) (y : S512x512.Idx) :
    ∃ pc ∈ (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).2.1, y ∈ pc.1.set :=
  View.cover_of_tiledL (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).2.1 S512x512.size (by sl_kernel_rfl) y

/-- What case A leaves in output 4. -/
def valA_1 (c : Dev nD) (t : Fin cfg0.N) (h0 : t.val = 0) (x0 : Vec F S512x512 .f32) (x1 : Vec F S512x512 .f32) (x2 : Vec F S512x512 .f32) : Vec F S512x512 .bf16 :=
  VO4.read (Elt F) (VO4.writes (Elt F) VO4.junk (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).2.1)

/-- The stores of case A cover scratch 0. -/
theorem covA_2 (c : Dev nD) (t : Fin cfg0.N) (h0 : t.val = 0) (x0 : Vec F S512x512 .f32) (x1 : Vec F S512x512 .f32) (x2 : Vec F S512x512 .f32) (y : S1x512.Idx) :
    ∃ pc ∈ (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).2.2.1, y ∈ pc.1.set :=
  View.cover_of_tiledL (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).2.2.1 S1x512.size (by sl_kernel_rfl) y

/-- What case A leaves in scratch 0. -/
def valA_2 (c : Dev nD) (t : Fin cfg0.N) (h0 : t.val = 0) (x0 : Vec F S512x512 .f32) (x1 : Vec F S512x512 .f32) (x2 : Vec F S512x512 .f32) : Vec F S1x512 .f32 :=
  VS0.read (Elt F) (VS0.writes (Elt F) VS0.junk (runA (F := F) c (grid0.coords t) (ms0 t) (hs0 t) (ms1 t) (hs1 t) (ms2 t) (hs2 t) (ms3 t) (hs3 t) (ms4 t) (hs4 t) scM0 (Memref.isWhole_whole _) ((hcond0_0 t).mpr h0) x0 x1 x2).2.2.1)

/-- The stores of case B cover output 3. -/
theorem covB_0 (c : Dev nD) (t : Fin cfg0.N) (h0 : ¬t.val = 0) (x0 : Vec F S512x512 .f32) (x1 : Vec F S512x512 .f32) (x2 : Vec F S512x512 .f32) (xs0 : Vec F S1x512 .f32) (y : S512x512.Idx) :
    ∃ pc ∈ (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).1, y ∈ pc.1.set :=
  View.cover_of_tiledL (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).1 ![8, 512] (by sl_kernel_rfl) y

/-- What case B leaves in output 3. -/
def valB_0 (c : Dev nD) (t : Fin cfg0.N) (h0 : ¬t.val = 0) (x0 : Vec F S512x512 .f32) (x1 : Vec F S512x512 .f32) (x2 : Vec F S512x512 .f32) (xs0 : Vec F S1x512 .f32) : Vec F S512x512 .f32 :=
  VO3.read (Elt F) (VO3.writes (Elt F) VO3.junk (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).1)

/-- The stores of case B cover output 4. -/
theorem covB_1 (c : Dev nD) (t : Fin cfg0.N) (h0 : ¬t.val = 0) (x0 : Vec F S512x512 .f32) (x1 : Vec F S512x512 .f32) (x2 : Vec F S512x512 .f32) (xs0 : Vec F S1x512 .f32) (y : S512x512.Idx) :
    ∃ pc ∈ (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).2.1, y ∈ pc.1.set :=
  View.cover_of_tiledL (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).2.1 S512x512.size (by sl_kernel_rfl) y

/-- What case B leaves in output 4. -/
def valB_1 (c : Dev nD) (t : Fin cfg0.N) (h0 : ¬t.val = 0) (x0 : Vec F S512x512 .f32) (x1 : Vec F S512x512 .f32) (x2 : Vec F S512x512 .f32) (xs0 : Vec F S1x512 .f32) : Vec F S512x512 .bf16 :=
  VO4.read (Elt F) (VO4.writes (Elt F) VO4.junk (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).2.1)

/-- The stores of case B cover scratch 0. -/
theorem covB_2 (c : Dev nD) (t : Fin cfg0.N) (h0 : ¬t.val = 0) (x0 : Vec F S512x512 .f32) (x1 : Vec F S512x512 .f32) (x2 : Vec F S512x512 .f32) (xs0 : Vec F S1x512 .f32) (y : S1x512.Idx) :
    ∃ pc ∈ (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).2.2.1, y ∈ pc.1.set :=
  View.cover_of_tiledL (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).2.2.1 S1x512.size (by sl_kernel_rfl) y

/-- What case B leaves in scratch 0. -/
def valB_2 (c : Dev nD) (t : Fin cfg0.N) (h0 : ¬t.val = 0) (x0 : Vec F S512x512 .f32) (x1 : Vec F S512x512 .f32) (x2 : Vec F S512x512 .f32) (xs0 : Vec F S1x512 .f32) : Vec F S1x512 .f32 :=
  VS0.read (Elt F) (VS0.writes (Elt F) VS0.junk (runB (F := F) c (grid0.coords t) (ms0 t) (hs0 t) (ms1 t) (hs1 t) (ms2 t) (hs2 t) (ms3 t) (hs3 t) (ms4 t) (hs4 t) scM0 (Memref.isWhole_whole _) (fun h => h0 ((hcond0_0 t).mp h)) x0 x1 x2 xs0).2.2.1)

/-- What each point leaves in the outputs and the scratch: the first point's from the inputs' blocks, a later one's from
    its blocks and the row the point before carried over. -/
def outsAt (c : Dev nD) : (n : ℕ) → n < cfg0.N → Vec F S512x512 .f32 × Vec F S512x512 .bf16 × Vec F S1x512 .f32
  | 0, hn => (valA_0 c ⟨0, hn⟩ rfl (iblk m c 0 ⟨0, hn⟩) (iblk m c 1 ⟨0, hn⟩) (iblk m c 2 ⟨0, hn⟩), valA_1 c ⟨0, hn⟩ rfl (iblk m c 0 ⟨0, hn⟩) (iblk m c 1 ⟨0, hn⟩) (iblk m c 2 ⟨0, hn⟩), valA_2 c ⟨0, hn⟩ rfl (iblk m c 0 ⟨0, hn⟩) (iblk m c 1 ⟨0, hn⟩) (iblk m c 2 ⟨0, hn⟩))
  | n + 1, hn => (valB_0 c ⟨n + 1, hn⟩ (Nat.succ_ne_zero n) (iblk m c 0 ⟨n + 1, hn⟩) (iblk m c 1 ⟨n + 1, hn⟩) (iblk m c 2 ⟨n + 1, hn⟩) (outsAt c n (Nat.lt_of_succ_lt hn)).2.2, valB_1 c ⟨n + 1, hn⟩ (Nat.succ_ne_zero n) (iblk m c 0 ⟨n + 1, hn⟩) (iblk m c 1 ⟨n + 1, hn⟩) (iblk m c 2 ⟨n + 1, hn⟩) (outsAt c n (Nat.lt_of_succ_lt hn)).2.2, valB_2 c ⟨n + 1, hn⟩ (Nat.succ_ne_zero n) (iblk m c 0 ⟨n + 1, hn⟩) (iblk m c 1 ⟨n + 1, hn⟩) (iblk m c 2 ⟨n + 1, hn⟩) (outsAt c n (Nat.lt_of_succ_lt hn)).2.2)

/-- `outsAt` at the first point. -/
theorem outsAt_A (c : Dev nD) (t : Fin cfg0.N) (h0 : t.val = 0) :
    outsAt m c t.val t.isLt = (valA_0 c t h0 (iblk m c 0 t) (iblk m c 1 t) (iblk m c 2 t), valA_1 c t h0 (iblk m c 0 t) (iblk m c 1 t) (iblk m c 2 t), valA_2 c t h0 (iblk m c 0 t) (iblk m c 1 t) (iblk m c 2 t)) := by
  obtain ⟨n, hn⟩ := t
  cases n with
  | zero => rfl
  | succ n => exact absurd h0 (Nat.succ_ne_zero n)

/-- `outsAt` at a later point. -/
theorem outsAt_B (c : Dev nD) (t : Fin cfg0.N) (h0 : ¬t.val = 0) :
    outsAt m c t.val t.isLt = (valB_0 c t h0 (iblk m c 0 t) (iblk m c 1 t) (iblk m c 2 t) (outsAt m c (t.val - 1) (Nat.lt_of_le_of_lt (Nat.sub_le _ _) t.isLt)).2.2, valB_1 c t h0 (iblk m c 0 t) (iblk m c 1 t) (iblk m c 2 t) (outsAt m c (t.val - 1) (Nat.lt_of_le_of_lt (Nat.sub_le _ _) t.isLt)).2.2, valB_2 c t h0 (iblk m c 0 t) (iblk m c 1 t) (iblk m c 2 t) (outsAt m c (t.val - 1) (Nat.lt_of_le_of_lt (Nat.sub_le _ _) t.isLt)).2.2) := by
  obtain ⟨n, hn⟩ := t
  cases n with
  | zero => exact absurd rfl h0
  | succ n => rfl

/-- The invariant before position `n`: before the first point every scratch buffer at anything; afterwards the carried
    row at what the point before left. -/
def PhiS (c : Dev nD) : (n : ℕ) → n ≤ cfg0.N → sProp 𝕄
  | 0, _ => Pipeline.ΦA spec0 c
  | n + 1, hn => iprop(iprop(owns (c : Thread nD τ) scM0 fullShare (outsAt m c n hn).2.2) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop(owns (c : Thread nD τ) scM0 fullShare (outsAt m c n hn).2.2) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0 fullShare (outsAt m c (n - 1) (by omega)).2.2) ∗ (∃ r, prngReg c r)) := by
  cases n with
  | zero => exact absurd rfl hz
  | succ n => rfl

/-- The proof data of the one pipeline: the inputs' buffers keep their blocks, the outputs' are `outsAt`'s. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = (outsAt m c t.val t.isLt).1 := by dsimp only [dats]
/-- What the body leaves in window 4. -/
theorem after0_4 (c : Dev nD) (t : Fin cfg0.N) : (dats m 0 c).after 4 t = (outsAt m c t.val t.isLt).2.1 := by dsimp only [dats]
/-- Input window 0 holds its block at every point. -/
theorem before0_0 (c : Dev nD) (t : Fin cfg0.N) (d) : (dats m 0 c).before 0 t d = iblk m c 0 t :=
  before0_0_of m (dats m 0 c) (A_eq m c 0) (after0_0 m c) t d
/-- Input window 1 holds its block at every point. -/
theorem before0_1 (c : Dev nD) (t : Fin cfg0.N) (d) : (dats m 0 c).before 1 t d = iblk m c 1 t :=
  before0_1_of m (dats m 0 c) (A_eq m c 1) (after0_1 m c) t d
/-- Input window 2 holds its block at every point. -/
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 12800000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [show (dats m 0 c).leavesExact 4 t = owns (c : Thread nD τ) (ms4 t) fullShare ((dats m 0 c).after 4 t) from by
    unfold Dat.leavesExact; rw [liveAt0_4 t], after0_4]
  by_cases h0 : t.val = 0
  · rw [PhiS_castSucc m c t, PhiS_zero m c _ _ h0, PhiA0_eq]
    rw [outsAt_A m c t h0]
    unfold valA_0 valA_1 valA_2; (try dsimp only)
    iintro ⟨⟨HS0, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%eH3, H3⟩, ⟨%eH4, H4⟩, ⟨%eHS0, HS0⟩⟩
    isplitl [HS0 Hg]
    · isplitl [HS0]
      · unfold owns; iexists _; isplitr
        swap; · iexact HS0
        ipureintro; exact View.read_writes_of_cover _ _ _ _ _ (covA_2 c t h0 _ _ _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (covA_0 c t h0 _ _ _)
    unfold owns; iexists _; isplitr
    swap; · iexact H4
    ipureintro; exact View.read_writes_of_cover _ _ _ _ _ (covA_1 c t h0 _ _ _)
  · rw [PhiS_castSucc m c t, PhiS_pos m c _ _ h0]
    rw [outsAt_B m c t h0]
    unfold valB_0 valB_1 valB_2; (try dsimp only)
    iintro ⟨⟨HS0, Hg⟩, Ho, ⟨%d0, H0⟩, ⟨%d1, H1⟩, ⟨%d2, H2⟩, ⟨%d3, H3⟩, ⟨%d4, H4⟩⟩
    iapply ((runB c (grid0.coords t) _ _ _ _ _ _ _ _ _ _ _ _ (fun h => h0 ((hcond0_0 t).mp h)) (iblk m c 0 t) (iblk m c 1 t) (iblk m c 2 t) _).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%eH3, H3⟩, ⟨%eH4, H4⟩, ⟨%eHS0, HS0⟩⟩
    isplitl [HS0 Hg]
    · isplitl [HS0]
      · unfold owns; iexists _; isplitr
        swap; · iexact HS0
        ipureintro; exact View.read_writes_of_cover _ _ _ _ _ (covB_2 c t h0 _ _ _ _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (covB_0 c t h0 _ _ _ _)
    unfold owns; iexists _; isplitr
    swap; · iexact H4
    ipureintro; exact View.read_writes_of_cover _ _ _ _ _ (covB_1 c t h0 _ _ _ _)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 16 := N_0; omega), PhiA0_eq]
  iintro ⟨HS0, Hg⟩
  isplitl [HS0]
  · iexists _; iexact HS0
  iexact Hg

set_option backward.isDefEq.respectTransparency.types false in
/-- The launch: every execution terminates, the arrays end as the proof data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every execution terminates, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Idealize.ShloMosaic.θ_run_and (unchanged m ρ) ((θ_run defs _ _).mono (fun _ h => h.2) (run_main_quiescent m ρ))

end Cert.Kernel5Ideal.Lru

end
-- ==== Proof.LruB.lean ====
module

public import Idealize.ShloMosaic.Lib.Claim
public import proofs.«01_k».proof.Proof.Gen.Kernel6Ideal.Frame
public import proofs.«01_k».proof.Proof.Gen.Kernel6Ideal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel6Ideal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body clears the carried row when the block coordinate is zero. -/
abbrev cond0_0 (i : grid0.Coords) : Prop := (Scalar.cmpi .ne (Scalar.extui (Scalar.cmpi .eq (BitVec.ofNat 32 (i 0).val) 0#32)) 0#32) = 1#1

/-- That is at the first grid point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val = 0)

/-- Window 0 is used at every point. -/
theorem liveAt0_0 : ∀ t : Fin cfg0.N, cfg0.idle 0 (grid0.coords t) = false := fun _ => rfl
/-- Window 1 is used at every point. -/
theorem liveAt0_1 : ∀ t : Fin cfg0.N, cfg0.idle 1 (grid0.coords t) = false := fun _ => rfl
/-- Window 2 is used at every point. -/
theorem liveAt0_2 : ∀ t : Fin cfg0.N, cfg0.idle 2 (grid0.coords t) = false := fun _ => rfl
/-- Window 3 is used at every point. -/
theorem liveAt0_3 : ∀ t : Fin cfg0.N, cfg0.idle 3 (grid0.coords t) = false := fun _ => rfl
/-- Window 4 is used at every point. -/
theorem liveAt0_4 : ∀ t : Fin cfg0.N, cfg0.idle 4 (grid0.coords t) = false := fun _ => rfl
/-- Window 5 is used at every point. -/
theorem liveAt0_5 : ∀ t : Fin cfg0.N, cfg0.idle 5 (grid0.coords t) = false := fun _ => rfl

/-- A staging buffer of output 4, through which its contents are stated. -/
abbrev VO4 : View sig .tc .vmem S512x512 .f32 := (Memref.whole cc0_stg4_0 : Memref sig .tc .vmem S512x512 .f32).view
/-- A staging buffer of output 5, through which its contents are stated. -/
abbrev VO5 : View sig .tc .vmem S512x512 .bf16 := (Memref.whole cc0_stg5_0 : Memref sig .tc .vmem S512x512 .bf16).view
/-- Window 0's staging buffer at point `t`. -/
abbrev ms0 (t : Fin cfg0.N) : Memref sig .tc .vmem S512x512 .f32 := win0_0.stage (cfg0.slots t 0)
/-- It is a whole buffer. -/
abbrev hs0 (t : Fin cfg0.N) : (ms0 t).IsWhole := hstage0_0 ((cfg0.slots t 0).cast nbuf0_0)
/-- Window 1's staging buffer at point `t`. -/
abbrev ms1 (t : Fin cfg0.N) : Memref sig .tc .vmem S512x512 .f32 := win0_1.stage (cfg0.slots t 1)
/-- It is a whole buffer. -/
abbrev hs1 (t : Fin cfg0.N) : (ms1 t).IsWhole := hstage0_1 ((cfg0.slots t 1).cast nbuf0_1)
/-- Window 2's staging buffer at point `t`. -/
abbrev ms2 (t : Fin cfg0.N) : Memref sig .tc .vmem S512x512 .f32 := win0_2.stage (cfg0.slots t 2)
/-- It is a whole buffer. -/
abbrev hs2 (t : Fin cfg0.N) : (ms2 t).IsWhole := hstage0_2 ((cfg0.slots t 2).cast nbuf0_2)
/-- Window 3's staging buffer at point `t`. -/
abbrev ms3 (t : Fin cfg0.N) : Memref sig .tc .vmem S512x512 .f32 := win0_3.stage (cfg0.slots t 3)
/-- It is a whole buffer. -/
abbrev hs3 (t : Fin cfg0.N) : (ms3 t).IsWhole := hstage0_3 ((cfg0.slots t 3).cast nbuf0_3)
/-- Window 4's staging buffer at point `t`. -/
abbrev ms4 (t : Fin cfg0.N) : Memref sig .tc .vmem S512x512 .f32 := win0_4.stage (cfg0.slots t 4)
/-- It is a whole buffer. -/
abbrev hs4 (t : Fin cfg0.N) : (ms4 t).IsWhole := hstage0_4 ((cfg0.slots t 4).cast nbuf0_4)
/-- Window 5's staging buffer at point `t`. -/
abbrev ms5 (t : Fin cfg0.N) : Memref sig .tc .vmem S512x512 .bf16 := win0_5.stage (cfg0.slots t 5)
/-- It is a whole buffer. -/
abbrev hs5 (t : Fin cfg0.N) : (ms5 t).IsWhole := hstage0_5 ((cfg0.slots t 5).cast nbuf0_5)
/-- Scratch buffer 0. -/
abbrev scM0 : Memref sig .tc .vmem S1x512 .f32 := Memref.whole cc0_scratch0
/-- Scratch buffer 0 as a view. -/
abbrev VS0 : View sig .tc .vmem S1x512 .f32 := scM0.view
/-- Scratch buffer 1. -/
abbrev scM1 : Memref sig .tc .vmem S512x512 .f32 := Memref.whole cc0_scratch1
/-- Scratch buffer 1 as a view. -/
abbrev VS1 : View sig .tc .vmem S512x512 .f32 := scM1.view

/-- What the launch hands the region: each scratch buffer at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

set_option maxHeartbeats 4000000 in
/-- The body at the first block of a sequence: the carried row is cleared. What its stores leave in
    each output and scratch is found by running it, and the proof of the run comes with it. -/
noncomputable def runA (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (hc0 : cond0_0 i)
    (x0 : Vec F S512x512 .f32) (x1 : Vec F S512x512 .f32) (x2 : Vec F S512x512 .f32) (x3 : Vec F S512x512 .f32) :
    Σ' (L4 : List (View.Piece (Elt F) S512x512 .f32)), Σ' (L5 : List (View.Piece (Elt F) S512x512 .bf16)), Σ' (LS0 : List (View.Piece (Elt F) S1x512 .f32)), { LS1 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_lru_scan_bwd i arg1 harg1 arg2 harg2 arg3 harg3 arg4 harg4 arg5 harg5 arg6 harg6 arg7 harg7 arg8 harg8) K } := by
  refine ⟨?_, ?_, ?_, ?_, fun E K => ?run⟩
  case run =>
    simp only [cc0_lru_scan_bwd_eq_skeleton]; unfold cc0_lru_scan_bwd_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := sl_exact hc0)
    simp only [Idealize.SL.Sem.Prog.bind_assoc, Idealize.SL.Sem.Prog.pure_eq_ret, Idealize.SL.Sem.Prog.bind_ret]
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

set_option maxHeartbeats 4000000 in
/-- The body at a later block: the carried row is what the block before left. What its stores leave in
    each output and scratch is found by running it, and the proof of the run comes with it. -/
noncomputable def runB (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (hc0 : ¬cond0_0 i)
    (x0 : Vec F S512x512 .f32) (x1 : Vec F S512x512 .f32) (x2 : Vec F S512x512 .f32) (x3 : Vec F S512x512 .f32) (xs0 : Vec F S1x512 .f32) :
    Σ' (L4 : List (View.Piece (Elt F) S512x512 .f32)), Σ' (L5 : List (View.Piece (Elt F) S512x512 .bf16)), Σ' (LS0 : List (View.Piece (Elt F) S1x512 .f32)), { LS1 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_lru_scan_bwd i arg1 harg1 arg2 harg2 arg3 harg3 arg4 harg4 arg5 harg5 arg6 harg6 arg7 harg7 arg8 harg8) K } := by
  refine ⟨?_, ?_, ?_, ?_, fun E K => ?run⟩
  case run =>
    simp only [cc0_lru_scan_bwd_eq_skeleton]; unfold cc0_lru_scan_bwd_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hfs0
    sl_exec (disch := sl_exact hc0)
    simp only [Idealize.SL.Sem.Prog.bind_assoc, Idealize.SL.Sem.Prog.pure_eq_ret, Idealize.SL.Sem.Prog.bind_ret]
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

/-- The stores of case A cover output 4. -/
theorem covA_0 (c : Dev nD) (t : Fin cfg0.N) (h0 : t.val = 0) (x0 : Vec F S512x512 .f32) (x1 : Vec F S512x512 .f32) (x2 : Vec F S512x512 .f32) (x3 : Vec F S512x512 .f32) (y : S512x512.Idx) :
    ∃ pc ∈ (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).1, y ∈ pc.1.set :=
  View.cover_of_tiledL (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).1 ![8, 512] (by sl_kernel_rfl) y

/-- What case A leaves in output 4. -/
def valA_0 (c : Dev nD) (t : Fin cfg0.N) (h0 : t.val = 0) (x0 : Vec F S512x512 .f32) (x1 : Vec F S512x512 .f32) (x2 : Vec F S512x512 .f32) (x3 : Vec F S512x512 .f32) : Vec F S512x512 .f32 :=
  VO4.read (Elt F) (VO4.writes (Elt F) VO4.junk (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).1)

/-- The stores of case A cover output 5. -/
theorem covA_1 (c : Dev nD) (t : Fin cfg0.N) (h0 : t.val = 0) (x0 : Vec F S512x512 .f32) (x1 : Vec F S512x512 .f32) (x2 : Vec F S512x512 .f32) (x3 : Vec F S512x512 .f32) (y : S512x512.Idx) :
    ∃ pc ∈ (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.1, y ∈ pc.1.set :=
  View.cover_of_tiledL (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.1 S512x512.size (by sl_kernel_rfl) y

/-- What case A leaves in output 5. -/
def valA_1 (c : Dev nD) (t : Fin cfg0.N) (h0 : t.val = 0) (x0 : Vec F S512x512 .f32) (x1 : Vec F S512x512 .f32) (x2 : Vec F S512x512 .f32) (x3 : Vec F S512x512 .f32) : Vec F S512x512 .bf16 :=
  VO5.read (Elt F) (VO5.writes (Elt F) VO5.junk (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.1)

/-- The stores of case A cover scratch 0. -/
theorem covA_2 (c : Dev nD) (t : Fin cfg0.N) (h0 : t.val = 0) (x0 : Vec F S512x512 .f32) (x1 : Vec F S512x512 .f32) (x2 : Vec F S512x512 .f32) (x3 : Vec F S512x512 .f32) (y : S1x512.Idx) :
    ∃ pc ∈ (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.2.1, y ∈ pc.1.set :=
  View.cover_of_tiledL (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.2.1 S1x512.size (by sl_kernel_rfl) y

/-- What case A leaves in scratch 0. -/
def valA_2 (c : Dev nD) (t : Fin cfg0.N) (h0 : t.val = 0) (x0 : Vec F S512x512 .f32) (x1 : Vec F S512x512 .f32) (x2 : Vec F S512x512 .f32) (x3 : Vec F S512x512 .f32) : Vec F S1x512 .f32 :=
  VS0.read (Elt F) (VS0.writes (Elt F) VS0.junk (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.2.1)

/-- The stores of case A cover scratch 1. -/
theorem covA_3 (c : Dev nD) (t : Fin cfg0.N) (h0 : t.val = 0) (x0 : Vec F S512x512 .f32) (x1 : Vec F S512x512 .f32) (x2 : Vec F S512x512 .f32) (x3 : Vec F S512x512 .f32) (y : S512x512.Idx) :
    ∃ pc ∈ (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.2.2.1, y ∈ pc.1.set :=
  View.cover_of_tiledL (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.2.2.1 S512x512.size (by sl_kernel_rfl) y

/-- What case A leaves in scratch 1. -/
def valA_3 (c : Dev nD) (t : Fin cfg0.N) (h0 : t.val = 0) (x0 : Vec F S512x512 .f32) (x1 : Vec F S512x512 .f32) (x2 : Vec F S512x512 .f32) (x3 : Vec F S512x512 .f32) : Vec F S512x512 .f32 :=
  VS1.read (Elt F) (VS1.writes (Elt F) VS1.junk (runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) x0 x1 x2 x3).2.2.2.1)

/-- The stores of case B cover output 4. -/
theorem covB_0 (c : Dev nD) (t : Fin cfg0.N) (h0 : ¬t.val = 0) (x0 : Vec F S512x512 .f32) (x1 : Vec F S512x512 .f32) (x2 : Vec F S512x512 .f32) (x3 : Vec F S512x512 .f32) (xs0 : Vec F S1x512 .f32) (y : S512x512.Idx) :
    ∃ pc ∈ (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).1, y ∈ pc.1.set :=
  View.cover_of_tiledL (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).1 ![8, 512] (by sl_kernel_rfl) y

/-- What case B leaves in output 4. -/
def valB_0 (c : Dev nD) (t : Fin cfg0.N) (h0 : ¬t.val = 0) (x0 : Vec F S512x512 .f32) (x1 : Vec F S512x512 .f32) (x2 : Vec F S512x512 .f32) (x3 : Vec F S512x512 .f32) (xs0 : Vec F S1x512 .f32) : Vec F S512x512 .f32 :=
  VO4.read (Elt F) (VO4.writes (Elt F) VO4.junk (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).1)

/-- The stores of case B cover output 5. -/
theorem covB_1 (c : Dev nD) (t : Fin cfg0.N) (h0 : ¬t.val = 0) (x0 : Vec F S512x512 .f32) (x1 : Vec F S512x512 .f32) (x2 : Vec F S512x512 .f32) (x3 : Vec F S512x512 .f32) (xs0 : Vec F S1x512 .f32) (y : S512x512.Idx) :
    ∃ pc ∈ (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.1, y ∈ pc.1.set :=
  View.cover_of_tiledL (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.1 S512x512.size (by sl_kernel_rfl) y

/-- What case B leaves in output 5. -/
def valB_1 (c : Dev nD) (t : Fin cfg0.N) (h0 : ¬t.val = 0) (x0 : Vec F S512x512 .f32) (x1 : Vec F S512x512 .f32) (x2 : Vec F S512x512 .f32) (x3 : Vec F S512x512 .f32) (xs0 : Vec F S1x512 .f32) : Vec F S512x512 .bf16 :=
  VO5.read (Elt F) (VO5.writes (Elt F) VO5.junk (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.1)

/-- The stores of case B cover scratch 0. -/
theorem covB_2 (c : Dev nD) (t : Fin cfg0.N) (h0 : ¬t.val = 0) (x0 : Vec F S512x512 .f32) (x1 : Vec F S512x512 .f32) (x2 : Vec F S512x512 .f32) (x3 : Vec F S512x512 .f32) (xs0 : Vec F S1x512 .f32) (y : S1x512.Idx) :
    ∃ pc ∈ (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.2.1, y ∈ pc.1.set :=
  View.cover_of_tiledL (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.2.1 S1x512.size (by sl_kernel_rfl) y

/-- What case B leaves in scratch 0. -/
def valB_2 (c : Dev nD) (t : Fin cfg0.N) (h0 : ¬t.val = 0) (x0 : Vec F S512x512 .f32) (x1 : Vec F S512x512 .f32) (x2 : Vec F S512x512 .f32) (x3 : Vec F S512x512 .f32) (xs0 : Vec F S1x512 .f32) : Vec F S1x512 .f32 :=
  VS0.read (Elt F) (VS0.writes (Elt F) VS0.junk (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.2.1)

/-- The stores of case B cover scratch 1. -/
theorem covB_3 (c : Dev nD) (t : Fin cfg0.N) (h0 : ¬t.val = 0) (x0 : Vec F S512x512 .f32) (x1 : Vec F S512x512 .f32) (x2 : Vec F S512x512 .f32) (x3 : Vec F S512x512 .f32) (xs0 : Vec F S1x512 .f32) (y : S512x512.Idx) :
    ∃ pc ∈ (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.2.2.1, y ∈ pc.1.set :=
  View.cover_of_tiledL (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.2.2.1 S512x512.size (by sl_kernel_rfl) y

/-- What case B leaves in scratch 1. -/
def valB_3 (c : Dev nD) (t : Fin cfg0.N) (h0 : ¬t.val = 0) (x0 : Vec F S512x512 .f32) (x1 : Vec F S512x512 .f32) (x2 : Vec F S512x512 .f32) (x3 : Vec F S512x512 .f32) (xs0 : Vec F S1x512 .f32) : Vec F S512x512 .f32 :=
  VS1.read (Elt F) (VS1.writes (Elt F) VS1.junk (runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) x0 x1 x2 x3 xs0).2.2.2.1)

/-- What each point leaves in the outputs and the scratch: the first point's from the inputs' blocks, a later one's from
    its blocks and the row the point before carried over. -/
def outsAt (c : Dev nD) : (n : ℕ) → n < cfg0.N → Vec F S512x512 .f32 × Vec F S512x512 .bf16 × Vec F S1x512 .f32 × Vec F S512x512 .f32
  | 0, hn => (valA_0 c ⟨0, hn⟩ rfl (iblk m c 0 ⟨0, hn⟩) (iblk m c 1 ⟨0, hn⟩) (iblk m c 2 ⟨0, hn⟩) (iblk m c 3 ⟨0, hn⟩), valA_1 c ⟨0, hn⟩ rfl (iblk m c 0 ⟨0, hn⟩) (iblk m c 1 ⟨0, hn⟩) (iblk m c 2 ⟨0, hn⟩) (iblk m c 3 ⟨0, hn⟩), valA_2 c ⟨0, hn⟩ rfl (iblk m c 0 ⟨0, hn⟩) (iblk m c 1 ⟨0, hn⟩) (iblk m c 2 ⟨0, hn⟩) (iblk m c 3 ⟨0, hn⟩), valA_3 c ⟨0, hn⟩ rfl (iblk m c 0 ⟨0, hn⟩) (iblk m c 1 ⟨0, hn⟩) (iblk m c 2 ⟨0, hn⟩) (iblk m c 3 ⟨0, hn⟩))
  | n + 1, hn => (valB_0 c ⟨n + 1, hn⟩ (Nat.succ_ne_zero n) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1, valB_1 c ⟨n + 1, hn⟩ (Nat.succ_ne_zero n) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1, valB_2 c ⟨n + 1, hn⟩ (Nat.succ_ne_zero n) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1, valB_3 c ⟨n + 1, hn⟩ (Nat.succ_ne_zero n) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1)

/-- `outsAt` at the first point. -/
theorem outsAt_A (c : Dev nD) (t : Fin cfg0.N) (h0 : t.val = 0) :
    outsAt m c t.val t.isLt = (valA_0 c t h0 (iblk m c 0 t) (iblk m c 1 t) (iblk m c 2 t) (iblk m c 3 t), valA_1 c t h0 (iblk m c 0 t) (iblk m c 1 t) (iblk m c 2 t) (iblk m c 3 t), valA_2 c t h0 (iblk m c 0 t) (iblk m c 1 t) (iblk m c 2 t) (iblk m c 3 t), valA_3 c t h0 (iblk m c 0 t) (iblk m c 1 t) (iblk m c 2 t) (iblk m c 3 t)) := by
  obtain ⟨n, hn⟩ := t
  cases n with
  | zero => rfl
  | succ n => exact absurd h0 (Nat.succ_ne_zero n)

/-- `outsAt` at a later point. -/
theorem outsAt_B (c : Dev nD) (t : Fin cfg0.N) (h0 : ¬t.val = 0) :
    outsAt m c t.val t.isLt = (valB_0 c t h0 (iblk m c 0 t) (iblk m c 1 t) (iblk m c 2 t) (iblk m c 3 t) (outsAt m c (t.val - 1) (Nat.lt_of_le_of_lt (Nat.sub_le _ _) t.isLt)).2.2.1, valB_1 c t h0 (iblk m c 0 t) (iblk m c 1 t) (iblk m c 2 t) (iblk m c 3 t) (outsAt m c (t.val - 1) (Nat.lt_of_le_of_lt (Nat.sub_le _ _) t.isLt)).2.2.1, valB_2 c t h0 (iblk m c 0 t) (iblk m c 1 t) (iblk m c 2 t) (iblk m c 3 t) (outsAt m c (t.val - 1) (Nat.lt_of_le_of_lt (Nat.sub_le _ _) t.isLt)).2.2.1, valB_3 c t h0 (iblk m c 0 t) (iblk m c 1 t) (iblk m c 2 t) (iblk m c 3 t) (outsAt m c (t.val - 1) (Nat.lt_of_le_of_lt (Nat.sub_le _ _) t.isLt)).2.2.1) := by
  obtain ⟨n, hn⟩ := t
  cases n with
  | zero => exact absurd rfl h0
  | succ n => rfl

/-- The invariant before position `n`: before the first point every scratch buffer at anything; afterwards the carried
    row at what the point before left. -/
def PhiS (c : Dev nD) : (n : ℕ) → n ≤ cfg0.N → sProp 𝕄
  | 0, _ => Pipeline.ΦA spec0 c
  | n + 1, hn => iprop(iprop(owns (c : Thread nD τ) scM0 fullShare (outsAt m c n hn).2.2.1 ∗ (∃ d, owns (c : Thread nD τ) scM1 fullShare d)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop(owns (c : Thread nD τ) scM0 fullShare (outsAt m c n hn).2.2.1 ∗ (∃ d, owns (c : Thread nD τ) scM1 fullShare d)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0 fullShare (outsAt m c (n - 1) (by omega)).2.2.1 ∗ (∃ d, owns (c : Thread nD τ) scM1 fullShare d)) ∗ (∃ r, prngReg c r)) := by
  cases n with
  | zero => exact absurd rfl hz
  | succ n => rfl

/-- The proof data of the one pipeline: the inputs' buffers keep their blocks, the outputs' are `outsAt`'s. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = (outsAt m c t.val t.isLt).1 := by dsimp only [dats]
/-- What the body leaves in window 5. -/
theorem after0_5 (c : Dev nD) (t : Fin cfg0.N) : (dats m 0 c).after 5 t = (outsAt m c t.val t.isLt).2.1 := by dsimp only [dats]
/-- Input window 0 holds its block at every point. -/
theorem before0_0 (c : Dev nD) (t : Fin cfg0.N) (d) : (dats m 0 c).before 0 t d = iblk m c 0 t :=
  before0_0_of m (dats m 0 c) (A_eq m c 0) (after0_0 m c) t d
/-- Input window 1 holds its block at every point. -/
theorem before0_1 (c : Dev nD) (t : Fin cfg0.N) (d) : (dats m 0 c).before 1 t d = iblk m c 1 t :=
  before0_1_of m (dats m 0 c) (A_eq m c 1) (after0_1 m c) t d
/-- Input window 2 holds its block at every point. -/
theorem before0_2 (c : Dev nD) (t : Fin cfg0.N) (d) : (dats m 0 c).before 2 t d = iblk m c 2 t :=
  before0_2_of m (dats m 0 c) (A_eq m c 2) (after0_2 m c) t d
/-- Input window 3 holds its block at every point. -/
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

set_option maxHeartbeats 12800000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [show (dats m 0 c).leavesExact 4 t = owns (c : Thread nD τ) (ms4 t) fullShare ((dats m 0 c).after 4 t) from by
    unfold Dat.leavesExact; rw [liveAt0_4 t], after0_4]
  rw [show (dats m 0 c).leavesExact 5 t = owns (c : Thread nD τ) (ms5 t) fullShare ((dats m 0 c).after 5 t) from by
    unfold Dat.leavesExact; rw [liveAt0_5 t], after0_5]
  by_cases h0 : t.val = 0
  · rw [PhiS_castSucc m c t, PhiS_zero m c _ _ h0, PhiA0_eq]
    rw [outsAt_A m c t h0]
    unfold valA_0 valA_1 valA_2; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ _ _ ((hcond0_0 t).mpr h0) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%eH4, H4⟩, ⟨%eH5, H5⟩, ⟨%eHS0, HS0⟩, ⟨%eHS1, HS1⟩⟩
    isplitl [HS0 HS1 Hg]
    · isplitl [HS0 HS1]
      · isplitl [HS0]
        · unfold owns; iexists _; isplitr
          swap; · iexact HS0
          ipureintro; exact View.read_writes_of_cover _ _ _ _ _ (covA_2 c t h0 _ _ _ _)
        unfold owns; iexists _; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (covA_0 c t h0 _ _ _ _)
    unfold owns; iexists _; isplitr
    swap; · iexact H5
    ipureintro; exact View.read_writes_of_cover _ _ _ _ _ (covA_1 c t h0 _ _ _ _)
  · rw [PhiS_castSucc m c t, PhiS_pos m c _ _ h0]
    rw [outsAt_B m c t h0]
    unfold valB_0 valB_1 valB_2; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ _ _ (fun h => h0 ((hcond0_0 t).mp h)) (iblk m c 0 t) (iblk m c 1 t) (iblk m c 2 t) (iblk m c 3 t) _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%eH4, H4⟩, ⟨%eH5, H5⟩, ⟨%eHS0, HS0⟩, ⟨%eHS1, HS1⟩⟩
    isplitl [HS0 HS1 Hg]
    · isplitl [HS0 HS1]
      · isplitl [HS0]
        · unfold owns; iexists _; isplitr
          swap; · iexact HS0
          ipureintro; exact View.read_writes_of_cover _ _ _ _ _ (covB_2 c t h0 _ _ _ _ _)
        unfold owns; iexists _; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (covB_0 c t h0 _ _ _ _ _)
    unfold owns; iexists _; isplitr
    swap; · iexact H5
    ipureintro; exact View.read_writes_of_cover _ _ _ _ _ (covB_1 c t h0 _ _ _ _ _)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 16 := N_0; omega), PhiA0_eq]
  iintro ⟨⟨HS0, HS1⟩, Hg⟩
  isplitl [HS0 HS1]
  · isplitl [HS0]
    · iexists _; iexact HS0
    iexact HS1
  iexact Hg

set_option backward.isDefEq.respectTransparency.types false in
/-- The launch: every execution terminates, the arrays end as the proof data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution terminates, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Idealize.ShloMosaic.θ_run_and (unchanged m ρ) ((θ_run defs _ _).mono (fun _ h => h.2) (run_main_quiescent m ρ))

end Cert.Kernel6Ideal.Lru

end
-- ==== Proof.LruFrame.lean ====
module

public import proofs.«01_k».proof.Defs
public import proofs.«01_k».proof.Proof.Gen.Kernel5
public import proofs.«01_k».proof.Proof.Gen.Kernel6
public import proofs.«01_k».proof.Proof.LruF
public import proofs.«01_k».proof.Proof.LruB

/-! The frames of the recurrence's two kernels on the chip's numbers: each is the run of the kernel's idealization, which holds over
any numbers and is the same program. -/

@[expose] public section

set_option maxRecDepth 65536

noncomputable section

namespace Cert.LruFrame

open Idealize.ShloMosaic Idealize.SL.Sem

/-- The two programs of the recurrence have one table of kernel bodies. -/
theorem bodies5 : Cert.Kernel5.defs₀ (F := Bits) = Cert.Kernel5Ideal.defs₀ (F := Bits) :=
  congrArg Defs.onTc (by
    funext l a
    match l, a with
    | 0, (t, s) => rfl)

/-- The two programs of the recurrence have one table of bodies. -/
theorem defs5 : Cert.Kernel5.defs (F := Bits) = Cert.Kernel5Ideal.defs (F := Bits) :=
  congrArg (Pipeline.defs Cert.Kernel5.pcfgs) bodies5

/-- The frame of the kernel of the recurrence. -/
theorem frame5 : Cert.quiescent_Kernel5 := fun m ρ _ => by
  rw [defs5]
  exact Cert.Kernel5Ideal.Lru.frame (F := Bits) m ρ

/-- The two programs of the recurrence's gradient have one table of kernel bodies. -/
theorem bodies6 : Cert.Kernel6.defs₀ (F := Bits) = Cert.Kernel6Ideal.defs₀ (F := Bits) :=
  congrArg Defs.onTc (by
    funext l a
    match l, a with
    | 0, (t, s) => rfl)

/-- The two programs of the recurrence's gradient have one table of bodies. -/
theorem defs6 : Cert.Kernel6.defs (F := Bits) = Cert.Kernel6Ideal.defs (F := Bits) :=
  congrArg (Pipeline.defs Cert.Kernel6.pcfgs) bodies6

/-- The frame of the kernel of the recurrence's gradient. -/
theorem frame6 : Cert.quiescent_Kernel6 := fun m ρ _ => by
  rw [defs6]
  exact Cert.Kernel6Ideal.Lru.frame (F := Bits) m ρ

end Cert.LruFrame
end
-- ==== Proof.Common.lean ====
module

public import Idealize.ShloMosaic.Lib.Pipeline.ValueKit
public import Idealize.ShloMosaic.Lib.Pipeline.ReadBack
public import Idealize.ShloMosaic.Lib.ValueIdx
public import Idealize.ShloMosaic.PureOps.Ideal.Laws

/-!
Reading a matrix at two natural numbers, and sums over blocks of rows.

Every value statement of this proof reads its arrays through `rd`: the element in row `r` and column `c`, and zero
outside the matrix. Then a block of a matrix and the matrix itself are compared by an equation between numbers.
-/

@[expose] public section

set_option maxRecDepth 16384

noncomputable section

namespace Cert.Rd

open Idealize.ShloMosaic

/-- The element of a matrix in row `r` and column `c`; zero where the matrix has no such element. -/
def rd {a b : ℕ} (A : (⟨2, ![a, b]⟩ : Shape).Idx → EReal) (r c : ℕ) : EReal :=
  if h : r < a ∧ c < b then A (ValueIdx.ix2 ⟨r, h.1⟩ ⟨c, h.2⟩) else 0

/-- An element of a matrix is its reading at the numbers of its row and column. -/
theorem rd_at {a b : ℕ} (A : (⟨2, ![a, b]⟩ : Shape).Idx → EReal) (i : (⟨2, ![a, b]⟩ : Shape).Idx) (r c : ℕ)
    (hr : (i 0).val = r) (hc : (i 1).val = c) : A i = rd A r c := by
  subst hr hc
  have h0 : (i 0).val < a := (i 0).isLt
  have h1 : (i 1).val < b := (i 1).isLt
  rw [rd, dif_pos ⟨h0, h1⟩]
  congr 1
  funext k
  match k with
  | ⟨0, _⟩ => rfl
  | ⟨1, _⟩ => rfl

/-- The same, of an element named by its row and column. -/
theorem rd_ix {a b : ℕ} (A : (⟨2, ![a, b]⟩ : Shape).Idx → EReal) (r : Fin a) (c : Fin b) :
    A (Idealize.ShloMosaic.ix2 r c) = rd A r.val c.val :=
  rd_at A _ _ _ rfl rfl

/-- A sum over `J` blocks of `n` consecutive numbers each is the sum over all `J * n` numbers. -/
theorem sum_blocks (J n : ℕ) (f : ℕ → EReal) :
    ∑ k ∈ Finset.range J, ∑ l : Fin n, f (n * k + l.val) = ∑ q : Fin (J * n), f q.val := by
  rw [Fin.sum_univ_eq_sum_range (fun q => f q)]
  induction J with
  | zero => simp
  | succ J ih =>
    rw [Finset.sum_range_succ, ih, Nat.succ_mul, Finset.sum_range_add, Fin.sum_univ_eq_sum_range (fun l => f (n * J + l))]
    simp only [Nat.mul_comm]

/-- `f` moved down by `k` rows; the first `k` rows are zero. -/
def sh (k : ℕ) (f : ℕ → ℕ → EReal) (r c : ℕ) : EReal := if k ≤ r then f (r - k) c else 0

end Cert.Rd
end
-- ==== Proof.Shift.lean ====
module

public import proofs.«01_k».proof.Proof.Common
public import Idealize.ShloMosaic.Lib.Pointwise

/-!
Rows of a block of 512 rows moved down or up by one, two or three.

The kernels move the rows of a block by rotating the block and then putting the rows that came around replaced by
rows of the neighbouring block's nearest eight. Each theorem reads one such composition: the row moved to, or the row of the
neighbour's eight.
-/

@[expose] public section

set_option maxRecDepth 16384

noncomputable section

namespace Cert.Shift

open Idealize.ShloMosaic Cert.Rd

/-- A block of 512 rows. -/
abbrev B : Shape := ⟨2, ![512, 512]⟩
/-- Eight rows of a neighbouring block. -/
abbrev E : Shape := ⟨2, ![8, 512]⟩
/-- A block without eight of its rows. -/
abbrev L : Shape := ⟨2, ![504, 512]⟩

/-- The block with its rows moved down by `k`; the first `k` rows are the last of `p`. -/
def down (k : ℕ) (v : B.Idx → EReal) (p : E.Idx → EReal) : B.Idx → EReal := fun j =>
  if k ≤ (j 0).val then rd v ((j 0).val - k) (j 1).val else rd p ((j 0).val + 8 - k) (j 1).val

/-- The block with its rows moved up by `k`; the last `k` rows are the first of `p`. -/
def up (k : ℕ) (v : B.Idx → EReal) (p : E.Idx → EReal) : B.Idx → EReal := fun j =>
  if (j 0).val + k < 512 then rd v ((j 0).val + k) (j 1).val else rd p ((j 0).val + k - 512) (j 1).val

/-- A row number as a word, read back as an integer. -/
theorem toInt_row (n : ℕ) (hn : n < 512) : (BitVec.ofNat 32 n).toInt = (n : ℤ) := by
  rw [BitVec.toInt_eq_toNat_cond, BitVec.toNat_ofNat]
  split_ifs <;> omega

/-- A choice by a test whether a row number is below `k`. -/
theorem sel_lt (n k : ℕ) (hn : n < 512) (hk : k < 512) (x y : EReal) :
    Scalar.select (IntOp.cmpi .slt (BitVec.ofNat 32 n) (BitVec.ofNat 32 k)) x y = if n < k then x else y := by
  have h : IntOp.cmpi .slt (BitVec.ofNat 32 n) (BitVec.ofNat 32 k) = BitVec.ofBool (decide (n < k)) := by
    simp only [IntOp.cmpi, BitVec.slt_eq_decide]
    congr 2
    rw [toInt_row n hn, toInt_row k hk]
    exact propext Int.ofNat_lt
  rw [h, Scalar.select]
  by_cases hh : n < k <;> simp [hh]

/-- A choice by a test whether a row number is at least `k`. -/
theorem sel_ge (n k : ℕ) (hn : n < 512) (hk : k < 512) (x y : EReal) :
    Scalar.select (IntOp.cmpi .sge (BitVec.ofNat 32 n) (BitVec.ofNat 32 k)) x y = if k ≤ n then x else y := by
  have h : IntOp.cmpi .sge (BitVec.ofNat 32 n) (BitVec.ofNat 32 k) = BitVec.ofBool (decide (k ≤ n)) := by
    simp only [IntOp.cmpi, BitVec.sle_eq_decide]
    congr 2
    rw [toInt_row n hn, toInt_row k hk]
    exact propext Int.ofNat_le
  rw [h, Scalar.select]
  by_cases hh : k ≤ n <;> simp [hh]

variable (v : FVec Ideal B .f32) (p : FVec Ideal E .f32) (hB : B.Rotates 0 none) (hE : E.Rotates 0 none)
  (hi : E.Iotas .tc 32 [0])

/-- Rows moved down by 1. -/
theorem down1 (s0 : B.Slices ![0, 0] E) (s8 : B.Slices ![8, 0] L) (hc : Shape.Concatenates [E, L] B 0) :
    concatenate B 0 [⟨E, select (cmpi .slt (iota .tc E 32 [0] hi) (broadcast E 1#32)) (dynamicRotate 0 1#32 none p hE)
        (extractStridedSlice E ![0, 0] (dynamicRotate 0 1#32 none v hB) s0)⟩,
      ⟨L, extractStridedSlice L ![8, 0] (dynamicRotate 0 1#32 none v hB) s8⟩] hc = down 1 v p := by
  funext j
  idx_vars j
  pointwise [down]
  simp only [rd_ix]
  by_cases h1 : j0.val < 8
  · rw [dif_pos h1]
    rw [sel_lt _ _ (by omega) (by omega)]
    split_ifs <;> first | omega | (congr 1 <;> omega)
  · rw [dif_neg h1]
    split_ifs <;> first | omega | (congr 1 <;> omega)

/-- Rows moved up by 1. -/
theorem up1 (s0 : B.Slices ![0, 0] L) (s5 : B.Slices ![504, 0] E) (hc : Shape.Concatenates [L, E] B 0) :
    concatenate B 0 [⟨L, extractStridedSlice L ![0, 0] (dynamicRotate 0 511#32 none v hB) s0⟩,
      ⟨E, select (cmpi .sge (iota .tc E 32 [0] hi) (broadcast E 7#32)) (dynamicRotate 0 7#32 none p hE)
        (extractStridedSlice E ![504, 0] (dynamicRotate 0 511#32 none v hB) s5)⟩] hc = up 1 v p := by
  funext j
  idx_vars j
  pointwise [up]
  simp only [rd_ix]
  by_cases h1 : j0.val < 504
  · rw [dif_pos h1]
    split_ifs <;> first | omega | (congr 1 <;> omega)
  · rw [dif_neg h1]
    rw [sel_ge _ _ (by omega) (by omega)]
    split_ifs <;> first | omega | (congr 1 <;> omega)

/-- Rows moved down by 2. -/
theorem down2 (s0 : B.Slices ![0, 0] E) (s8 : B.Slices ![8, 0] L) (hc : Shape.Concatenates [E, L] B 0) :
    concatenate B 0 [⟨E, select (cmpi .slt (iota .tc E 32 [0] hi) (broadcast E 2#32)) (dynamicRotate 0 2#32 none p hE)
        (extractStridedSlice E ![0, 0] (dynamicRotate 0 2#32 none v hB) s0)⟩,
      ⟨L, extractStridedSlice L ![8, 0] (dynamicRotate 0 2#32 none v hB) s8⟩] hc = down 2 v p := by
  funext j
  idx_vars j
  pointwise [down]
  simp only [rd_ix]
  by_cases h1 : j0.val < 8
  · rw [dif_pos h1]
    rw [sel_lt _ _ (by omega) (by omega)]
    split_ifs <;> first | omega | (congr 1 <;> omega)
  · rw [dif_neg h1]
    split_ifs <;> first | omega | (congr 1 <;> omega)

/-- Rows moved up by 2. -/
theorem up2 (s0 : B.Slices ![0, 0] L) (s5 : B.Slices ![504, 0] E) (hc : Shape.Concatenates [L, E] B 0) :
    concatenate B 0 [⟨L, extractStridedSlice L ![0, 0] (dynamicRotate 0 510#32 none v hB) s0⟩,
      ⟨E, select (cmpi .sge (iota .tc E 32 [0] hi) (broadcast E 6#32)) (dynamicRotate 0 6#32 none p hE)
        (extractStridedSlice E ![504, 0] (dynamicRotate 0 510#32 none v hB) s5)⟩] hc = up 2 v p := by
  funext j
  idx_vars j
  pointwise [up]
  simp only [rd_ix]
  by_cases h1 : j0.val < 504
  · rw [dif_pos h1]
    split_ifs <;> first | omega | (congr 1 <;> omega)
  · rw [dif_neg h1]
    rw [sel_ge _ _ (by omega) (by omega)]
    split_ifs <;> first | omega | (congr 1 <;> omega)

/-- Rows moved down by 3. -/
theorem down3 (s0 : B.Slices ![0, 0] E) (s8 : B.Slices ![8, 0] L) (hc : Shape.Concatenates [E, L] B 0) :
    concatenate B 0 [⟨E, select (cmpi .slt (iota .tc E 32 [0] hi) (broadcast E 3#32)) (dynamicRotate 0 3#32 none p hE)
        (extractStridedSlice E ![0, 0] (dynamicRotate 0 3#32 none v hB) s0)⟩,
      ⟨L, extractStridedSlice L ![8, 0] (dynamicRotate 0 3#32 none v hB) s8⟩] hc = down 3 v p := by
  funext j
  idx_vars j
  pointwise [down]
  simp only [rd_ix]
  by_cases h1 : j0.val < 8
  · rw [dif_pos h1]
    rw [sel_lt _ _ (by omega) (by omega)]
    split_ifs <;> first | omega | (congr 1 <;> omega)
  · rw [dif_neg h1]
    split_ifs <;> first | omega | (congr 1 <;> omega)

/-- Rows moved up by 3. -/
theorem up3 (s0 : B.Slices ![0, 0] L) (s5 : B.Slices ![504, 0] E) (hc : Shape.Concatenates [L, E] B 0) :
    concatenate B 0 [⟨L, extractStridedSlice L ![0, 0] (dynamicRotate 0 509#32 none v hB) s0⟩,
      ⟨E, select (cmpi .sge (iota .tc E 32 [0] hi) (broadcast E 5#32)) (dynamicRotate 0 5#32 none p hE)
        (extractStridedSlice E ![504, 0] (dynamicRotate 0 509#32 none v hB) s5)⟩] hc = up 3 v p := by
  funext j
  idx_vars j
  pointwise [up]
  simp only [rd_ix]
  by_cases h1 : j0.val < 504
  · rw [dif_pos h1]
    split_ifs <;> first | omega | (congr 1 <;> omega)
  · rw [dif_neg h1]
    rw [sel_ge _ _ (by omega) (by omega)]
    split_ifs <;> first | omega | (congr 1 <;> omega)

/-- Rows moved down, where the block holds the rows of `f` from row `o` on and the neighbour's eight the rows before, or zero. -/
theorem down_eq (f : ℕ → ℕ → EReal) (o k : ℕ) (hk : k ≤ 8) (v : B.Idx → EReal) (p : E.Idx → EReal)
    (hv : ∀ y : B.Idx, v y = f (o + (y 0).val) (y 1).val) (hp : ∀ y : E.Idx, p y = sh 8 f (o + (y 0).val) (y 1).val)
    (y : B.Idx) : down k v p y = sh k f (o + (y 0).val) (y 1).val := by
  have h0 : (y 0).val < 512 := (y 0).isLt
  have h1 : (y 1).val < 512 := (y 1).isLt
  unfold down
  split
  · rename_i h
    refine (rd_ix v ⟨(y 0).val - k, by omega⟩ ⟨(y 1).val, h1⟩).symm.trans ((hv _).trans ?_)
    rw [sh, if_pos (by omega)]
    exact congrArg (f · _) (show o + ((y 0).val - k) = o + (y 0).val - k by omega)
  · rename_i h
    refine (rd_ix p ⟨(y 0).val + 8 - k, by omega⟩ ⟨(y 1).val, h1⟩).symm.trans ((hp _).trans ?_)
    show sh 8 f (o + ((y 0).val + 8 - k)) (y 1).val = _
    rw [sh, sh]
    by_cases h2 : k ≤ o + (y 0).val
    · rw [if_pos h2, if_pos (by omega), show o + ((y 0).val + 8 - k) - 8 = o + (y 0).val - k by omega]
    · rw [if_neg h2, if_neg (by omega)]

/-- Rows moved up, where the block holds the rows of `f` from row `o` on and the neighbour's eight the rows behind. -/
theorem up_eq (f : ℕ → ℕ → EReal) (o k : ℕ) (hk : k ≤ 8) (v : B.Idx → EReal) (p : E.Idx → EReal)
    (hv : ∀ y : B.Idx, v y = f (o + (y 0).val) (y 1).val) (hp : ∀ y : E.Idx, p y = f (o + 512 + (y 0).val) (y 1).val)
    (y : B.Idx) : up k v p y = f (o + (y 0).val + k) (y 1).val := by
  have h0 : (y 0).val < 512 := (y 0).isLt
  have h1 : (y 1).val < 512 := (y 1).isLt
  unfold up
  split
  · rename_i h
    exact (rd_ix v ⟨(y 0).val + k, by omega⟩ ⟨(y 1).val, h1⟩).symm.trans ((hv _).trans (congrArg (f · _) (Nat.add_assoc _ _ _).symm))
  · rename_i h
    refine (rd_ix p ⟨(y 0).val + k - 512, by omega⟩ ⟨(y 1).val, h1⟩).symm.trans ((hp _).trans (congrArg (f · _) ?_))
    show o + 512 + ((y 0).val + k - 512) = _
    omega

end Cert.Shift
end
-- ==== Proof.MixerA.lean ====
module

public import proofs.«01_k».proof.Proof.Common

/-!
The gradient of mixer A, row by row: `y = b · conv(c · x) · silu g`, with a causal convolution of three taps.

`Y` is the gradient of `y`, `P` the projection, whose columns 0, 512, 1024 and 1536 begin the four inputs `b`, `c`, `x` and `g`,
`W` the taps. Rows outside an array read as zero, so that the last rows need no case of their own.
-/

@[expose] public section

noncomputable section

namespace Cert.MixerA

open Idealize.ShloMosaic Cert.Rd

variable (Y : (⟨2, ![8192, 2048]⟩ : Shape).Idx → EReal) (P : (⟨2, ![8192, 6144]⟩ : Shape).Idx → EReal)
  (W : (⟨2, ![3, 512]⟩ : Shape).Idx → EReal)

/-- The convolution's input, `c · x`. -/
def u (r c : ℕ) : EReal := rd P r (512 + c) * rd P r (1024 + c)

/-- The sigmoid of the gate. -/
def sg (r c : ℕ) : EReal := Ideal.logistic (rd P r (1536 + c))

/-- The gradient of the convolution's result. -/
def dv (r c : ℕ) : EReal := rd Y r c * rd P r c * (rd P r (1536 + c) * sg P r c)

/-- The convolution's result. -/
def v (r c : ℕ) : EReal := rd W 2 c * u P r c + rd W 1 c * sh 1 (u P) r c + rd W 0 c * sh 2 (u P) r c

/-- The gradient of the convolution's input. -/
def du (r c : ℕ) : EReal := rd W 2 c * dv Y P r c + rd W 1 c * dv Y P (r + 1) c + rd W 0 c * dv Y P (r + 2) c

/-- The gradient of `b`. -/
def gb (r c : ℕ) : EReal := rd Y r c * v P W r c * (rd P r (1536 + c) * sg P r c)
/-- The gradient of `c`. -/
def gc (r c : ℕ) : EReal := du Y P W r c * rd P r (1024 + c)
/-- The gradient of `x`. -/
def gx (r c : ℕ) : EReal := du Y P W r c * rd P r (512 + c)
/-- The gradient of the gate. -/
def gg (r c : ℕ) : EReal :=
  rd Y r c * rd P r c * v P W r c * (sg P r c * (1 + rd P r (1536 + c) * (1 - sg P r c)))

/-- The four gradients side by side. -/
def dp (r c : ℕ) : EReal :=
  if c < 512 then gb Y P W r c else if c < 1024 then gc Y P W r (c - 512)
    else if c < 1536 then gx Y P W r (c - 1024) else gg Y P W r (c - 1536)

theorem dp_b (r c : ℕ) (h : c < 512) : dp Y P W r c = gb Y P W r c := by
  rw [dp, if_pos h]

theorem dp_c (r c : ℕ) (h : c < 512) : dp Y P W r (512 + c) = gc Y P W r c := by
  rw [dp, if_neg (by omega), if_pos (by omega), Nat.add_sub_cancel_left]

theorem dp_x (r c : ℕ) (h : c < 512) : dp Y P W r (1024 + c) = gx Y P W r c := by
  rw [dp, if_neg (by omega), if_neg (by omega), if_pos (by omega), Nat.add_sub_cancel_left]

theorem dp_g (r c : ℕ) (h : c < 512) : dp Y P W r (1536 + c) = gg Y P W r c := by
  rw [dp, if_neg (by omega), if_neg (by omega), if_neg (by omega), Nat.add_sub_cancel_left]

/-- One row's part of the gradient of tap `k`. -/
def tapTerm (k r c : ℕ) : EReal := dv Y P r c * sh (2 - k) (u P) r c

/-- The gradient of the taps, its five rows of padding zero. -/
def dw (k c : ℕ) : EReal := if k < 3 then ∑ r : Fin 8192, tapTerm Y P k r.val c else 0

/-- Beyond the last row the gradient of the convolution's result is zero. -/
theorem dv_out (r c : ℕ) (h : 8192 ≤ r) : dv Y P r c = 0 := by
  unfold dv
  rw [show rd Y r c = 0 from dif_neg (by omega), zero_mul, zero_mul]

end Cert.MixerA
end
-- ==== Proof.BranchA.lean ====
module

public import proofs.«01_k».proof.Proof.Gen.KernelIdeal.Value
public import proofs.«01_k».proof.Proof.Common
public import proofs.«01_k».proof.Proof.Shift
public import proofs.«01_k».proof.Proof.MixerA
public import Idealize.ShloMosaic.Lib.Pointwise
public import Idealize.ShloMosaic.Lib.StableHlo.ReadAt
public import Idealize.ShloMosaic.Lib.WritesUnit

@[expose] public section

set_option maxRecDepth 16384

noncomputable section

namespace Cert.BranchA

open Cert.KernelIdeal Cert.KernelIdeal.Gen Cert.Rd Cert.Shift Cert.MixerA
open Idealize.ShloMosaic Idealize.ShloMosaic.TcCoe Idealize.SL.Sem

/-! ## What the body computes from its blocks -/

/-- The convolution of the block. -/
theorem conv_at (i : grid0.Coords) (a b : Vec Ideal S512x512 .f32) (p q : Vec Ideal S8x512 .f32) (w2 w1 w0 : Vec Ideal S1x512 .f32)
    (r : Fin 512) (c : Fin 512) :
    k0_pay8 (k0_pay4 a b) (k0_pay5 i p q) (k0_pay6 i a b p q w2 w1) (k0_pay7 w0) (ix2 r c)
      = w2 (ix2 0 c) * k0_pay4 a b (ix2 r c) + w1 (ix2 0 c) * down 1 (k0_pay4 a b) (k0_pay5 i p q) (ix2 r c)
        + w0 (ix2 0 c) * down 2 (k0_pay4 a b) (k0_pay5 i p q) (ix2 r c) := by
  unfold k0_pay8 k0_pay6 k0_pay7
  dsimp only
  rw [down1, down2]
  pointwise []

/-- The gradient of the convolution's input. -/
theorem du_at (s : Ideal .f32) (g d b : Vec Ideal S512x512 .f32) (gn dn bn : Vec Ideal S8x512 .f32) (w2 w1 w0 : Vec Ideal S1x512 .f32)
    (r : Fin 512) (c : Fin 512) :
    k0_pay16 (k0_pay10 g d b) (k0_pay11 s dn bn gn) (k0_pay12 g d b w2) (k0_pay13 w1) (k0_pay14 g d b) k0_pay15 7#32 w0 (ix2 r c)
      = w2 (ix2 0 c) * k0_pay10 g d b (ix2 r c) + w1 (ix2 0 c) * up 1 (k0_pay10 g d b) (k0_pay11 s dn bn gn) (ix2 r c)
        + w0 (ix2 0 c) * up 2 (k0_pay10 g d b) (k0_pay11 s dn bn gn) (ix2 r c) := by
  unfold k0_pay16 k0_pay12 k0_pay13 k0_pay14 k0_pay15
  dsimp only
  rw [up1, up2]
  pointwise []

/-- The part of a block in the gradient of the middle tap. -/
theorem tap1_at (u d : Vec Ideal S512x512 .f32) (p : Vec Ideal S8x512 .f32) (w : Vec Ideal S1x512 .f32) (c : Fin 512) :
    k0_pay1 u p d w (ix2 0 c) = w (ix2 0 c) + ∑ r : Fin 512, d (ix2 r c) * down 1 u p (ix2 r c) := by
  unfold k0_pay1
  dsimp only
  rw [down1]
  pointwise []

/-- The part of a block in the gradient of the first tap. -/
theorem tap0_at (u d : Vec Ideal S512x512 .f32) (p : Vec Ideal S8x512 .f32) (w : Vec Ideal S1x512 .f32) (c : Fin 512) :
    k0_pay22 u p d w (ix2 0 c) = w (ix2 0 c) + ∑ r : Fin 512, d (ix2 r c) * down 2 u p (ix2 r c) := by
  unfold k0_pay22
  dsimp only
  rw [down2]
  pointwise []

/-- The part of a block in the gradient of the last tap. -/
theorem tap2_at (u d : Vec Ideal S512x512 .f32) (w : Vec Ideal S1x512 .f32) (c : Fin 512) :
    k0_pay21 u d w (ix2 0 c) = w (ix2 0 c) + ∑ r : Fin 512, d (ix2 r c) * u (ix2 r c) := by
  pointwise [k0_pay21]

variable (m : (ℓ : Loc nD τ sig) → Buf (Elt Ideal) ℓ)

/-- The gradient that the mixer receives. -/
abbrev Y (c : Dev nD) : S8192x2048.Idx → EReal := m ((c : Thread nD τ).loc main_arg0)
/-- The projection. -/
abbrev P (c : Dev nD) : S8192x6144.Idx → EReal := m ((c : Thread nD τ).loc main_arg1)
/-- The taps. -/
abbrev W (c : Dev nD) : S3x512.Idx → EReal := m ((c : Thread nD τ).loc main_arg2)

/-- The block indices of the windows at grid point `t`. -/
theorem idx : ∀ t : Fin grid0.N,
    (win0_0.index t = ![t.val, 0] ∧ win0_1.index t = ![min (64 * (t.val + 1)) 1023, 0])
      ∧ (win0_2.index t = ![t.val, 0] ∧ win0_3.index t = ![min (64 * (t.val + 1)) 1023, 0])
      ∧ (win0_4.index t = ![t.val, 3] ∧ win0_5.index t = ![min (64 * (t.val + 1)) 1023, 3])
      ∧ (win0_6.index t = ![t.val, 1] ∧ win0_7.index t = ![64 * t.val - 1, 1])
      ∧ (win0_8.index t = ![t.val, 2] ∧ win0_9.index t = ![64 * t.val - 1, 2])
      ∧ win0_10.index t = ![0, 0] ∧ win0_11.index t = ![t.val, 0] ∧ win0_12.index t = ![0, 0] := by
  decide +kernel

/-- The factor that cuts off what lies before the first block. -/
theorem has_prev : ∀ t : Fin grid0.N, (Scalar.extui (Scalar.cmpi .sgt (BitVec.ofNat 32 (grid0.coords t 0).val) 0#32) : BitVec 32)
    = if t.val = 0 then 0#32 else 1#32 := by
  decide +kernel

/-- The factor that cuts off what lies behind the last block. -/
theorem has_next : ∀ t : Fin grid0.N, (Scalar.extui (Scalar.cmpi .slt (BitVec.ofNat 32 (grid0.coords t 0).val) 15#32) : BitVec 32)
    = if t.val = 15 then 0#32 else 1#32 := by
  decide +kernel

/-! Each window's block at grid point `t`, as elements of the window's array. -/

theorem blk0 (c : Dev nD) (t : Fin cfg0.N) (y : S512x512.Idx) :
    (iblk m c 0 t : S512x512.Idx → EReal) y = rd (Y m c) (512 * t.val + (y 0).val) (y 1).val := by
  have e := idx t
  refine (rfl : _ = Y m c (((cfg0.win 0).blk t).view.emb y)).trans (rd_at _ _ _ _ ?_ ?_) <;> blk_simp [e.1.1] <;> omega

theorem blk1 (c : Dev nD) (t : Fin cfg0.N) (y : S8x512.Idx) :
    (iblk m c 1 t : S8x512.Idx → EReal) y = rd (Y m c) (8 * min (64 * (t.val + 1)) 1023 + (y 0).val) (y 1).val := by
  have e := idx t
  refine (rfl : _ = Y m c (((cfg0.win 1).blk t).view.emb y)).trans (rd_at _ _ _ _ ?_ ?_) <;> blk_simp [e.1.2] <;> omega

theorem blk2 (c : Dev nD) (t : Fin cfg0.N) (y : S512x512.Idx) :
    (iblk m c 2 t : S512x512.Idx → EReal) y = rd (P m c) (512 * t.val + (y 0).val) (y 1).val := by
  have e := idx t
  refine (rfl : _ = P m c (((cfg0.win 2).blk t).view.emb y)).trans (rd_at _ _ _ _ ?_ ?_) <;> blk_simp [e.2.1.1] <;> omega

theorem blk3 (c : Dev nD) (t : Fin cfg0.N) (y : S8x512.Idx) :
    (iblk m c 3 t : S8x512.Idx → EReal) y = rd (P m c) (8 * min (64 * (t.val + 1)) 1023 + (y 0).val) (y 1).val := by
  have e := idx t
  refine (rfl : _ = P m c (((cfg0.win 3).blk t).view.emb y)).trans (rd_at _ _ _ _ ?_ ?_) <;> blk_simp [e.2.1.2] <;> omega

theorem blk4 (c : Dev nD) (t : Fin cfg0.N) (y : S512x512.Idx) :
    (iblk m c 4 t : S512x512.Idx → EReal) y = rd (P m c) (512 * t.val + (y 0).val) (1536 + (y 1).val) := by
  have e := idx t
  refine (rfl : _ = P m c (((cfg0.win 4).blk t).view.emb y)).trans (rd_at _ _ _ _ ?_ ?_) <;> blk_simp [e.2.2.1.1] <;> omega

theorem blk5 (c : Dev nD) (t : Fin cfg0.N) (y : S8x512.Idx) :
    (iblk m c 5 t : S8x512.Idx → EReal) y = rd (P m c) (8 * min (64 * (t.val + 1)) 1023 + (y 0).val) (1536 + (y 1).val) := by
  have e := idx t
  refine (rfl : _ = P m c (((cfg0.win 5).blk t).view.emb y)).trans (rd_at _ _ _ _ ?_ ?_) <;> blk_simp [e.2.2.1.2] <;> omega

theorem blk6 (c : Dev nD) (t : Fin cfg0.N) (y : S512x512.Idx) :
    (iblk m c 6 t : S512x512.Idx → EReal) y = rd (P m c) (512 * t.val + (y 0).val) (512 + (y 1).val) := by
  have e := idx t
  refine (rfl : _ = P m c (((cfg0.win 6).blk t).view.emb y)).trans (rd_at _ _ _ _ ?_ ?_) <;> blk_simp [e.2.2.2.1.1] <;> omega

theorem blk7 (c : Dev nD) (t : Fin cfg0.N) (y : S8x512.Idx) :
    (iblk m c 7 t : S8x512.Idx → EReal) y = rd (P m c) (8 * (64 * t.val - 1) + (y 0).val) (512 + (y 1).val) := by
  have e := idx t
  refine (rfl : _ = P m c (((cfg0.win 7).blk t).view.emb y)).trans (rd_at _ _ _ _ ?_ ?_) <;> blk_simp [e.2.2.2.1.2] <;> omega

theorem blk8 (c : Dev nD) (t : Fin cfg0.N) (y : S512x512.Idx) :
    (iblk m c 8 t : S512x512.Idx → EReal) y = rd (P m c) (512 * t.val + (y 0).val) (1024 + (y 1).val) := by
  have e := idx t
  refine (rfl : _ = P m c (((cfg0.win 8).blk t).view.emb y)).trans (rd_at _ _ _ _ ?_ ?_) <;> blk_simp [e.2.2.2.2.1.1] <;> omega

theorem blk9 (c : Dev nD) (t : Fin cfg0.N) (y : S8x512.Idx) :
    (iblk m c 9 t : S8x512.Idx → EReal) y = rd (P m c) (8 * (64 * t.val - 1) + (y 0).val) (1024 + (y 1).val) := by
  have e := idx t
  refine (rfl : _ = P m c (((cfg0.win 9).blk t).view.emb y)).trans (rd_at _ _ _ _ ?_ ?_) <;> blk_simp [e.2.2.2.2.1.2] <;> omega

theorem pad_at (c : Dev nD) (y : S8x512.Idx) : V m c main_v0 y = rd (W m c) (y 0).val (y 1).val := by
  unfold V
  after_reads_at
  unfold rd
  by_cases h : (y 0).val < 3
  · rw [dif_pos h, dif_pos ⟨h, (y 1).isLt⟩]
    rfl
  · rw [dif_neg h, dif_neg (fun hh => h hh.1)]
    show (((0#32 : BitVec 32).toInt : ℝ) : EReal) = 0
    simp

theorem blk10 (c : Dev nD) (t : Fin cfg0.N) (y : S8x512.Idx) :
    (iblk m c 10 t : S8x512.Idx → EReal) y = rd (W m c) (y 0).val (y 1).val := by
  have e := idx t
  refine (rfl : _ = V m c main_v0 (((cfg0.win 10).blk t).view.emb y)).trans ?_
  rw [pad_at]
  congr 1 <;> blk_simp [e.2.2.2.2.2.1] <;> omega

/-- The block of `c · x`. -/
theorem u_at (c : Dev nD) (t : Fin cfg0.N) (y : S512x512.Idx) :
    k0_pay4 (iblk m c 6 t) (iblk m c 8 t) y = u (P m c) (512 * t.val + (y 0).val) (y 1).val := by
  unfold u
  rw [← blk6 m c t y, ← blk8 m c t y]
  rfl

/-- The eight rows before the block; zero before the first block. -/
theorem p_at (c : Dev nD) (t : Fin cfg0.N) (y : S8x512.Idx) :
    k0_pay5 (grid0.coords t) (iblk m c 7 t) (iblk m c 9 t) y = sh 8 (u (P m c)) (512 * t.val + (y 0).val) (y 1).val := by
  pointwise [k0_pay5]
  rw [has_prev, blk7, blk9, sh, u]
  by_cases h : t.val = 0
  · rw [if_pos h, if_neg (by have := (y 0).isLt; simp at this; omega)]
    simp
  · rw [if_neg h, if_pos (by omega), show 512 * t.val + (y 0).val - 8 = 8 * (64 * t.val - 1) + (y 0).val by omega]
    simp

/-- The block of the gradient of the convolution's result. -/
theorem d_at (c : Dev nD) (t : Fin cfg0.N) (y : S512x512.Idx) :
    k0_pay10 (iblk m c 4 t) (iblk m c 0 t) (iblk m c 2 t) y = dv (Y m c) (P m c) (512 * t.val + (y 0).val) (y 1).val := by
  unfold dv sg
  rw [← blk0 m c t y, ← blk2 m c t y, ← blk4 m c t y]
  rfl

/-- The eight rows behind the block; zero behind the last block. -/
theorem n_at (c : Dev nD) (t : Fin cfg0.N) (y : S8x512.Idx) :
    k0_pay11 (k0_pay3 (grid0.coords t)) (iblk m c 1 t) (iblk m c 3 t) (iblk m c 5 t) y
      = dv (Y m c) (P m c) (512 * t.val + 512 + (y 0).val) (y 1).val := by
  pointwise [k0_pay11, k0_pay3]
  rw [has_next, blk1, blk3, blk5]
  have ht : t.val < 16 := t.isLt
  by_cases h : t.val = 15
  · rw [if_pos h, dv_out _ _ _ _ (by omega)]
    simp
  · rw [if_neg h, dv, sg, show 8 * min (64 * (t.val + 1)) 1023 + (y 0).val = 512 * t.val + 512 + (y 0).val by omega]
    simp

/-- The convolution's result on the block. -/
theorem v_at (c : Dev nD) (t : Fin cfg0.N) (w2 w1 w0 : Vec Ideal S1x512 .f32)
    (h2 : ∀ x : Fin 512, w2 (ix2 0 x) = rd (W m c) 2 x.val) (h1 : ∀ x : Fin 512, w1 (ix2 0 x) = rd (W m c) 1 x.val)
    (h0 : ∀ x : Fin 512, w0 (ix2 0 x) = rd (W m c) 0 x.val) (y0 y1 : Fin 512) :
    k0_pay8 (k0_pay4 (iblk m c 6 t) (iblk m c 8 t)) (k0_pay5 (grid0.coords t) (iblk m c 7 t) (iblk m c 9 t))
        (k0_pay6 (grid0.coords t) (iblk m c 6 t) (iblk m c 8 t) (iblk m c 7 t) (iblk m c 9 t) w2 w1) (k0_pay7 w0) (ix2 y0 y1)
      = v (P m c) (W m c) (512 * t.val + y0.val) y1.val := by
  rw [conv_at, down_eq _ _ 1 (by omega) _ _ (u_at m c t) (p_at m c t), down_eq _ _ 2 (by omega) _ _ (u_at m c t) (p_at m c t),
    u_at, h0, h1, h2]
  rfl

/-- The gradient of the convolution's input on the block. -/
theorem g_at (c : Dev nD) (t : Fin cfg0.N) (w2 w1 w0 : Vec Ideal S1x512 .f32)
    (h2 : ∀ x : Fin 512, w2 (ix2 0 x) = rd (W m c) 2 x.val) (h1 : ∀ x : Fin 512, w1 (ix2 0 x) = rd (W m c) 1 x.val)
    (h0 : ∀ x : Fin 512, w0 (ix2 0 x) = rd (W m c) 0 x.val) (y0 y1 : Fin 512) :
    k0_pay16 (k0_pay10 (iblk m c 4 t) (iblk m c 0 t) (iblk m c 2 t))
        (k0_pay11 (k0_pay3 (grid0.coords t)) (iblk m c 1 t) (iblk m c 3 t) (iblk m c 5 t))
        (k0_pay12 (iblk m c 4 t) (iblk m c 0 t) (iblk m c 2 t) w2) (k0_pay13 w1)
        (k0_pay14 (iblk m c 4 t) (iblk m c 0 t) (iblk m c 2 t)) k0_pay15 7#32 w0 (ix2 y0 y1)
      = du (Y m c) (P m c) (W m c) (512 * t.val + y0.val) y1.val := by
  rw [du_at, up_eq _ _ 1 (by omega) _ _ (d_at m c t) (n_at m c t), up_eq _ _ 2 (by omega) _ _ (d_at m c t) (n_at m c t),
    d_at, h0, h1, h2]
  rfl

/-- A row of the taps, loaded. -/
theorem row_at (c : Dev nD) (t : Fin cfg0.N) (k : ℕ) (hk : k < 8) (h) (x : Fin 512) :
    (View.ld (Val := Elt Ideal) (e' := .f32) (iblk m c 10 t : S8x512.Idx → EReal) (Rect.unit ![k, 0] ![1, 512] h) : S1x512.Idx → EReal) (ix2 0 x) = rd (W m c) k x.val := by
  rw [View.ld_apply, blk10]
  show rd (W m c) (k + 1 * 0) (0 + 1 * x.val) = _
  rw [Nat.mul_zero, Nat.add_zero, Nat.zero_add, Nat.one_mul]

/-- A row of the taps' gradient, loaded. -/
theorem ld_row (f : S8x512.Idx → EReal) (k : Fin 8) (h) (x : Fin 512) :
    (View.ld (Val := Elt Ideal) (e' := .f32) f (Rect.unit ![k.val, 0] ![1, 512] h) : S1x512.Idx → EReal) (ix2 0 x) = f (ix2 k x) := by
  rw [View.ld_apply]
  refine congrArg f (funext fun a => Fin.ext ?_)
  fin_cases a
  · show k.val + 1 * 0 = k.val
    omega
  · show 0 + 1 * x.val = x.val
    omega

/-! The four stored pieces, from the convolution's result and the gradient of its input. -/

theorem gb_at (c : Dev nD) (t : Fin cfg0.N) (z : Vec Ideal S512x512 .f32) (r x : Fin 512)
    (h : z (ix2 r x) = v (P m c) (W m c) (512 * t.val + r.val) x.val) :
    k0_pay17 z (k0_pay9 (iblk m c 4 t)) (iblk m c 0 t) (ix2 r x) = gb (Y m c) (P m c) (W m c) (512 * t.val + r.val) x.val := by
  pointwise [k0_pay17, k0_pay9]
  rw [h, blk0, blk4]
  rfl

theorem gg_at (c : Dev nD) (t : Fin cfg0.N) (z : Vec Ideal S512x512 .f32) (r x : Fin 512)
    (h : z (ix2 r x) = v (P m c) (W m c) (512 * t.val + r.val) x.val) :
    k0_pay20 z (iblk m c 0 t) (iblk m c 2 t) (iblk m c 4 t) (ix2 r x) = gg (Y m c) (P m c) (W m c) (512 * t.val + r.val) x.val := by
  pointwise [k0_pay20]
  rw [h, blk0, blk2, blk4]
  rfl

theorem gx_at (c : Dev nD) (t : Fin cfg0.N) (a1 a2 a3 a4 a5 a6 a7 a8) (r x : Fin 512)
    (h : k0_pay16 a1 a2 a3 a4 a5 a6 a7 a8 (ix2 r x) = du (Y m c) (P m c) (W m c) (512 * t.val + r.val) x.val) :
    k0_pay19 a1 a2 a3 a4 a5 a6 a7 a8 (iblk m c 6 t) (ix2 r x) = gx (Y m c) (P m c) (W m c) (512 * t.val + r.val) x.val := by
  pointwise [k0_pay19]
  rw [h, blk6]
  rfl

theorem gc_at (c : Dev nD) (t : Fin cfg0.N) (a1 a2 a3 a4 a5 a6 a7 a8) (r x : Fin 512)
    (h : k0_pay16 a1 a2 a3 a4 a5 a6 a7 a8 (ix2 r x) = du (Y m c) (P m c) (W m c) (512 * t.val + r.val) x.val) :
    k0_pay18 a1 a2 a3 a4 a5 a6 a7 a8 (iblk m c 8 t) (ix2 r x) = gc (Y m c) (P m c) (W m c) (512 * t.val + r.val) x.val := by
  pointwise [k0_pay18]
  rw [h, blk8]
  rfl

/-- The window of the four gradients after grid point `t`. -/
theorem out_at (c : Dev nD) (t : Fin cfg0.N) (y : S512x2048.Idx) :
    (outsAt0 m c t.val t.isLt).1 y = dp (Y m c) (P m c) (W m c) (512 * t.val + (y 0).val) (y 1).val := by
  have h2 := row_at m c t 2 (by omega) inb_S8x512_S1x512_2_0
  have h1 := row_at m c t 1 (by omega) inb_S8x512_S1x512_1_0
  have h0 := row_at m c t 0 (by omega) inb_S8x512_S1x512_0_0
  have hv := v_at m c t _ _ _ h2 h1 h0
  have hg := g_at m c t _ _ _ h2 h1 h0
  by_cases h : t.val % 16 = 0
  on_goal 1 => rw [outsAt0_A m c t h]
  on_goal 2 => rw [outsAt0_B m c t h]
  all_goals
    frame_out
    canon_tiles x hx
    all_goals
      idx_vars x
      rw [hx0, hx1]
    on_goal 1 => refine Eq.trans ?_ (dp_g _ _ _ _ x1.val x1.isLt).symm
    on_goal 2 => refine Eq.trans ?_ (dp_x _ _ _ _ x1.val x1.isLt).symm
    on_goal 3 => refine Eq.trans ?_ (dp_c _ _ _ _ x1.val x1.isLt).symm
    on_goal 4 => refine Eq.trans ?_ (dp_b _ _ _ _ x1.val x1.isLt).symm
    on_goal 4 => exact gb_at m c t _ _ _ (hv x0 x1)
    on_goal 3 => exact gc_at m c t _ _ _ _ _ _ _ _ _ _ (hg x0 x1)
    on_goal 2 => exact gx_at m c t _ _ _ _ _ _ _ _ _ _ (hg x0 x1)
    on_goal 1 => exact gg_at m c t _ _ _ (hv x0 x1)

/-- A grid point's part of the taps' gradient. -/
def term (c : Dev nD) (t : ℕ) (j : S8x512.Idx) : EReal :=
  if (j 0).val < 3 then ∑ r : Fin 512, tapTerm (Y m c) (P m c) (j 0).val (512 * t + r.val) (j 1).val else 0

theorem term_pos (c : Dev nD) (t : ℕ) (k : Fin 8) (hk : k.val < 3) (x : Fin 512) :
    term m c t (ix2 k x) = ∑ r : Fin 512, tapTerm (Y m c) (P m c) k.val (512 * t + r.val) x.val := if_pos hk

theorem term_neg (c : Dev nD) (t : ℕ) (k : Fin 8) (hk : ¬ k.val < 3) (x : Fin 512) : term m c t (ix2 k x) = 0 := if_neg hk

/-- Three rows stored over what the window of the taps' gradient held. -/
theorem rows_at (c : Dev nD) (t : Fin cfg0.N) {κ sp} (v : View sig κ sp S8x512 .f32) (f) (L : List (View.Piece (Elt Ideal) S8x512 .f32))
    (base : S8x512.Idx → EReal) (hb : ∀ j, v.read (Elt Ideal) (v.writes (Elt Ideal) f L) j = base j) (j : S8x512.Idx) :
    v.read (Elt Ideal) (v.writes (Elt Ideal) f
        (⟨Rect.unit ![1, 0] ![1, 512] inb_S8x512_S1x512_1_0,
            k0_pay1 (k0_pay4 (iblk m c 6 t) (iblk m c 8 t)) (k0_pay5 (grid0.coords t) (iblk m c 7 t) (iblk m c 9 t))
              (k0_pay10 (iblk m c 4 t) (iblk m c 0 t) (iblk m c 2 t))
              (View.ld (Val := Elt Ideal) (e' := .f32) base (Rect.unit ![1, 0] ![1, 512] inb_S8x512_S1x512_1_0))⟩
          :: ⟨Rect.unit ![0, 0] ![1, 512] inb_S8x512_S1x512_0_0,
            k0_pay22 (k0_pay4 (iblk m c 6 t) (iblk m c 8 t)) (k0_pay5 (grid0.coords t) (iblk m c 7 t) (iblk m c 9 t))
              (k0_pay10 (iblk m c 4 t) (iblk m c 0 t) (iblk m c 2 t))
              (View.ld (Val := Elt Ideal) (e' := .f32) base (Rect.unit ![0, 0] ![1, 512] inb_S8x512_S1x512_0_0))⟩
          :: ⟨Rect.unit ![2, 0] ![1, 512] inb_S8x512_S1x512_2_0,
            k0_pay21 (k0_pay4 (iblk m c 6 t) (iblk m c 8 t)) (k0_pay10 (iblk m c 4 t) (iblk m c 0 t) (iblk m c 2 t))
              (View.ld (Val := Elt Ideal) (e' := .f32) base (Rect.unit ![2, 0] ![1, 512] inb_S8x512_S1x512_2_0))⟩ :: L)) j
      = base j + term m c t.val j := by
  idx_vars j
  have hr (k : ℕ) (hk : k ≤ 8) (r : Fin 512) : k0_pay10 (iblk m c 4 t) (iblk m c 0 t) (iblk m c 2 t) (ix2 r j1)
        * down k (k0_pay4 (iblk m c 6 t) (iblk m c 8 t)) (k0_pay5 (grid0.coords t) (iblk m c 7 t) (iblk m c 9 t)) (ix2 r j1)
      = dv (Y m c) (P m c) (512 * t.val + r.val) j1.val * sh k (u (P m c)) (512 * t.val + r.val) j1.val := by
    rw [d_at, down_eq _ _ k hk _ _ (u_at m c t) (p_at m c t)]
    rfl
  by_cases e1 : j0.val = 1
  · refine (View.read_writes_cons_rows_of_mem v f _ _ _ (ix2 j0 j1) (ix2 (0 : Fin 1) j1) rfl (e1 : j0.val = 1 + 0) rfl).trans ?_
    obtain rfl : j0 = 1 := Fin.ext e1
    rw [tap1_at, term_pos m c _ _ (by decide)]
    refine congrArg₂ _ (ld_row base 1 _ j1) ?_
    exact (Finset.sum_congr rfl fun r _ => hr 1 (by omega) r)
  refine (View.read_writes_cons_rows_of_not_mem v f _ _ _ (ix2 j0 j1) rfl rfl
    (by show j0.val < 1 ∨ 1 + 1 ≤ j0.val; omega)).trans ?_
  by_cases e0 : j0.val = 0
  · refine (View.read_writes_cons_rows_of_mem v f _ _ _ (ix2 j0 j1) (ix2 (0 : Fin 1) j1) rfl (e0 : j0.val = 0 + 0) rfl).trans ?_
    obtain rfl : j0 = 0 := Fin.ext e0
    rw [tap0_at, term_pos m c _ _ (by decide)]
    refine congrArg₂ _ (ld_row base 0 _ j1) ?_
    exact (Finset.sum_congr rfl fun r _ => hr 2 (by omega) r)
  refine (View.read_writes_cons_rows_of_not_mem v f _ _ _ (ix2 j0 j1) rfl rfl
    (by show j0.val < 0 ∨ 0 + 1 ≤ j0.val; omega)).trans ?_
  by_cases e2 : j0.val = 2
  · refine (View.read_writes_cons_rows_of_mem v f _ _ _ (ix2 j0 j1) (ix2 (0 : Fin 1) j1) rfl (e2 : j0.val = 2 + 0) rfl).trans ?_
    obtain rfl : j0 = 2 := Fin.ext e2
    rw [tap2_at, term_pos m c _ _ (by decide)]
    refine congrArg₂ _ (ld_row base 2 _ j1) ?_
    exact (Finset.sum_congr rfl fun r _ => by rw [d_at, u_at]; rfl)
  refine (View.read_writes_cons_rows_of_not_mem v f _ _ _ (ix2 j0 j1) rfl rfl
    (by show j0.val < 2 ∨ 2 + 1 ≤ j0.val; omega)).trans ?_
  rw [hb, term_neg m c _ _ (by omega), add_zero]

/-- The window of the taps' gradient after grid point `t`: the points' parts so far. -/
theorem dw_at (c : Dev nD) (t : Fin cfg0.N) (j : S8x512.Idx) :
    (outsAt0 m c t.val t.isLt).2 j = 0 + ∑ k ∈ Finset.range (t.val % 16 + 1), term m c (16 * (t.val / 16) + k) j := by
  refine Pipeline.eq_sum_of_reset_step_apply (fun n h => (outsAt0 m c n h).2) 16 (fun _ => 0) (term m c)
    (fun t h j => ?_) (fun t h j => ?_) t j
  · rw [outsAt0_A m c t h]
    frame_open
    simp (disch := decide) only [↓ View.readCov_skip, ↓ View.readCov_cons_toLoadRect, ↓ View.readCov_fill]
    frame_out
    rw [← View.read_writes_junk_eq_canon (ms0_12 t).view]
    refine (rows_at m c t _ _ _ _ (fun j => ?_) j).trans ?_
    · exact View.read_writes_cons_rows_of_mem _ _ _ _ _ j j rfl (Nat.zero_add _).symm rfl
    · pointwise [k0_pay2]
  · rw [outsAt0_B m c t h]
    frame_open
    simp (disch := decide) only [↓ View.readCov_skip, ↓ View.readCov_cons_toLoadRect, ↓ View.readCov_fill]
    frame_out
    exact rows_at m c t _ _ _ _ (fun j => by rw [View.writes_nil, Memref.IsWhole.read_unread]) j

/-- The array of the four gradients. -/
theorem out_final (c : Dev nD) :
    (dats m 0 c).arrAt 11 cfg0.N = fun i : S8192x2048.Idx => dp (Y m c) (P m c) (W m c) (i 0).val (i 1).val := by
  refine (dats m 0 c).arrAt_eq_of_covers 11 _ (by decide +kernel) fun t hf y => ?_
  have e := idx t
  rw [after0_11]
  refine (out_at m c t y).trans ?_
  congr 1 <;> blk_simp [e.2.2.2.2.2.2.1] <;> omega

/-- The sum of the points' parts. -/
theorem parts (c : Dev nD) (j : S8x512.Idx) :
    0 + ∑ k ∈ Finset.range 16, term m c k j = dw (Y m c) (P m c) (j 0).val (j 1).val := by
  unfold term dw
  split
  · rw [zero_add]
    exact sum_blocks 16 512 fun r => tapTerm (Y m c) (P m c) (j 0).val r (j 1).val
  · simp

/-- The array of the taps' gradient. -/
theorem dw_final (c : Dev nD) :
    (dats m 0 c).arrAt 12 cfg0.N = fun i : S8x512.Idx => dw (Y m c) (P m c) (i 0).val (i 1).val := by
  refine (dats m 0 c).arrAt_eq_of_covers 12 _ (by decide +kernel) fun t hf y => ?_
  have e := idx t
  have hr := (flush0_12 t).mp hf
  have ht : t.val < 16 := t.isLt
  rw [after0_12]
  refine (dw_at m c t y).trans ?_
  rw [show t.val % 16 + 1 = 16 by omega, show 16 * (t.val / 16) = 0 by omega]
  simp only [Nat.zero_add]
  refine (parts m c y).trans ?_
  congr 1 <;> blk_simp [e.2.2.2.2.2.2.2] <;> omega

end Cert.BranchA
end
-- ==== Proof.MixerARef.lean ====
module

public import proofs.«01_k».proof.Proof.Gen.ReferenceIdeal.Run
public import proofs.«01_k».proof.Proof.Gen.ReferenceIdeal.Read
public import proofs.«01_k».proof.Proof.MixerA
public import Idealize.ShloMosaic.Lib.Pointwise

/-!
What the reference of mixer A's gradient computes: the differentiated program's operations, read element by element, are the
gradient's formulas.
-/

@[expose] public section

set_option maxRecDepth 16384

noncomputable section

namespace Cert.MixerARef

open Cert.ReferenceIdeal Cert.ReferenceIdeal.Read Cert.Rd Cert.MixerA
open Idealize.ShloMosaic Idealize.ShloMosaic.TcCoe Idealize.SL.Sem

variable (Y : S8192x2048.Idx → EReal) (P : S8192x6144.Idx → EReal) (W : S3x512.Idx → EReal)

/-! ## The values that the forward pass saves -/

/-- The convolution's input. -/
theorem u_at (r : Fin 8192) (c : Fin 512) : val_main_v5 (F := Ideal) P (ix2 r c) = u P r.val c.val := by
  pointwise [val_main_v5, val_main_v2, val_main_v3, val_main_v0]
  exact congrArg₂ (· * ·) (rd_at P _ _ _ rfl rfl) (rd_at P _ _ _ rfl rfl)

/-- The convolution's input behind two rows of zeros. -/
theorem up_at (r : Fin 8194) (c : Fin 512) : val_main_v7 (F := Ideal) P (ix2 r c) = sh 2 (u P) r.val c.val := by
  pointwise [val_main_v7, val_main_v6, val_main_cst]
  unfold sh
  by_cases h : r.val < 2
  · rw [dif_pos h, if_neg (by omega)]
  · rw [dif_neg h]
    refine (u_at P ⟨r.val - 2, by omega⟩ c).trans ?_
    rw [if_pos (by omega)]

/-- Two rows back. -/
theorem s2_at (r : Fin 8192) (c : Fin 512) : val_main_v9 (F := Ideal) P (ix2 r c) = sh 2 (u P) r.val c.val := by
  pointwise [val_main_v9]
  exact up_at P ⟨r.val, by omega⟩ c

/-- One row back. -/
theorem s1_at (r : Fin 8192) (c : Fin 512) : val_main_v15 (F := Ideal) P (ix2 r c) = sh 1 (u P) r.val c.val := by
  pointwise [val_main_v15]
  refine (up_at P ⟨1 + r.val, by omega⟩ c).trans ?_
  show sh 2 (u P) (1 + r.val) c.val = _
  unfold sh
  by_cases h : 1 ≤ r.val
  · rw [if_pos h, if_pos (by omega), show 1 + r.val - 2 = r.val - 1 by omega]
  · rw [if_neg h, if_neg (by omega)]

/-- The row itself. -/
theorem s0_at (r : Fin 8192) (c : Fin 512) : val_main_v22 (F := Ideal) P (ix2 r c) = u P r.val c.val := by
  pointwise [val_main_v22]
  refine (up_at P ⟨2 + r.val, by omega⟩ c).trans ?_
  show sh 2 (u P) (2 + r.val) c.val = _
  rw [sh, if_pos (by omega), show 2 + r.val - 2 = r.val by omega]

theorem w0_at (r : Fin 8192) (c : Fin 512) : val_main_v13 (F := Ideal) W (ix2 r c) = rd W 0 c.val := by
  pointwise [val_main_v13, val_main_v12, val_main_v11, val_main_v10]
  exact rd_at W _ _ _ rfl rfl

theorem w1_at (r : Fin 8192) (c : Fin 512) : val_main_v19 (F := Ideal) W (ix2 r c) = rd W 1 c.val := by
  pointwise [val_main_v19, val_main_v18, val_main_v17, val_main_v16]
  exact rd_at W _ _ _ rfl rfl

theorem w2_at (r : Fin 8192) (c : Fin 512) : val_main_v26 (F := Ideal) W (ix2 r c) = rd W 2 c.val := by
  pointwise [val_main_v26, val_main_v25, val_main_v24, val_main_v23]
  exact rd_at W _ _ _ rfl rfl

/-- The convolution's result. -/
theorem v_at (r : Fin 8192) (c : Fin 512) : val_main_v28 (F := Ideal) P W (ix2 r c) = v P W r.val c.val := by
  pointwise [val_main_v28, val_main_v27, val_main_v21, val_main_v20, val_main_v14]
  rw [s0_at, s1_at, s2_at, w0_at, w1_at, w2_at, v, mul_comm (rd W 0 c.val), mul_comm (rd W 1 c.val), mul_comm (rd W 2 c.val),
    add_comm _ (_ * rd W 2 c.val), ← add_assoc, add_right_comm]

/-- The gate's sigmoid. -/
theorem sg_at (r : Fin 8192) (c : Fin 512) : val_main_v30_2 (F := Ideal) P (ix2 r c) = sg P r.val c.val := by
  pointwise [val_main_v30_2, val_main_call0_v4, val_main_call0_cst_0, val_main_call0_v3, val_main_call0_v2, val_main_call0_v1,
    val_main_call0_v0, val_main_call0_cst, val_main_v4, val_main_v0]
  rw [sg, ← rd_at P (ix2 r ⟨1536 + c.val, by omega⟩) r.val (1536 + c.val) rfl rfl]
  rfl

theorem x_at (r : Fin 8192) (c : Fin 512) : val_main_v4 (F := Ideal) P (ix2 r c) = rd P r.val (1536 + c.val) := by
  pointwise [val_main_v4, val_main_v0]
  exact rd_at P _ _ _ rfl rfl

theorem b_at (r : Fin 8192) (c : Fin 512) : val_main_v1 (F := Ideal) P (ix2 r c) = rd P r.val c.val := by
  pointwise [val_main_v1, val_main_v0]
  exact rd_at P _ _ _ rfl rfl

theorem y_at (r : Fin 8192) (c : Fin 512) : val_main_v32 (F := Ideal) Y (ix2 r c) = rd Y r.val c.val := by
  pointwise [val_main_v32]
  exact rd_at Y _ _ _ rfl rfl

/-- The gate's value. -/
theorem silu_at (r : Fin 8192) (c : Fin 512) :
    val_main_v30_0 (F := Ideal) P (ix2 r c) = rd P r.val (1536 + c.val) * sg P r.val c.val := by
  pointwise [val_main_v30_0]
  rw [x_at, sg_at]

/-! ## The gradients -/

/-- The gradient of the convolution's result. -/
theorem dv_at (r : Fin 8192) (c : Fin 512) : val_main_v36 (F := Ideal) Y P (ix2 r c) = dv Y P r.val c.val := by
  pointwise [val_main_v36, val_main_v34]
  rw [b_at, y_at, silu_at, dv, ← mul_assoc, mul_comm (rd P _ _) (rd Y _ _)]

/-- The gradient of the first input. -/
theorem gb_at (r : Fin 8192) (c : Fin 512) : val_main_v37 (F := Ideal) Y P W (ix2 r c) = gb Y P W r.val c.val := by
  pointwise [val_main_v37, val_main_v34]
  rw [y_at, silu_at, v_at, gb, mul_right_comm]

/-- The gradient of the convolution's input. -/
theorem du_at (r : Fin 8192) (c : Fin 512) : val_main_v70 (F := Ideal) Y P W (ix2 r c) = du Y P W r.val c.val := by
  have e2 (r : Fin 8192) : val_main_v42 (F := Ideal) Y P W (ix2 r c) = rd W 2 c.val * dv Y P r.val c.val := by
    pointwise [val_main_v42, val_main_v41]
    rw [dv_at, ← w2_at W r c, mul_comm]
    pointwise [val_main_v26]
  have e1 (r : Fin 8192) : val_main_v51 (F := Ideal) Y P W (ix2 r c) = rd W 1 c.val * dv Y P r.val c.val := by
    pointwise [val_main_v51, val_main_v50]
    rw [dv_at, ← w1_at W r c, mul_comm]
    pointwise [val_main_v19]
  have e0 (r : Fin 8192) : val_main_v62 (F := Ideal) Y P W (ix2 r c) = rd W 0 c.val * dv Y P r.val c.val := by
    pointwise [val_main_v62, val_main_v61]
    rw [dv_at, ← w0_at W r c, mul_comm]
    pointwise [val_main_v13]
  pointwise [val_main_v70, val_main_v68, val_main_v67, val_main_v57, val_main_v56, val_main_v46, val_main_cst_12, val_main_cst_8,
    val_main_cst_4]
  unfold du
  refine congrArg₂ (· + ·) (congrArg₂ (· + ·) (e2 r) ?_) ?_
  · by_cases h : r.val + 1 < 8192
    · rw [dif_pos ⟨by omega, by omega⟩]
      refine (e1 ⟨2 + r.val - 1, by omega⟩).trans ?_
      show rd W 1 c.val * dv Y P (2 + r.val - 1) c.val = _
      rw [show 2 + r.val - 1 = r.val + 1 by omega]
    · rw [dif_neg (fun hh => by omega), dv_out _ _ _ _ (by omega), mul_zero]
  · by_cases h : r.val + 2 < 8192
    · rw [dif_pos (by omega)]
      refine (e0 ⟨2 + r.val, by omega⟩).trans ?_
      show rd W 0 c.val * dv Y P (2 + r.val) c.val = _
      rw [Nat.add_comm 2]
    · rw [dif_neg (fun hh => by omega), dv_out _ _ _ _ (by omega), mul_zero]

/-- The gradient of the second input. -/
theorem gc_at (r : Fin 8192) (c : Fin 512) : val_main_v72 (F := Ideal) Y P W (ix2 r c) = gc Y P W r.val c.val := by
  pointwise [val_main_v72, val_main_v3, val_main_v0]
  rw [du_at, gc]
  exact congrArg _ (rd_at P _ _ _ rfl rfl)

/-- The gradient of the third input. -/
theorem gx_at (r : Fin 8192) (c : Fin 512) : val_main_v71 (F := Ideal) Y P W (ix2 r c) = gx Y P W r.val c.val := by
  pointwise [val_main_v71, val_main_v2, val_main_v0]
  rw [du_at, gx, mul_comm]
  exact congrArg _ (rd_at P _ _ _ rfl rfl)

/-- The gradient of the taps. -/
theorem dw_at (r : Fin 3) (c : Fin 512) : val_main_v66 (F := Ideal) Y P (ix2 r c) = dw Y P r.val c.val := by
  have e2 (r : Fin 8192) : val_main_v38 (F := Ideal) Y P (ix2 r c) = tapTerm Y P 2 r.val c.val := by
    pointwise [val_main_v38]
    rw [dv_at, s0_at, mul_comm]
    rfl
  have e1 (r : Fin 8192) : val_main_v47 (F := Ideal) Y P (ix2 r c) = tapTerm Y P 1 r.val c.val := by
    pointwise [val_main_v47]
    rw [dv_at, s1_at, mul_comm]
    rfl
  have e0 (r : Fin 8192) : val_main_v58 (F := Ideal) Y P (ix2 r c) = tapTerm Y P 0 r.val c.val := by
    pointwise [val_main_v58]
    rw [dv_at, s2_at, mul_comm]
    rfl
  pointwise [val_main_v66, val_main_v65, val_main_cst_11, val_main_v64, val_main_v63, val_main_cst_10, val_main_v60, val_main_v59,
    val_main_cst_9, val_main_v55, val_main_v54, val_main_cst_7, val_main_v53, val_main_v52, val_main_cst_6, val_main_v49,
    val_main_v48, val_main_cst_5, val_main_v45, val_main_cst_3, val_main_v44, val_main_v43, val_main_cst_2, val_main_v40,
    val_main_v39, val_main_cst_1]
  simp only [e0, e1, e2]
  fin_cases r <;> simp [dw]

/-- The gradient of the gate's input. -/
theorem g_at (r : Fin 8192) (c : Fin 512) : val_main_v35 (F := Ideal) Y P W (ix2 r c)
    = rd P r.val c.val * v P W r.val c.val * rd Y r.val c.val * sg P r.val c.val
      + rd P r.val (1536 + c.val) * (rd P r.val c.val * v P W r.val c.val * rd Y r.val c.val) * (sg P r.val c.val * (1 - sg P r.val c.val)) := by
  pointwise [val_main_v35, val_main_call1_v2, val_main_call1_v1, val_main_call1_v0, val_main_v30_1, val_main_call0_v7,
    val_main_call0_v6, val_main_call0_cst_1, val_main_v33, val_main_v29]
  rw [b_at, v_at, y_at, x_at, sg_at]

/-- The two ways to write the gate's gradient agree on real numbers. -/
theorem gate (b v y x : ℝ) :
    (b * v * y * Ideal.logistic x + x * (b * v * y) * (Ideal.logistic x * (1 - Ideal.logistic x)) : EReal)
      = y * b * v * (Ideal.logistic x * (1 + x * (1 - Ideal.logistic x))) := by
  rw [Ideal.logistic_coe]
  norm_cast
  ring

/-- An element of an array of real numbers, zero outside it, is a real number. -/
theorem rd_real {M N : ℕ} (A : (⟨2, ![M, N]⟩ : Shape).Idx → EReal) (h : ∀ i, ∃ x : ℝ, A i = x) (r c : ℕ) : ∃ x : ℝ, rd A r c = x := by
  unfold rd
  split
  · exact h _
  · exact ⟨0, rfl⟩

/-- The convolution's result is a real number where its operands are. -/
theorem v_real (hP : ∀ i, ∃ x : ℝ, P i = x) (hW : ∀ i, ∃ x : ℝ, W i = x) (r c : ℕ) : ∃ x : ℝ, v P W r c = x := by
  have hu (r c : ℕ) : ∃ x : ℝ, u P r c = x := by
    obtain ⟨a, ha⟩ := rd_real P hP r (512 + c)
    obtain ⟨b, hb⟩ := rd_real P hP r (1024 + c)
    exact ⟨a * b, by rw [u, ha, hb, EReal.coe_mul]⟩
  have hs (k r c : ℕ) : ∃ x : ℝ, sh k (u P) r c = x := by
    unfold sh
    split
    · exact hu _ _
    · exact ⟨0, rfl⟩
  obtain ⟨a0, h0⟩ := hu r c
  obtain ⟨a1, h1⟩ := hs 1 r c
  obtain ⟨a2, h2⟩ := hs 2 r c
  obtain ⟨w0, k0⟩ := rd_real W hW 0 c
  obtain ⟨w1, k1⟩ := rd_real W hW 1 c
  obtain ⟨w2, k2⟩ := rd_real W hW 2 c
  exact ⟨w2 * a0 + w1 * a1 + w0 * a2, by rw [v, h0, h1, h2, k0, k1, k2]; norm_cast⟩

/-- The gradient of the gate's input, on real numbers. -/
theorem gg_at (hY : ∀ i, ∃ x : ℝ, Y i = x) (hP : ∀ i, ∃ x : ℝ, P i = x) (hW : ∀ i, ∃ x : ℝ, W i = x) (r : Fin 8192) (c : Fin 512) :
    val_main_v35 (F := Ideal) Y P W (ix2 r c) = gg Y P W r.val c.val := by
  rw [g_at, gg, sg]
  obtain ⟨y, ey⟩ := rd_real Y hY r.val c.val
  obtain ⟨b, eb⟩ := rd_real P hP r.val c.val
  obtain ⟨x, ex⟩ := rd_real P hP r.val (1536 + c.val)
  obtain ⟨z, ez⟩ := v_real P W hP hW r.val c.val
  rw [ey, eb, ex, ez]
  exact gate b z y x

/-- The array of the four gradients. -/
theorem out_eq (hY : ∀ i, ∃ x : ℝ, Y i = x) (hP : ∀ i, ∃ x : ℝ, P i = x) (hW : ∀ i, ∃ x : ℝ, W i = x) :
    val_main_v74 (F := Ideal) Y P W = fun i : S8192x2048.Idx => dp Y P W (i 0).val (i 1).val := by
  funext i
  idx_vars i
  pointwise [val_main_v74, val_main_v73]
  unfold dp
  by_cases h1 : i1.val < 512
  · rw [dif_pos h1]
    exact (gb_at Y P W i0 ⟨i1.val, h1⟩).trans (if_pos h1).symm
  by_cases h2 : i1.val < 1024
  · rw [dif_neg h1, dif_pos (by omega)]
    exact (gc_at Y P W i0 ⟨i1.val - 512, by omega⟩).trans ((if_neg h1).trans (if_pos h2)).symm
  by_cases h3 : i1.val < 1536
  · rw [dif_neg h1, dif_neg (by omega), dif_pos (by omega)]
    refine (gx_at Y P W i0 ⟨i1.val - 512 - 512, by omega⟩).trans (Eq.trans ?_ ((if_neg h1).trans ((if_neg h2).trans (if_pos h3))).symm)
    exact congrArg (gx Y P W _) (Nat.sub_sub _ _ _)
  · rw [dif_neg h1, dif_neg (by omega), dif_neg (by omega)]
    refine (gg_at Y P W hY hP hW i0 ⟨i1.val - 512 - 512 - 512, by omega⟩).trans
      (Eq.trans ?_ ((if_neg h1).trans ((if_neg h2).trans (if_neg h3))).symm)
    exact congrArg (gg Y P W _) (by show i1.val - 512 - 512 - 512 = _; omega)

/-- The array of the taps' gradient. -/
theorem dw_eq : val_main_v75 (F := Ideal) Y P = fun i : S8x512.Idx => dw Y P (i 0).val (i 1).val := by
  funext i
  idx_vars i
  pointwise [val_main_v75, val_main_call2_v0, val_main_c]
  by_cases h : i0.val < 3
  · rw [dif_pos h]
    exact dw_at Y P ⟨i0.val, h⟩ i1
  · rw [dif_neg h]
    refine Eq.trans ?_ (if_neg h).symm
    show (((0#32 : BitVec 32).toInt : ℝ) : EReal) = 0
    simp

end Cert.MixerARef
end
-- ==== Proof.Finite.lean ====
module

public import proofs.«01_k».proof.Defs
public import proofs.«01_k».proof.Proof.Common
public import Idealize.ShloMosaic.Lib.Pointwise

/-! The precondition, read on the extended reals: every entry of the three arguments is a real number. -/

@[expose] public section

set_option maxRecDepth 16384

noncomputable section

namespace Cert.Finite

open Idealize.ShloMosaic

/-- A magnitude below infinity is that of a real number. -/
theorem real_of_abs (x : EReal) (h : FloatOps.cmpf (F := Ideal) (φ := .f32) .olt (FloatOps.hostAbsf (F := Ideal) (φ := .f32) x) (FloatOps.ofBits (F := Ideal) .f32 0x7F800000#32) = 1#1) : ∃ r : ℝ, x = r := by
  have hi : FloatOps.ofBits (F := Ideal) .f32 0x7F800000#32 = (⊤ : EReal) := by
    show Ideal.ofBits .f32 _ = _
    simp [Ideal.ofBits, Ideal.ieee]
  rw [hi] at h
  have h' : max x (-x) < ⊤ := by
    by_contra hh
    have : FloatOps.cmpf (F := Ideal) (φ := .f32) .olt (max x (-x)) (⊤ : EReal) = 0#1 := by
      show Ideal.cmp .olt (max x (-x)) ⊤ = 0#1
      rw [Ideal.cmp]
      simp only [hh]
      rfl
    exact absurd (h.symm.trans this) (by decide)
  induction x using EReal.rec with
  | bot => simp at h'
  | top => simp at h'
  | coe r => exact ⟨r, rfl⟩

/-- The precondition makes every entry real. -/
theorem real_of_pre [Cert.Pre_finite.Facts] (Y : Vec Ideal ⟨2, ![8192, 2048]⟩ .f32) (P : Vec Ideal ⟨2, ![8192, 6144]⟩ .f32) (W : Vec Ideal ⟨2, ![3, 512]⟩ .f32)
    (h0 : (Cert.Pre_finite.fn (F := Ideal) Y P W).1 = fun _ => 1#1) (h1 : (Cert.Pre_finite.fn (F := Ideal) Y P W).2.1 = fun _ => 1#1)
    (h2 : (Cert.Pre_finite.fn (F := Ideal) Y P W).2.2 = fun _ => 1#1) :
    (∀ i, ∃ x : ℝ, Y i = x) ∧ (∀ i, ∃ x : ℝ, P i = x) ∧ ∀ i, ∃ x : ℝ, W i = x := by
  refine ⟨fun i => real_of_abs _ ?_, fun i => real_of_abs _ ?_, fun i => real_of_abs _ ?_⟩
  · exact congrFun h0 i
  · exact congrFun h1 i
  · exact congrFun h2 i

end Cert.Finite
end
-- ==== Proof.MixerAEq.lean ====
module

public import proofs.«01_k».proof.Defs
public import proofs.«01_k».proof.Proof.BranchA
public import proofs.«01_k».proof.Proof.MixerARef
public import proofs.«01_k».proof.Proof.Finite

/-! The kernel of mixer A's gradient and its reference leave the same arrays. -/

@[expose] public section

set_option maxRecDepth 16384

noncomputable section

namespace Cert.MixerAEq

open Idealize.ShloMosaic Idealize.ShloMosaic.TcCoe Idealize.SL.Sem

/-- On finite arguments the kernel and the reference end with equal gradients of the four inputs and of the taps. -/
theorem algebraic [Cert.Pre_finite.Facts] : Cert.algebraic_KernelIdeal_ReferenceIdeal_pre_finite := fun m ρ m' ρ' pre hag => by
  refine ⟨fun c => fun i : (⟨2, ![8192, 2048]⟩ : Shape).Idx => MixerA.dp (BranchA.Y m c) (BranchA.P m c) (BranchA.W m c) (i 0).val (i 1).val,
    fun c => fun i : (⟨2, ![8, 512]⟩ : Shape).Idx => MixerA.dw (BranchA.Y m c) (BranchA.P m c) (i 0).val (i 1).val,
    (θ_run _ _ _).mono (fun _ h c => ⟨(h c).1.trans (BranchA.out_final m c), (h c).2.1.trans (BranchA.dw_final m c), (h c).2.2⟩)
      (Cert.KernelIdeal.Value.run_blocks m ρ),
    (θ_run _ _ _).mono (fun _ h c => ⟨(h c).1.trans ?_, (h c).2.1.trans ?_, (h c).2.2⟩) (Cert.ReferenceIdeal.Value.run m' ρ')⟩
  · obtain ⟨hY, hP, hW⟩ := Finite.real_of_pre _ _ _ (pre c).1 (pre c).2.1 (pre c).2.2
    rw [Cert.ReferenceIdeal.Read.val_main_v74_eq, (hag c).1, (hag c).2.1, (hag c).2.2]
    exact MixerARef.out_eq _ _ _ hY hP hW
  · rw [Cert.ReferenceIdeal.Read.val_main_v75_eq, (hag c).1, (hag c).2.1]
    exact MixerARef.dw_eq _ _

end Cert.MixerAEq
end
-- ==== Proof.Conv.lean ====
module

public import proofs.«01_k».proof.Proof.Common

/-!
The gradient of mixer C's causal convolution of four taps, row by row.

`D` is the gradient of the convolution's result, `P` the projection, whose columns from 4096 on are the convolution's input, and
`W` the taps.
-/

@[expose] public section

noncomputable section

namespace Cert.Conv

open Idealize.ShloMosaic Cert.Rd

variable (D : (⟨2, ![8192, 512]⟩ : Shape).Idx → EReal) (P : (⟨2, ![8192, 6144]⟩ : Shape).Idx → EReal)
  (W : (⟨2, ![4, 512]⟩ : Shape).Idx → EReal)

/-- The convolution's input. -/
def x (r c : ℕ) : EReal := rd P r (4096 + c)

/-- The gradient of the convolution's input. -/
def dx (r c : ℕ) : EReal :=
  rd W 3 c * rd D r c + rd W 2 c * rd D (r + 1) c + rd W 1 c * rd D (r + 2) c + rd W 0 c * rd D (r + 3) c

/-- One row's part of the gradient of tap `k`. -/
def tapTerm (k r c : ℕ) : EReal := rd D r c * sh (3 - k) (x P) r c

/-- The gradient of the taps, its four rows of padding zero. -/
def dw (k c : ℕ) : EReal := if k < 4 then ∑ r : Fin 8192, tapTerm D P k r.val c else 0

/-- The gradient of the bias. -/
def db (c : ℕ) : EReal := ∑ r : Fin 8192, rd D r.val c

/-- Beyond the last row the gradient of the convolution's result is zero. -/
theorem out (r c : ℕ) (h : 8192 ≤ r) : rd D r c = 0 := dif_neg (by omega)

end Cert.Conv
end
-- ==== Proof.ConvC.lean ====
module

public import proofs.«01_k».proof.Proof.Gen.Kernel2Ideal.Value
public import proofs.«01_k».proof.Proof.Common
public import proofs.«01_k».proof.Proof.Shift
public import proofs.«01_k».proof.Proof.Conv
public import Idealize.ShloMosaic.Lib.Pointwise
public import Idealize.ShloMosaic.Lib.StableHlo.ReadAt
public import Idealize.ShloMosaic.Lib.WritesUnit

/-! What the kernel of mixer C's convolution leaves in its three arrays: the gradients' formulas. -/

@[expose] public section

set_option maxRecDepth 16384

noncomputable section

namespace Cert.ConvC

open Cert.Kernel2Ideal Cert.Kernel2Ideal.Gen Cert.Rd Cert.Shift Cert.Conv
open Idealize.ShloMosaic Idealize.ShloMosaic.TcCoe Idealize.SL.Sem

/-! ## What the body computes from its blocks -/

/-- The gradient of the convolution's input on a block. -/
theorem dx_at (i : grid0.Coords) (g : Vec Ideal S512x512 .f32) (n : Vec Ideal S8x512 .f32) (w3 w2 w1 w0 : Vec Ideal S1x512 .f32)
    (r c : Fin 512) :
    k0_pay12 g (k0_pay6 i n) (k0_pay7 i g n w3 w2) (k0_pay8 w1) (k0_pay9 g) k0_pay10 (k0_pay11 i n) w0 (ix2 r c)
      = w3 (ix2 0 c) * g (ix2 r c) + w2 (ix2 0 c) * up 1 g (k0_pay6 i n) (ix2 r c)
        + w1 (ix2 0 c) * up 2 g (k0_pay6 i n) (ix2 r c) + w0 (ix2 0 c) * up 3 g (k0_pay6 i n) (ix2 r c) := by
  unfold k0_pay12 k0_pay7 k0_pay8 k0_pay9 k0_pay10 k0_pay11
  dsimp only
  rw [up1, up2, up3]
  pointwise []

/-- The part of a block in the gradient of the last tap. -/
theorem tap3_at (g v : Vec Ideal S512x512 .f32) (w : Vec Ideal S1x512 .f32) (c : Fin 512) :
    k0_pay14 g v w (ix2 0 c) = w (ix2 0 c) + ∑ r : Fin 512, g (ix2 r c) * v (ix2 r c) := by
  pointwise [k0_pay14]

/-- The part of a block in the gradient of the first tap. -/
theorem tap0_at (g v : Vec Ideal S512x512 .f32) (p : Vec Ideal S8x512 .f32) (w : Vec Ideal S1x512 .f32) (c : Fin 512) :
    k0_pay17 g p (k0_pay15 w) (k0_pay16 v) (iota .tc S8x512 32 [0] iota_S8x512_d0_w32) 3#32 (ix2 0 c)
      = w (ix2 0 c) + ∑ r : Fin 512, g (ix2 r c) * down 3 v p (ix2 r c) := by
  unfold k0_pay17 k0_pay15 k0_pay16
  dsimp only
  rw [down3]
  pointwise []

/-- The part of a block in the gradient of the second tap. -/
theorem tap1_at (g v : Vec Ideal S512x512 .f32) (p : Vec Ideal S8x512 .f32) (w : Vec Ideal S1x512 .f32) (c : Fin 512) :
    k0_pay18 g v p w (ix2 0 c) = w (ix2 0 c) + ∑ r : Fin 512, g (ix2 r c) * down 2 v p (ix2 r c) := by
  unfold k0_pay18
  dsimp only
  rw [down2]
  pointwise []

/-- The part of a block in the gradient of the third tap. -/
theorem tap2_at (g v : Vec Ideal S512x512 .f32) (p : Vec Ideal S8x512 .f32) (w : Vec Ideal S1x512 .f32) (c : Fin 512) :
    k0_pay1 (k0_pay19 w) (k0_pay20 g v p) (ix2 0 c) = w (ix2 0 c) + ∑ r : Fin 512, g (ix2 r c) * down 1 v p (ix2 r c) := by
  unfold k0_pay1 k0_pay19 k0_pay20
  dsimp only
  rw [down1]
  pointwise []

/-- The part of a block in the gradient of the bias. -/
theorem bias_at (g : Vec Ideal S512x512 .f32) (w : Vec Ideal S1x512 .f32) (c : Fin 512) :
    k0_pay2 g w (ix2 0 c) = w (ix2 0 c) + ∑ r : Fin 512, g (ix2 r c) := by
  pointwise [k0_pay2]

variable (m : (ℓ : Loc nD τ sig) → Buf (Elt Ideal) ℓ)

/-- The gradient of the convolution's result. -/
abbrev D (c : Dev nD) : S8192x512.Idx → EReal := m ((c : Thread nD τ).loc main_arg0)
/-- The projection. -/
abbrev P (c : Dev nD) : S8192x6144.Idx → EReal := m ((c : Thread nD τ).loc main_arg1)
/-- The taps. -/
abbrev W (c : Dev nD) : S4x512.Idx → EReal := m ((c : Thread nD τ).loc main_arg2)

/-- The block indices of the windows at grid point `t`. -/
theorem idx : ∀ t : Fin grid0.N,
    (win0_0.index t = ![t.val, 0] ∧ win0_1.index t = ![min (64 * (t.val + 1)) 1023, 0])
      ∧ (win0_2.index t = ![t.val, 8] ∧ win0_3.index t = ![64 * t.val - 1, 8])
      ∧ win0_4.index t = ![0, 0] ∧ win0_5.index t = ![t.val, 0] ∧ win0_6.index t = ![0, 0] ∧ win0_7.index t = ![0, 0] := by
  decide +kernel

/-- The factor that cuts off what lies before the first block. -/
theorem has_prev : ∀ t : Fin grid0.N, (Scalar.extui (Scalar.cmpi .sgt (BitVec.ofNat 32 (grid0.coords t 0).val) 0#32) : BitVec 32)
    = if t.val = 0 then 0#32 else 1#32 := by
  decide +kernel

/-- The factor that cuts off what lies behind the last block. -/
theorem has_next : ∀ t : Fin grid0.N, (Scalar.extui (Scalar.cmpi .slt (BitVec.ofNat 32 (grid0.coords t 0).val) 15#32) : BitVec 32)
    = if t.val = 15 then 0#32 else 1#32 := by
  decide +kernel

/-! Each window's block at grid point `t`, as elements of the window's array. -/

/-- The rows of the gradient. -/
theorem blk0 (c : Dev nD) (t : Fin cfg0.N) (y : S512x512.Idx) :
    (iblk m c 0 t : S512x512.Idx → EReal) y = rd (D m c) (512 * t.val + (y 0).val) (y 1).val := by
  have e := idx t
  refine (rfl : _ = D m c (((cfg0.win 0).blk t).view.emb y)).trans (rd_at _ _ _ _ ?_ ?_) <;> blk_simp [e.1.1] <;> omega

/-- The same rows, as a function into the extended reals. -/
abbrev gblk (c : Dev nD) (t : Fin cfg0.N) : S512x512.Idx → EReal := iblk m c 0 t

/-- The eight rows of the gradient behind them. -/
theorem blk1 (c : Dev nD) (t : Fin cfg0.N) (y : S8x512.Idx) :
    (iblk m c 1 t : S8x512.Idx → EReal) y = rd (D m c) (8 * min (64 * (t.val + 1)) 1023 + (y 0).val) (y 1).val := by
  have e := idx t
  refine (rfl : _ = D m c (((cfg0.win 1).blk t).view.emb y)).trans (rd_at _ _ _ _ ?_ ?_) <;> blk_simp [e.1.2] <;> omega

/-- The rows of the input. -/
theorem blk2 (c : Dev nD) (t : Fin cfg0.N) (y : S512x512.Idx) :
    (iblk m c 2 t : S512x512.Idx → EReal) y = x (P m c) (512 * t.val + (y 0).val) (y 1).val := by
  have e := idx t
  refine (rfl : _ = P m c (((cfg0.win 2).blk t).view.emb y)).trans (rd_at _ _ _ _ ?_ ?_) <;> blk_simp [e.2.1.1] <;> omega

/-- The eight rows of the input before them. -/
theorem blk3 (c : Dev nD) (t : Fin cfg0.N) (y : S8x512.Idx) :
    (iblk m c 3 t : S8x512.Idx → EReal) y = x (P m c) (8 * (64 * t.val - 1) + (y 0).val) (y 1).val := by
  have e := idx t
  refine (rfl : _ = P m c (((cfg0.win 3).blk t).view.emb y)).trans (rd_at _ _ _ _ ?_ ?_) <;> blk_simp [e.2.1.2] <;> omega

/-- The padded taps: the taps, and zero below them. -/
theorem pad_at (c : Dev nD) (y : S8x512.Idx) : V m c main_v0 y = rd (W m c) (y 0).val (y 1).val := by
  unfold V
  after_reads_at
  unfold rd
  by_cases h : (y 0).val < 4
  · rw [dif_pos h, dif_pos ⟨h, (y 1).isLt⟩]
    rfl
  · rw [dif_neg h, dif_neg (fun hh => h hh.1)]
    show (((0#32 : BitVec 32).toInt : ℝ) : EReal) = 0
    simp

/-- The taps, whole at every point. -/
theorem blk4 (c : Dev nD) (t : Fin cfg0.N) (y : S8x512.Idx) :
    (iblk m c 4 t : S8x512.Idx → EReal) y = rd (W m c) (y 0).val (y 1).val := by
  have e := idx t
  refine (rfl : _ = V m c main_v0 (((cfg0.win 4).blk t).view.emb y)).trans ?_
  rw [pad_at]
  congr 1 <;> blk_simp [e.2.2.1] <;> omega

/-- The eight rows before the block; zero before the first block. -/
theorem p_at (c : Dev nD) (t : Fin cfg0.N) (y : S8x512.Idx) :
    k0_pay13 (k0_pay5 (grid0.coords t)) (iblk m c 3 t) y = sh 8 (x (P m c)) (512 * t.val + (y 0).val) (y 1).val := by
  pointwise [k0_pay13, k0_pay5]
  rw [has_prev, blk3, sh]
  by_cases h : t.val = 0
  · rw [if_pos h, if_neg (by have := (y 0).isLt; simp at this; omega)]
    simp
  · rw [if_neg h, if_pos (by omega), show 512 * t.val + (y 0).val - 8 = 8 * (64 * t.val - 1) + (y 0).val by omega]
    simp

/-- The eight rows behind the block; zero behind the last block. -/
theorem n_at (c : Dev nD) (t : Fin cfg0.N) (y : S8x512.Idx) :
    k0_pay6 (grid0.coords t) (iblk m c 1 t) y = rd (D m c) (512 * t.val + 512 + (y 0).val) (y 1).val := by
  pointwise [k0_pay6]
  rw [has_next, blk1]
  have ht : t.val < 16 := t.isLt
  by_cases h : t.val = 15
  · rw [if_pos h, out _ _ _ (by omega : 8192 ≤ 512 * t.val + 512 + (y 0).val)]
    simp
  · rw [if_neg h, show 8 * min (64 * (t.val + 1)) 1023 + (y 0).val = 512 * t.val + 512 + (y 0).val by omega]
    simp

/-- A row of the taps, loaded. -/
theorem row_at (c : Dev nD) (t : Fin cfg0.N) (k : ℕ) (hk : k < 8) (h) (z : Fin 512) :
    (View.ld (Val := Elt Ideal) (e' := .f32) (iblk m c 4 t : S8x512.Idx → EReal) (Rect.unit ![k, 0] ![1, 512] h) : S1x512.Idx → EReal) (ix2 0 z) = rd (W m c) k z.val := by
  rw [View.ld_apply, blk4]
  show rd (W m c) (k + 1 * 0) (0 + 1 * z.val) = _
  rw [Nat.mul_zero, Nat.add_zero, Nat.zero_add, Nat.one_mul]

/-- A row of the taps' gradient, loaded. -/
theorem ld_row (f : S8x512.Idx → EReal) (k : Fin 8) (h) (z : Fin 512) :
    (View.ld (Val := Elt Ideal) (e' := .f32) f (Rect.unit ![k.val, 0] ![1, 512] h) : S1x512.Idx → EReal) (ix2 0 z) = f (ix2 k z) := by
  rw [View.ld_apply]
  refine congrArg f (funext fun a => Fin.ext ?_)
  fin_cases a
  · show k.val + 1 * 0 = k.val
    omega
  · show 0 + 1 * z.val = z.val
    omega

/-- The gradient of the input on the block of grid point `t`. -/
theorem g_at (c : Dev nD) (t : Fin cfg0.N) (w3 w2 w1 w0 : Vec Ideal S1x512 .f32)
    (h3 : ∀ z : Fin 512, w3 (ix2 0 z) = rd (W m c) 3 z.val) (h2 : ∀ z : Fin 512, w2 (ix2 0 z) = rd (W m c) 2 z.val)
    (h1 : ∀ z : Fin 512, w1 (ix2 0 z) = rd (W m c) 1 z.val) (h0 : ∀ z : Fin 512, w0 (ix2 0 z) = rd (W m c) 0 z.val) (y0 y1 : Fin 512) :
    k0_pay12 (iblk m c 0 t) (k0_pay6 (grid0.coords t) (iblk m c 1 t)) (k0_pay7 (grid0.coords t) (iblk m c 0 t) (iblk m c 1 t) w3 w2)
        (k0_pay8 w1) (k0_pay9 (iblk m c 0 t)) k0_pay10 (k0_pay11 (grid0.coords t) (iblk m c 1 t)) w0 (ix2 y0 y1)
      = dx (D m c) (W m c) (512 * t.val + y0.val) y1.val := by
  rw [dx_at, up_eq _ _ 1 (by omega) _ _ (blk0 m c t) (n_at m c t), up_eq _ _ 2 (by omega) _ _ (blk0 m c t) (n_at m c t),
    up_eq _ _ 3 (by omega) _ _ (blk0 m c t) (n_at m c t), blk0, h0, h1, h2, h3]
  rfl

/-- The window of the input's gradient after grid point `t`. -/
theorem out_at (c : Dev nD) (t : Fin cfg0.N) (y : S512x512.Idx) :
    (outsAt0 m c t.val t.isLt).1 y = dx (D m c) (W m c) (512 * t.val + (y 0).val) (y 1).val := by
  have h3 := row_at m c t 3 (by omega) inb_S8x512_S1x512_3_0
  have h2 := row_at m c t 2 (by omega) inb_S8x512_S1x512_2_0
  have h1 := row_at m c t 1 (by omega) inb_S8x512_S1x512_1_0
  have h0 := row_at m c t 0 (by omega) inb_S8x512_S1x512_0_0
  have hg := g_at m c t _ _ _ _ h3 h2 h1 h0
  idx_vars y
  by_cases h : t.val % 16 = 0
  · rw [outsAt0_A m c t h]
    frame_out
    exact hg y0 y1
  · rw [outsAt0_B m c t h]
    frame_out
    exact hg y0 y1

/-- A grid point's part of the taps' gradient. -/
def term (c : Dev nD) (t : ℕ) (j : S8x512.Idx) : EReal :=
  if (j 0).val < 4 then ∑ r : Fin 512, tapTerm (D m c) (P m c) (j 0).val (512 * t + r.val) (j 1).val else 0

/-- That part, in a row of a tap. -/
theorem term_pos (c : Dev nD) (t : ℕ) (k : Fin 8) (hk : k.val < 4) (z : Fin 512) :
    term m c t (ix2 k z) = ∑ r : Fin 512, tapTerm (D m c) (P m c) k.val (512 * t + r.val) z.val := if_pos hk

/-- That part, in a row of padding. -/
theorem term_neg (c : Dev nD) (t : ℕ) (k : Fin 8) (hk : ¬ k.val < 4) (z : Fin 512) : term m c t (ix2 k z) = 0 := if_neg hk

/-- Four rows stored over what the window of the taps' gradient held. -/
theorem rows_at (c : Dev nD) (t : Fin cfg0.N) {κ sp} (v : View sig κ sp S8x512 .f32) (f) (L : List (View.Piece (Elt Ideal) S8x512 .f32))
    (base : S8x512.Idx → EReal) (hb : ∀ j, v.read (Elt Ideal) (v.writes (Elt Ideal) f L) j = base j) (j : S8x512.Idx) :
    v.read (Elt Ideal) (v.writes (Elt Ideal) f
        (⟨Rect.unit ![2, 0] ![1, 512] inb_S8x512_S1x512_2_0,
            k0_pay1 (k0_pay19 (View.ld (Val := Elt Ideal) (e' := .f32) base (Rect.unit ![2, 0] ![1, 512] inb_S8x512_S1x512_2_0)))
              (k0_pay20 (iblk m c 0 t) (iblk m c 2 t) (k0_pay13 (k0_pay5 (grid0.coords t)) (iblk m c 3 t)))⟩
          :: ⟨Rect.unit ![1, 0] ![1, 512] inb_S8x512_S1x512_1_0,
            k0_pay18 (iblk m c 0 t) (iblk m c 2 t) (k0_pay13 (k0_pay5 (grid0.coords t)) (iblk m c 3 t))
              (View.ld (Val := Elt Ideal) (e' := .f32) base (Rect.unit ![1, 0] ![1, 512] inb_S8x512_S1x512_1_0))⟩
          :: ⟨Rect.unit ![0, 0] ![1, 512] inb_S8x512_S1x512_0_0,
            k0_pay17 (iblk m c 0 t) (k0_pay13 (k0_pay5 (grid0.coords t)) (iblk m c 3 t))
              (k0_pay15 (View.ld (Val := Elt Ideal) (e' := .f32) base (Rect.unit ![0, 0] ![1, 512] inb_S8x512_S1x512_0_0)))
              (k0_pay16 (iblk m c 2 t)) (iota .tc S8x512 32 [0] iota_S8x512_d0_w32) 3#32⟩
          :: ⟨Rect.unit ![3, 0] ![1, 512] inb_S8x512_S1x512_3_0,
            k0_pay14 (iblk m c 0 t) (iblk m c 2 t)
              (View.ld (Val := Elt Ideal) (e' := .f32) base (Rect.unit ![3, 0] ![1, 512] inb_S8x512_S1x512_3_0))⟩ :: L)) j
      = base j + term m c t.val j := by
  idx_vars j
  have hr (k : ℕ) (hk : k ≤ 8) (r : Fin 512) : gblk m c t (ix2 r j1)
        * down k (iblk m c 2 t) (k0_pay13 (k0_pay5 (grid0.coords t)) (iblk m c 3 t)) (ix2 r j1)
      = rd (D m c) (512 * t.val + r.val) j1.val * sh k (x (P m c)) (512 * t.val + r.val) j1.val := by
    rw [gblk, blk0, down_eq _ _ k hk _ _ (blk2 m c t) (p_at m c t)]
    rfl
  by_cases e2 : j0.val = 2
  · refine (View.read_writes_cons_rows_of_mem v f _ _ _ (ix2 j0 j1) (ix2 (0 : Fin 1) j1) rfl (e2 : j0.val = 2 + 0) rfl).trans ?_
    obtain rfl : j0 = 2 := Fin.ext e2
    rw [tap2_at, term_pos m c _ _ (by decide)]
    refine congrArg₂ _ (ld_row base 2 _ j1) ?_
    exact (Finset.sum_congr rfl fun r _ => hr 1 (by omega) r)
  refine (View.read_writes_cons_rows_of_not_mem v f _ _ _ (ix2 j0 j1) rfl rfl
    (by show j0.val < 2 ∨ 2 + 1 ≤ j0.val; omega)).trans ?_
  by_cases e1 : j0.val = 1
  · refine (View.read_writes_cons_rows_of_mem v f _ _ _ (ix2 j0 j1) (ix2 (0 : Fin 1) j1) rfl (e1 : j0.val = 1 + 0) rfl).trans ?_
    obtain rfl : j0 = 1 := Fin.ext e1
    rw [tap1_at, term_pos m c _ _ (by decide)]
    refine congrArg₂ _ (ld_row base 1 _ j1) ?_
    exact (Finset.sum_congr rfl fun r _ => hr 2 (by omega) r)
  refine (View.read_writes_cons_rows_of_not_mem v f _ _ _ (ix2 j0 j1) rfl rfl
    (by show j0.val < 1 ∨ 1 + 1 ≤ j0.val; omega)).trans ?_
  by_cases e0 : j0.val = 0
  · refine (View.read_writes_cons_rows_of_mem v f _ _ _ (ix2 j0 j1) (ix2 (0 : Fin 1) j1) rfl (e0 : j0.val = 0 + 0) rfl).trans ?_
    obtain rfl : j0 = 0 := Fin.ext e0
    rw [tap0_at, term_pos m c _ _ (by decide)]
    refine congrArg₂ _ (ld_row base 0 _ j1) ?_
    exact (Finset.sum_congr rfl fun r _ => hr 3 (by omega) r)
  refine (View.read_writes_cons_rows_of_not_mem v f _ _ _ (ix2 j0 j1) rfl rfl
    (by show j0.val < 0 ∨ 0 + 1 ≤ j0.val; omega)).trans ?_
  by_cases e3 : j0.val = 3
  · refine (View.read_writes_cons_rows_of_mem v f _ _ _ (ix2 j0 j1) (ix2 (0 : Fin 1) j1) rfl (e3 : j0.val = 3 + 0) rfl).trans ?_
    obtain rfl : j0 = 3 := Fin.ext e3
    rw [tap3_at, term_pos m c _ _ (by decide)]
    refine congrArg₂ _ (ld_row base 3 _ j1) ?_
    exact (Finset.sum_congr rfl fun r _ => by rw [blk0, blk2]; rfl)
  refine (View.read_writes_cons_rows_of_not_mem v f _ _ _ (ix2 j0 j1) rfl rfl
    (by show j0.val < 3 ∨ 3 + 1 ≤ j0.val; omega)).trans ?_
  rw [hb, term_neg m c _ _ (by omega), add_zero]

/-- The window of the taps' gradient after grid point `t`: the points' parts so far. -/
theorem dw_at (c : Dev nD) (t : Fin cfg0.N) (j : S8x512.Idx) :
    (outsAt0 m c t.val t.isLt).2.1 j = 0 + ∑ k ∈ Finset.range (t.val % 16 + 1), term m c (16 * (t.val / 16) + k) j := by
  refine Pipeline.eq_sum_of_reset_step_apply (fun n h => (outsAt0 m c n h).2.1) 16 (fun _ => 0) (term m c)
    (fun t h j => ?_) (fun t h j => ?_) t j
  · rw [outsAt0_A m c t h]
    frame_open
    simp (disch := decide) only [↓ View.readCov_skip, ↓ View.readCov_cons_toLoadRect, ↓ View.readCov_fill]
    frame_out
    rw [← View.read_writes_junk_eq_canon (ms0_6 t).view]
    refine (rows_at m c t _ _ _ _ (fun j => ?_) j).trans ?_
    · exact View.read_writes_cons_rows_of_mem _ _ _ _ _ j j rfl (Nat.zero_add _).symm rfl
    · pointwise [k0_pay3]
  · rw [outsAt0_B m c t h]
    frame_open
    simp (disch := decide) only [↓ View.readCov_skip, ↓ View.readCov_cons_toLoadRect, ↓ View.readCov_fill]
    frame_out
    exact rows_at m c t _ _ _ _ (fun j => by rw [View.writes_nil, Memref.IsWhole.read_unread]) j

/-- A grid point's part of the bias's gradient. -/
def bterm (c : Dev nD) (t : ℕ) (j : S1x512.Idx) : EReal := ∑ r : Fin 512, rd (D m c) (512 * t + r.val) (j 1).val

/-- The window of the bias's gradient after grid point `t`: the points' parts so far. -/
theorem db_at (c : Dev nD) (t : Fin cfg0.N) (j : S1x512.Idx) :
    (outsAt0 m c t.val t.isLt).2.2 j = 0 + ∑ k ∈ Finset.range (t.val % 16 + 1), bterm m c (16 * (t.val / 16) + k) j := by
  have hb (w : Vec Ideal S1x512 .f32) (t : Fin cfg0.N) (j1 : Fin 512) :
      k0_pay2 (iblk m c 0 t) w (ix2 0 j1) = w (ix2 0 j1) + bterm m c t.val (ix2 0 j1) := by
    rw [bias_at]
    exact congrArg _ (Finset.sum_congr rfl fun r _ => blk0 m c t _)
  refine Pipeline.eq_sum_of_reset_step_apply (fun n h => (outsAt0 m c n h).2.2) 16 (fun _ => 0) (bterm m c)
    (fun t h j => ?_) (fun t h j => ?_) t j
  · rw [outsAt0_A m c t h]
    frame_out
    idx_vars j
    obtain rfl : j0 = 0 := Subsingleton.elim _ _
    refine (hb _ t j1).trans ?_
    pointwise [k0_pay4]
  · rw [outsAt0_B m c t h]
    frame_out
    idx_vars j
    obtain rfl : j0 = 0 := Subsingleton.elim _ _
    exact hb _ t j1

/-- The array of the input's gradient. -/
theorem out_final (c : Dev nD) :
    (dats m 0 c).arrAt 5 cfg0.N = fun i : S8192x512.Idx => dx (D m c) (W m c) (i 0).val (i 1).val := by
  refine (dats m 0 c).arrAt_eq_of_covers 5 _ (by decide +kernel) fun t hf y => ?_
  have e := idx t
  rw [after0_5]
  refine (out_at m c t y).trans ?_
  congr 1 <;> blk_simp [e.2.2.2.1] <;> omega

/-- The sum of the points' parts. -/
theorem parts (c : Dev nD) (j : S8x512.Idx) :
    0 + ∑ k ∈ Finset.range 16, term m c k j = dw (D m c) (P m c) (j 0).val (j 1).val := by
  unfold term dw
  split
  · rw [zero_add]
    exact sum_blocks 16 512 fun r => tapTerm (D m c) (P m c) (j 0).val r (j 1).val
  · simp

/-- The array of the taps' gradient. -/
theorem dw_final (c : Dev nD) :
    (dats m 0 c).arrAt 6 cfg0.N = fun i : S8x512.Idx => dw (D m c) (P m c) (i 0).val (i 1).val := by
  refine (dats m 0 c).arrAt_eq_of_covers 6 _ (by decide +kernel) fun t hf y => ?_
  have e := idx t
  have hr := (flush0_6 t).mp hf
  have ht : t.val < 16 := t.isLt
  rw [after0_6]
  refine (dw_at m c t y).trans ?_
  rw [show t.val % 16 + 1 = 16 by omega, show 16 * (t.val / 16) = 0 by omega]
  simp only [Nat.zero_add]
  refine (parts m c y).trans ?_
  congr 1 <;> blk_simp [e.2.2.2.2.1] <;> omega

/-- The array of the bias's gradient. -/
theorem db_final (c : Dev nD) : (dats m 0 c).arrAt 7 cfg0.N = fun i : S1x512.Idx => db (D m c) (i 1).val := by
  refine (dats m 0 c).arrAt_eq_of_covers 7 _ (by decide +kernel) fun t hf y => ?_
  have e := idx t
  have hr := (flush0_7 t).mp hf
  have ht : t.val < 16 := t.isLt
  rw [after0_7]
  refine (db_at m c t y).trans ?_
  rw [show t.val % 16 + 1 = 16 by omega, show 16 * (t.val / 16) = 0 by omega]
  simp only [Nat.zero_add, bterm]
  rw [zero_add]
  refine (sum_blocks 16 512 fun r => rd (D m c) r (y 1).val).trans ?_
  unfold db
  congr 1
  funext r
  congr 1
  blk_simp [e.2.2.2.2.2]

end Cert.ConvC
end
-- ==== Proof.ConvCRef.lean ====
module

public import proofs.«01_k».proof.Defs
public import proofs.«01_k».proof.Proof.ConvC
public import proofs.«01_k».proof.Proof.Gen.Reference2Ideal.Run
public import proofs.«01_k».proof.Proof.Gen.Reference2Ideal.Read

/-! What the reference of the convolution's gradient computes, and that kernel and reference leave the same arrays. -/

@[expose] public section

set_option maxRecDepth 16384

noncomputable section

namespace Cert.ConvCRef

open Cert.Reference2Ideal Cert.Reference2Ideal.Read Cert.Rd Cert.Conv
open Idealize.ShloMosaic Idealize.ShloMosaic.TcCoe Idealize.SL.Sem

variable (D : S8192x512.Idx → EReal) (P : S8192x6144.Idx → EReal) (W : S4x512.Idx → EReal)

/-- The convolution's input behind three rows of zeros. -/
theorem xp_at (r : Fin 8195) (c : Fin 512) : val_main_v3 (F := Ideal) P (ix2 r c) = sh 3 (x P) r.val c.val := by
  pointwise [val_main_v3, val_main_v2, val_main_v0, val_main_cst_0]
  unfold sh
  by_cases h : r.val < 3
  · rw [dif_pos h, if_neg (by omega)]
  · rw [dif_neg h]
    exact (rd_at P _ _ _ rfl rfl).trans (if_pos (by omega)).symm

/-- The input behind three rows of zeros, from row `3 - k` on. -/
theorem sh_at (k : ℕ) (hk : k ≤ 3) (r c : ℕ) : sh 3 (x P) (3 - k + r) c = sh k (x P) r c := by
  unfold sh
  by_cases h : k ≤ r
  · rw [if_pos h, if_pos (by omega), show 3 - k + r - 3 = r - k by omega]
  · rw [if_neg h, if_neg (by omega)]

/-- Three rows back. -/
theorem s3_at (r : Fin 8192) (c : Fin 512) : val_main_v5 (F := Ideal) P (ix2 r c) = sh 3 (x P) r.val c.val := by
  pointwise [val_main_v5]
  exact xp_at P ⟨r.val, by omega⟩ c

/-- Two rows back. -/
theorem s2_at (r : Fin 8192) (c : Fin 512) : val_main_v11 (F := Ideal) P (ix2 r c) = sh 2 (x P) r.val c.val := by
  pointwise [val_main_v11]
  exact (xp_at P ⟨1 + r.val, by omega⟩ c).trans (sh_at P 2 (by omega) _ _)

/-- One row back. -/
theorem s1_at (r : Fin 8192) (c : Fin 512) : val_main_v18 (F := Ideal) P (ix2 r c) = sh 1 (x P) r.val c.val := by
  pointwise [val_main_v18]
  exact (xp_at P ⟨2 + r.val, by omega⟩ c).trans (sh_at P 1 (by omega) _ _)

/-- The row itself. -/
theorem s0_at (r : Fin 8192) (c : Fin 512) : val_main_v25 (F := Ideal) P (ix2 r c) = sh 0 (x P) r.val c.val := by
  pointwise [val_main_v25]
  exact (xp_at P ⟨3 + r.val, by omega⟩ c).trans (sh_at P 0 (by omega) _ _)

/-- The gradient of the convolution's result. -/
theorem d_at (r : Fin 8192) (c : Fin 512) : val_main_v34 (F := Ideal) D (ix2 r c) = rd D r.val c.val := by
  pointwise [val_main_v34]
  exact rd_at D _ _ _ rfl rfl

/-- That gradient times the last tap. -/
theorem e3 (r : Fin 8192) (c : Fin 512) : val_main_v41 (F := Ideal) D W (ix2 r c) = rd W 3 c.val * rd D r.val c.val := by
  pointwise [val_main_v41, val_main_v40, val_main_v28, val_main_v27, val_main_v26]
  rw [d_at, mul_comm]
  exact congrArg (· * _) (rd_at W _ _ _ rfl rfl)

/-- That gradient times the third tap. -/
theorem e2 (r : Fin 8192) (c : Fin 512) : val_main_v50 (F := Ideal) D W (ix2 r c) = rd W 2 c.val * rd D r.val c.val := by
  pointwise [val_main_v50, val_main_v49, val_main_v21, val_main_v20, val_main_v19]
  rw [d_at, mul_comm]
  exact congrArg (· * _) (rd_at W _ _ _ rfl rfl)

/-- That gradient times the second tap. -/
theorem e1 (r : Fin 8192) (c : Fin 512) : val_main_v61 (F := Ideal) D W (ix2 r c) = rd W 1 c.val * rd D r.val c.val := by
  pointwise [val_main_v61, val_main_v60, val_main_v14, val_main_v13, val_main_v12]
  rw [d_at, mul_comm]
  exact congrArg (· * _) (rd_at W _ _ _ rfl rfl)

/-- That gradient times the first tap. -/
theorem e0 (r : Fin 8192) (c : Fin 512) : val_main_v72 (F := Ideal) D W (ix2 r c) = rd W 0 c.val * rd D r.val c.val := by
  pointwise [val_main_v72, val_main_v71, val_main_v8, val_main_v7, val_main_v6]
  rw [d_at, mul_comm]
  exact congrArg (· * _) (rd_at W _ _ _ rfl rfl)

/-- The array of the input's gradient. -/
theorem dx_at (r : Fin 8192) (c : Fin 512) : val_main_v80 (F := Ideal) D W (ix2 r c) = dx D W r.val c.val := by
  pointwise [val_main_v80, val_main_v78, val_main_v77, val_main_v67, val_main_v66, val_main_v56, val_main_v55, val_main_v45,
    val_main_cst_6, val_main_cst_10, val_main_cst_14, val_main_cst_18]
  unfold dx
  refine congrArg₂ (· + ·) (congrArg₂ (· + ·) (congrArg₂ (· + ·) (e3 D W r c) ?_) ?_) ?_
  · by_cases h : r.val + 1 < 8192
    · rw [dif_pos ⟨by omega, by omega⟩]
      refine (e2 D W ⟨3 + r.val - 2, by omega⟩ c).trans ?_
      show rd W 2 c.val * rd D (3 + r.val - 2) c.val = _
      rw [show 3 + r.val - 2 = r.val + 1 by omega]
    · rw [dif_neg (fun hh => by omega), out D (r.val + 1) _ (by omega), mul_zero]
  · by_cases h : r.val + 2 < 8192
    · rw [dif_pos ⟨by omega, by omega⟩]
      refine (e1 D W ⟨3 + r.val - 1, by omega⟩ c).trans ?_
      show rd W 1 c.val * rd D (3 + r.val - 1) c.val = _
      rw [show 3 + r.val - 1 = r.val + 2 by omega]
    · rw [dif_neg (fun hh => by omega), out D (r.val + 2) _ (by omega), mul_zero]
  · by_cases h : r.val + 3 < 8192
    · rw [dif_pos (by omega)]
      refine (e0 D W ⟨3 + r.val, by omega⟩ c).trans ?_
      show rd W 0 c.val * rd D (3 + r.val) c.val = _
      rw [Nat.add_comm 3]
    · rw [dif_neg (fun hh => by omega), out D (r.val + 3) _ (by omega), mul_zero]

/-- The gradient of the bias. -/
theorem db_at (c : Fin 512) : val_main_v36 (F := Ideal) D (ix2 0 c) = db D c.val := by
  pointwise [val_main_v36, val_main_v35, val_main_cst_2]
  exact Finset.sum_congr rfl fun r _ => rd_at D _ _ _ rfl rfl

/-- The gradient of the taps. -/
theorem dw_at (r : Fin 4) (c : Fin 512) : val_main_v76 (F := Ideal) D P (ix2 r c) = dw D P r.val c.val := by
  have t3 (r : Fin 8192) : val_main_v37 (F := Ideal) D P (ix2 r c) = tapTerm D P 3 r.val c.val := by
    pointwise [val_main_v37]
    rw [d_at, s0_at, mul_comm]
    rfl
  have t2 (r : Fin 8192) : val_main_v46 (F := Ideal) D P (ix2 r c) = tapTerm D P 2 r.val c.val := by
    pointwise [val_main_v46]
    rw [d_at, s1_at, mul_comm]
    rfl
  have t1 (r : Fin 8192) : val_main_v57 (F := Ideal) D P (ix2 r c) = tapTerm D P 1 r.val c.val := by
    pointwise [val_main_v57]
    rw [d_at, s2_at, mul_comm]
    rfl
  have t0 (r : Fin 8192) : val_main_v68 (F := Ideal) D P (ix2 r c) = tapTerm D P 0 r.val c.val := by
    pointwise [val_main_v68]
    rw [d_at, s3_at, mul_comm]
    rfl
  pointwise [val_main_v76, val_main_v75, val_main_cst_17, val_main_v74, val_main_v73, val_main_cst_16, val_main_v70, val_main_v69,
    val_main_cst_15, val_main_v65, val_main_v64, val_main_cst_13, val_main_v63, val_main_v62, val_main_cst_12, val_main_v59,
    val_main_v58, val_main_cst_11, val_main_v54, val_main_v53, val_main_cst_9, val_main_v52, val_main_v51, val_main_cst_8,
    val_main_v48, val_main_v47, val_main_cst_7, val_main_v44, val_main_cst_5, val_main_v43, val_main_v42, val_main_cst_4,
    val_main_v39, val_main_v38, val_main_cst_3]
  simp only [t0, t1, t2, t3]
  fin_cases r <;> simp [dw]

/-- The array of the taps' gradient. -/
theorem dw_eq : val_main_v82 (F := Ideal) D P = fun i : S8x512.Idx => dw D P (i 0).val (i 1).val := by
  funext i
  idx_vars i
  pointwise [val_main_v82, val_main_call0_v0, val_main_c]
  by_cases h : i0.val < 4
  · rw [dif_pos h]
    exact dw_at D P ⟨i0.val, h⟩ i1
  · rw [dif_neg h]
    refine Eq.trans ?_ (if_neg h).symm
    show (((0#32 : BitVec 32).toInt : ℝ) : EReal) = 0
    simp

/-- The array of the input's gradient. -/
theorem dx_eq : val_main_v81 (F := Ideal) D W = fun i : S8192x512.Idx => dx D W (i 0).val (i 1).val := by
  funext i
  idx_vars i
  pointwise [val_main_v81]
  exact dx_at D W i0 i1

/-- The array of the bias's gradient. -/
theorem db_eq : val_main_v36 (F := Ideal) D = fun i : S1x512.Idx => db D (i 1).val := by
  funext i
  idx_vars i
  obtain rfl : i0 = 0 := Subsingleton.elim _ _
  exact db_at D i1

/-- The kernel and the reference end with equal gradients of the convolution's input, taps and bias. -/
theorem algebraic : Cert.algebraic_Kernel2Ideal_Reference2Ideal := fun m ρ m' ρ' pre hag => by
  refine ⟨fun c => fun i : (⟨2, ![8192, 512]⟩ : Shape).Idx => dx (ConvC.D m c) (ConvC.W m c) (i 0).val (i 1).val,
    fun c => fun i : (⟨2, ![8, 512]⟩ : Shape).Idx => dw (ConvC.D m c) (ConvC.P m c) (i 0).val (i 1).val,
    fun c => fun i : (⟨2, ![1, 512]⟩ : Shape).Idx => db (ConvC.D m c) (i 1).val,
    (θ_run _ _ _).mono (fun _ h c => ⟨(h c).1.trans (ConvC.out_final m c), (h c).2.1.trans (ConvC.dw_final m c),
      (h c).2.2.1.trans (ConvC.db_final m c), (h c).2.2.2⟩) (Cert.Kernel2Ideal.Value.run_blocks m ρ),
    (θ_run _ _ _).mono (fun _ h c => ⟨(h c).1.trans ?_, (h c).2.1.trans ?_, (h c).2.2.1.trans ?_, (h c).2.2.2⟩)
      (Cert.Reference2Ideal.Value.run m' ρ')⟩
  · rw [val_main_v81_eq, (hag c).1, (hag c).2.2]
    exact dx_eq _ _
  · rw [val_main_v82_eq, (hag c).1, (hag c).2.1]
    exact dw_eq _ _
  · rw [val_main_v36_eq, (hag c).1]
    exact db_eq _

end Cert.ConvCRef
end
-- ==== Proof.Dh.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Common
public import proofs.«01_k».proof.Defs
public import Idealize.ShloMosaic.Lib.Pointwise

/-!
The gradient of the layer's input: the gradient of the projection times the transposed weight, blocked over rows, columns and the
contracted axis, and from it the gradients of the input, of the modulation's shift and of its scale.
-/

@[expose] public section

set_option maxRecDepth 16384

noncomputable section

namespace Cert.Dh

open Cert.Kernel3Ideal Cert.Kernel3Ideal.Gen Cert.Rd
open Idealize.ShloMosaic Idealize.ShloMosaic.TcCoe Idealize.SL.Sem

/-! ## The formulas -/

section Spec

variable (Q : (⟨2, ![8192, 6144]⟩ : Shape).Idx → EReal) (W : (⟨2, ![2048, 6144]⟩ : Shape).Idx → EReal)
  (A X : (⟨2, ![8192, 2048]⟩ : Shape).Idx → EReal) (Z : (⟨2, ![1, 2048]⟩ : Shape).Idx → EReal)

/-- The gradient of the modulated input. -/
def dh (r c : ℕ) : EReal := ∑ k : Fin 6144, rd Q r k.val * rd W c k.val
/-- The gradient of the input. -/
def dx (r c : ℕ) : EReal := rd A r c + dh Q W r c * (1 + rd Z 0 c)
/-- The gradient of the shift. -/
def dshift (c : ℕ) : EReal := ∑ r : Fin 8192, dh Q W r.val c
/-- The gradient of the scale. -/
def dscale (c : ℕ) : EReal := ∑ r : Fin 8192, dh Q W r.val c * rd X r.val c

end Spec

/-! ## The kernel -/

variable (m : (ℓ : Loc nD τ sig) → Buf (Elt Ideal) ℓ)

/-- The gradient of the projection. -/
abbrev Q (c : Dev nD) : S8192x6144.Idx → EReal := m ((c : Thread nD τ).loc main_arg0)
/-- The projection's weight. -/
abbrev W (c : Dev nD) : S2048x6144.Idx → EReal := m ((c : Thread nD τ).loc main_arg1)
/-- The gradient that the residual path brings. -/
abbrev A (c : Dev nD) : S8192x2048.Idx → EReal := m ((c : Thread nD τ).loc main_arg2)
/-- The layer's input. -/
abbrev X (c : Dev nD) : S8192x2048.Idx → EReal := m ((c : Thread nD τ).loc main_arg3)
/-- The modulation's scale. -/
abbrev Z (c : Dev nD) : S1x2048.Idx → EReal := m ((c : Thread nD τ).loc main_arg4)

/-- The block indices of the windows at grid point `t`. -/
theorem idx : ∀ t : Fin grid0.N,
    (win0_0.index t = ![t.val / 4 % 8, t.val % 4] ∧ win0_1.index t = ![t.val / 32, t.val % 4])
      ∧ (win0_2.index t = ![t.val / 4 % 8, t.val / 32] ∧ win0_3.index t = ![t.val / 4 % 8, t.val / 32])
      ∧ win0_4.index t = ![0, t.val / 32] ∧ win0_5.index t = ![t.val / 4 % 8, t.val / 32]
      ∧ win0_6.index t = ![0, t.val / 32] ∧ win0_7.index t = ![0, t.val / 32] := by
  decide +kernel

/-- A block of the projection's gradient. -/
theorem blk0 (c : Dev nD) (t : Fin cfg0.N) (y : S1024x1536.Idx) :
    (iblk m c 0 t : S1024x1536.Idx → EReal) y
      = rd (Q m c) (1024 * (t.val / 4 % 8) + (y 0).val) (1536 * (t.val % 4) + (y 1).val) := by
  have e := idx t
  refine (rfl : _ = Q m c (((cfg0.win 0).blk t).view.emb y)).trans (rd_at _ _ _ _ ?_ ?_) <;> blk_simp [e.1.1] <;> omega

/-- A block of the weight. -/
theorem blk1 (c : Dev nD) (t : Fin cfg0.N) (y : S1024x1536.Idx) :
    (iblk m c 1 t : S1024x1536.Idx → EReal) y
      = rd (W m c) (1024 * (t.val / 32) + (y 0).val) (1536 * (t.val % 4) + (y 1).val) := by
  have e := idx t
  refine (rfl : _ = W m c (((cfg0.win 1).blk t).view.emb y)).trans (rd_at _ _ _ _ ?_ ?_) <;> blk_simp [e.1.2] <;> omega

/-- A block of the residual path's gradient. -/
theorem blk2 (c : Dev nD) (t : Fin cfg0.N) (y : S1024x1024.Idx) :
    (iblk m c 2 t : S1024x1024.Idx → EReal) y
      = rd (A m c) (1024 * (t.val / 4 % 8) + (y 0).val) (1024 * (t.val / 32) + (y 1).val) := by
  have e := idx t
  refine (rfl : _ = A m c (((cfg0.win 2).blk t).view.emb y)).trans (rd_at _ _ _ _ ?_ ?_) <;> blk_simp [e.2.1.1] <;> omega

/-- A block of the layer's input. -/
theorem blk3 (c : Dev nD) (t : Fin cfg0.N) (y : S1024x1024.Idx) :
    (iblk m c 3 t : S1024x1024.Idx → EReal) y
      = rd (X m c) (1024 * (t.val / 4 % 8) + (y 0).val) (1024 * (t.val / 32) + (y 1).val) := by
  have e := idx t
  refine (rfl : _ = X m c (((cfg0.win 3).blk t).view.emb y)).trans (rd_at _ _ _ _ ?_ ?_) <;> blk_simp [e.2.1.2] <;> omega

/-- A block of the scale. -/
theorem blk4 (c : Dev nD) (t : Fin cfg0.N) (y : S1x1024.Idx) :
    (iblk m c 4 t : S1x1024.Idx → EReal) y = rd (Z m c) 0 (1024 * (t.val / 32) + (y 1).val) := by
  have e := idx t
  have hy : (y 0).val < 1 := (y 0).isLt
  refine (rfl : _ = Z m c (((cfg0.win 4).blk t).view.emb y)).trans (rd_at _ _ _ _ ?_ ?_) <;> blk_simp [e.2.2.1] <;> omega

/-- What one block product contributes to an element of the accumulator. -/
def term (c : Dev nD) (t : ℕ) (j : S1024x1024.Idx) : EReal :=
  ∑ k : Fin 1536, rd (Q m c) (1024 * (t / 4 % 8) + (j 0).val) (1536 * (t % 4) + k.val)
      * rd (W m c) (1024 * (t / 32) + (j 1).val) (1536 * (t % 4) + k.val)

/-- One point adds its block product to the accumulator. -/
theorem step_at (c : Dev nD) (t : Fin cfg0.N) (a : Vec Ideal S1024x1024 .f32) (j : S1024x1024.Idx) :
    k0_pay4 a (iblk m c 0 t) (iblk m c 1 t) j = a j + term m c t.val j := by
  pointwise [k0_pay4, term]
  exact congrArg _ (Finset.sum_congr rfl fun k _ => by rw [blk0, blk1]; rfl)

/-- The accumulator after grid point `t`: the block products of the run so far. -/
theorem acc (c : Dev nD) (t : Fin cfg0.N) (j : S1024x1024.Idx) :
    (outsAt0 m c t.val t.isLt).2.2.2 j = 0 + ∑ k ∈ Finset.range (t.val % 4 + 1), term m c (4 * (t.val / 4) + k) j := by
  refine Pipeline.eq_sum_of_reset_step_apply (fun n h => (outsAt0 m c n h).2.2.2) 4 (fun _ => 0) (term m c)
    (fun t h j => ?_) (fun t h j => ?_) t j
  · by_cases h1 : t.val % 32 = 0
    · rw [outsAt0_A m c t h h1 (by omega)]
      frame_out
      refine (step_at m c t _ j).trans ?_
      pointwise [k0_pay1]
    · rw [outsAt0_D m c t h h1 (by omega)]
      frame_out
      refine (step_at m c t _ j).trans ?_
      pointwise [k0_pay1]
  · by_cases h1 : t.val % 4 = 3
    · rw [outsAt0_C m c t h (by omega) h1]
      frame_out
      simp only [read_unread_whole]
      exact step_at m c t _ j
    · rw [outsAt0_B m c t h (by omega) h1]
      frame_out
      simp only [read_unread_whole]
      exact step_at m c t _ j

/-- At the last point of a run the accumulator holds a block of the modulated input's gradient. -/
theorem acc_last (c : Dev nD) (t : Fin cfg0.N) (h : t.val % 4 = 3) (j : S1024x1024.Idx) :
    (outsAt0 m c t.val t.isLt).2.2.2 j
      = dh (Q m c) (W m c) (1024 * (t.val / 4 % 8) + (j 0).val) (1024 * (t.val / 32) + (j 1).val) := by
  rw [acc, h, zero_add, dh]
  refine Eq.trans ?_ (sum_blocks 4 1536 fun q => rd (Q m c) (1024 * (t.val / 4 % 8) + (j 0).val) q
    * rd (W m c) (1024 * (t.val / 32) + (j 1).val) q)
  refine Finset.sum_congr rfl fun k hk => ?_
  have hk := Finset.mem_range.mp hk
  simp only [term]
  rw [show (4 * (t.val / 4) + k) % 4 = k by omega, show (4 * (t.val / 4) + k) / 4 % 8 = t.val / 4 % 8 by omega,
    show (4 * (t.val / 4) + k) / 32 = t.val / 32 by omega]

/-- The last point of a run writes out the block of the input's gradient. -/
theorem out_at (c : Dev nD) (t : Fin cfg0.N) (h : t.val % 4 = 3) (j : S1024x1024.Idx) :
    (outsAt0 m c t.val t.isLt).1 j
      = dx (Q m c) (W m c) (A m c) (Z m c) (1024 * (t.val / 4 % 8) + (j 0).val) (1024 * (t.val / 32) + (j 1).val) := by
  have e : (outsAt0 m c t.val t.isLt).1 = k0_pay5 (outsAt0 m c t.val t.isLt).2.2.2 (iblk m c 2 t) (iblk m c 4 t) := by
    rw [outsAt0_C m c t (by omega) (by omega) h]
    funext j
    frame_out
  rw [e]
  idx_vars j
  pointwise [k0_pay5]
  rw [acc_last m c t h, blk2, blk4, dx]
  rfl

/-- A grid point's part of the shift's gradient: a block of rows at the last point of a run, nothing at the others. -/
def sterm (c : Dev nD) (t : ℕ) (j : S1x1024.Idx) : EReal :=
  if t % 4 = 3 then ∑ r : Fin 1024, dh (Q m c) (W m c) (1024 * (t / 4 % 8) + r.val) (1024 * (t / 32) + (j 1).val) else 0

/-- A grid point's part of the scale's gradient. -/
def zterm (c : Dev nD) (t : ℕ) (j : S1x1024.Idx) : EReal :=
  if t % 4 = 3 then ∑ r : Fin 1024, dh (Q m c) (W m c) (1024 * (t / 4 % 8) + r.val) (1024 * (t / 32) + (j 1).val)
    * rd (X m c) (1024 * (t / 4 % 8) + r.val) (1024 * (t / 32) + (j 1).val) else 0

/-- The window of the shift's gradient after grid point `t`: the points' parts so far. -/
theorem shift_at (c : Dev nD) (t : Fin cfg0.N) (j : S1x1024.Idx) :
    (outsAt0 m c t.val t.isLt).2.1 j = 0 + ∑ k ∈ Finset.range (t.val % 32 + 1), sterm m c (32 * (t.val / 32) + k) j := by
  refine Pipeline.eq_sum_of_reset_step_apply (fun n h => (outsAt0 m c n h).2.1) 32 (fun _ => 0) (sterm m c)
    (fun t h j => ?_) (fun t h j => ?_) t j
  · rw [outsAt0_A m c t (by omega) h (by omega)]
    frame_out
    pointwise [k0_pay2, sterm]
    rw [if_neg (by omega)]
  · have hs : sterm m c t.val j = if t.val % 4 = 3 then ∑ r : Fin 1024, (outsAt0 m c t.val t.isLt).2.2.2 (ix2 r (j 1)) else 0 := by
      unfold sterm
      split
      · exact Finset.sum_congr rfl fun r _ => (acc_last m c t (by assumption) (ix2 r (j 1))).symm
      · rfl
    rw [hs]
    by_cases h0 : t.val % 4 = 0
    · rw [if_neg (by omega), outsAt0_D m c t h0 h (by omega)]
      simp only [add_zero]
      rfl
    by_cases h1 : t.val % 4 = 3
    · rw [if_pos h1, outsAt0_C m c t h0 h h1]
      frame_out
      idx_vars j
      obtain rfl : j0 = 0 := Subsingleton.elim _ _
      pointwise [k0_pay6]
    · rw [if_neg h1, outsAt0_B m c t h0 h h1]
      simp only [add_zero]
      rfl

/-- The window of the scale's gradient after grid point `t`: the points' parts so far. -/
theorem scale_at (c : Dev nD) (t : Fin cfg0.N) (j : S1x1024.Idx) :
    (outsAt0 m c t.val t.isLt).2.2.1 j = 0 + ∑ k ∈ Finset.range (t.val % 32 + 1), zterm m c (32 * (t.val / 32) + k) j := by
  refine Pipeline.eq_sum_of_reset_step_apply (fun n h => (outsAt0 m c n h).2.2.1) 32 (fun _ => 0) (zterm m c)
    (fun t h j => ?_) (fun t h j => ?_) t j
  · rw [outsAt0_A m c t (by omega) h (by omega)]
    frame_out
    pointwise [k0_pay3, zterm]
    rw [if_neg (by omega)]
  · have hs : zterm m c t.val j = if t.val % 4 = 3 then ∑ r : Fin 1024, (outsAt0 m c t.val t.isLt).2.2.2 (ix2 r (j 1))
        * (iblk m c 3 t : S1024x1024.Idx → EReal) (ix2 r (j 1)) else 0 := by
      unfold zterm
      split
      · exact Finset.sum_congr rfl fun r _ =>
          (congrArg₂ (· * ·) (acc_last m c t (by assumption) (ix2 r (j 1))) (blk3 m c t (ix2 r (j 1)))).symm
      · rfl
    rw [hs]
    by_cases h0 : t.val % 4 = 0
    · rw [if_neg (by omega), outsAt0_D m c t h0 h (by omega)]
      simp only [add_zero]
      rfl
    by_cases h1 : t.val % 4 = 3
    · rw [if_pos h1, outsAt0_C m c t h0 h h1]
      frame_out
      idx_vars j
      obtain rfl : j0 = 0 := Subsingleton.elim _ _
      pointwise [k0_pay7]
    · rw [if_neg h1, outsAt0_B m c t h0 h h1]
      simp only [add_zero]
      rfl

/-- The array of the input's gradient. -/
theorem out_final (c : Dev nD) : (dats m 0 c).arrAt 5 cfg0.N
    = fun i : S8192x2048.Idx => dx (Q m c) (W m c) (A m c) (Z m c) (i 0).val (i 1).val := by
  refine (dats m 0 c).arrAt_eq_of_covers 5 _ (by decide +kernel) fun t hf y => ?_
  have e := idx t
  have hr := (flush0_5 t).mp hf
  rw [after0_5]
  refine (out_at m c t hr y).trans ?_
  congr 1 <;> blk_simp [e.2.2.2.1] <;> omega

/-- Of 32 points the last of each run of four contributes. -/
theorem every_fourth (f : ℕ → EReal) :
    ∑ k ∈ Finset.range 32, (if k % 4 = 3 then f (k / 4) else 0) = ∑ k ∈ Finset.range 8, f k := by
  simp [Finset.sum_range_succ]

/-- The parts of a column's 32 points together: a sum over all rows. -/
theorem parts (f : ℕ → ℕ → EReal) (n b : ℕ) (hn : n < 2) :
    ∑ k ∈ Finset.range 32, (if (32 * n + k) % 4 = 3 then
        ∑ r : Fin 1024, f (1024 * ((32 * n + k) / 4 % 8) + r.val) (1024 * ((32 * n + k) / 32) + b) else 0)
      = ∑ r : Fin 8192, f r.val (1024 * n + b) := by
  refine Eq.trans ?_ ((every_fourth fun k => ∑ r : Fin 1024, f (1024 * k + r.val) (1024 * n + b)).trans
    (sum_blocks 8 1024 fun r => f r (1024 * n + b)))
  refine Finset.sum_congr rfl fun k hk => ?_
  have hk := Finset.mem_range.mp hk
  rw [show (32 * n + k) % 4 = k % 4 by omega, show (32 * n + k) / 4 % 8 = k / 4 by omega, show (32 * n + k) / 32 = n by omega]

/-- The array of the shift's gradient. -/
theorem shift_final (c : Dev nD) :
    (dats m 0 c).arrAt 6 cfg0.N = fun i : S1x2048.Idx => dshift (Q m c) (W m c) (i 1).val := by
  refine (dats m 0 c).arrAt_eq_of_covers 6 _ (by decide +kernel) fun t hf y => ?_
  have e := idx t
  have hr := (flush0_6 t).mp hf
  have ht : t.val < 64 := t.isLt
  rw [after0_6]
  refine (shift_at m c t y).trans ?_
  rw [zero_add, show t.val % 32 + 1 = 32 by omega]
  refine (parts (dh (Q m c) (W m c)) (t.val / 32) (y 1).val (by omega)).trans ?_
  unfold dshift
  congr 1
  funext r
  congr 1
  blk_simp [e.2.2.2.2.1]
  omega

/-- The array of the scale's gradient. -/
theorem scale_final (c : Dev nD) :
    (dats m 0 c).arrAt 7 cfg0.N = fun i : S1x2048.Idx => dscale (Q m c) (W m c) (X m c) (i 1).val := by
  refine (dats m 0 c).arrAt_eq_of_covers 7 _ (by decide +kernel) fun t hf y => ?_
  have e := idx t
  have hr := (flush0_7 t).mp hf
  have ht : t.val < 64 := t.isLt
  rw [after0_7]
  refine (scale_at m c t y).trans ?_
  rw [zero_add, show t.val % 32 + 1 = 32 by omega]
  refine (parts (fun r k => dh (Q m c) (W m c) r k * rd (X m c) r k) (t.val / 32) (y 1).val (by omega)).trans ?_
  unfold dscale
  have e1 : 1024 * (t.val / 32) + (y 1).val = ((((cfg0.win 7).blk t).view.emb y) 1).val := by
    blk_simp [e.2.2.2.2.2]
    omega
  rw [e1]

/-! ## The reference -/

section Ref

open Cert.Reference3Ideal.Read

variable (q : S8192x6144.Idx → EReal) (w : S2048x6144.Idx → EReal) (a x : S8192x2048.Idx → EReal) (z : S1x2048.Idx → EReal)

/-- The reference's product. -/
theorem ref_dh (i : S8192x2048.Idx) : val_main_v10 (F := Ideal) q w i = dh q w (i 0).val (i 1).val := by
  rw [val_main_v10_apply]
  exact Finset.sum_congr rfl fun k _ => congrArg₂ (· * ·) (rd_at q _ _ _ rfl rfl) (rd_at w _ _ _ rfl rfl)

/-- The reference's gradient of the input. -/
theorem ref_dx : val_main_v18 (F := Ideal) q w a z = fun i : S8192x2048.Idx => dx q w a z (i 0).val (i 1).val := by
  funext i
  idx_vars i
  pointwise [val_main_v18, val_main_v17, val_main_v16, val_main_v3, val_main_v2, val_main_cst_0]
  rw [ref_dh, rd_ix a i0 i1, rd_ix z 0 i1]
  rfl

/-- The reference's gradient of the shift. -/
theorem ref_shift : val_main_v12 (F := Ideal) q w = fun i : S1x2048.Idx => dshift q w (i 1).val := by
  funext i
  idx_vars i
  pointwise [val_main_v12, val_main_v11, val_main_cst_1]
  exact Finset.sum_congr rfl fun r _ => ref_dh q w _

/-- The reference's gradient of the scale. -/
theorem ref_scale : val_main_v15 (F := Ideal) q w x = fun i : S1x2048.Idx => dscale q w x (i 1).val := by
  funext i
  idx_vars i
  pointwise [val_main_v15, val_main_v14, val_main_v13, val_main_cst_2]
  exact Finset.sum_congr rfl fun r _ => by rw [ref_dh, mul_comm, rd_ix x r i1]; rfl

end Ref

/-- The kernel and the reference end with equal gradients of the input, of the shift and of the scale. -/
theorem algebraic : Cert.algebraic_Kernel3Ideal_Reference3Ideal := fun m ρ m' ρ' pre hag => by
  refine ⟨fun c => fun i : (⟨2, ![8192, 2048]⟩ : Shape).Idx => dx (Q m c) (W m c) (A m c) (Z m c) (i 0).val (i 1).val,
    fun c => fun i : (⟨2, ![1, 2048]⟩ : Shape).Idx => dshift (Q m c) (W m c) (i 1).val,
    fun c => fun i : (⟨2, ![1, 2048]⟩ : Shape).Idx => dscale (Q m c) (W m c) (X m c) (i 1).val,
    (θ_run _ _ _).mono (fun _ h c => ⟨(h c).1.trans (out_final m c), (h c).2.1.trans (shift_final m c),
      (h c).2.2.1.trans (scale_final m c), (h c).2.2.2⟩) (Cert.Kernel3Ideal.Value.run_blocks m ρ),
    (θ_run _ _ _).mono (fun _ h c => ⟨(h c).1.trans ?_, (h c).2.1.trans ?_, (h c).2.2.1.trans ?_, (h c).2.2.2⟩)
      (Cert.Reference3Ideal.Value.run m' ρ')⟩
  · rw [Cert.Reference3Ideal.Read.val_main_v18_eq, (hag c).1, (hag c).2.1, (hag c).2.2.1, (hag c).2.2.2.2]
    exact ref_dx _ _ _ _
  · rw [Cert.Reference3Ideal.Read.val_main_v12_eq, (hag c).1, (hag c).2.1]
    exact ref_shift _ _
  · rw [Cert.Reference3Ideal.Read.val_main_v15_eq, (hag c).1, (hag c).2.1, (hag c).2.2.2.1]
    exact ref_scale _ _ _

end Cert.Dh
end
-- ==== Proof.DwIn.lean ====
module

public import proofs.«01_k».proof.Proof.Gen.Kernel4Ideal.Value
public import proofs.«01_k».proof.Proof.Gen.Reference4Ideal.Read
public import proofs.«01_k».proof.Proof.Common
public import proofs.«01_k».proof.Defs
public import Idealize.ShloMosaic.Lib.Pointwise

@[expose] public section

set_option maxRecDepth 16384

noncomputable section

namespace Cert.DwIn

open Cert.Kernel4Ideal Cert.Kernel4Ideal.Gen Cert.Rd
open Idealize.ShloMosaic Idealize.ShloMosaic.TcCoe Idealize.SL.Sem

variable (m : (ℓ : Loc nD τ sig) → Buf (Elt Ideal) ℓ)

/-- The first argument, the rows that the product contracts. -/
abbrev H (c : Dev nD) : S8192x2048.Idx → EReal := m ((c : Thread nD τ).loc main_arg0)
/-- The second argument, the gradient of the product's result. -/
abbrev D (c : Dev nD) : S8192x6144.Idx → EReal := m ((c : Thread nD τ).loc main_arg1)

/-- The block indices of the three windows at grid point `t`. -/
theorem idx : ∀ t : Fin grid0.N,
    win0_0.index t = ![t.val % 4, t.val / 16] ∧ win0_1.index t = ![t.val % 4, t.val / 4 % 4]
      ∧ win0_2.index t = ![t.val / 16, t.val / 4 % 4] := by
  decide +kernel

/-- What one block product contributes to an element of the accumulator. -/
def term (c : Dev nD) (t : ℕ) (j : S1024x1536.Idx) : EReal :=
  ∑ k : Fin 2048, rd (H m c) (2048 * (t % 4) + k.val) (1024 * (t / 16) + (j 0).val)
      * rd (D m c) (2048 * (t % 4) + k.val) (1536 * (t / 4 % 4) + (j 1).val)

/-- A block of the first argument at grid point `t`. -/
theorem blk0 (c : Dev nD) (t : Fin cfg0.N) (y : S2048x1024.Idx) :
    (iblk m c 0 t : S2048x1024.Idx → EReal) y
      = rd (H m c) (2048 * (t.val % 4) + (y 0).val) (1024 * (t.val / 16) + (y 1).val) := by
  have e := idx t
  refine (rfl : _ = H m c (((cfg0.win 0).blk t).view.emb y)).trans (rd_at _ _ _ _ ?_ ?_) <;> blk_simp [e.1] <;> omega

/-- A block of the second argument at grid point `t`. -/
theorem blk1 (c : Dev nD) (t : Fin cfg0.N) (y : S2048x1536.Idx) :
    (iblk m c 1 t : S2048x1536.Idx → EReal) y
      = rd (D m c) (2048 * (t.val % 4) + (y 0).val) (1536 * (t.val / 4 % 4) + (y 1).val) := by
  have e := idx t
  refine (rfl : _ = D m c (((cfg0.win 1).blk t).view.emb y)).trans (rd_at _ _ _ _ ?_ ?_) <;> blk_simp [e.2.1] <;> omega

/-- The accumulator after grid point `t`: the block products of the run so far. -/
theorem acc (c : Dev nD) (t : Fin cfg0.N) (j : S1024x1536.Idx) :
    (outsAt0 m c t.val t.isLt).2 j = 0 + ∑ k ∈ Finset.range (t.val % 4 + 1), term m c (4 * (t.val / 4) + k) j := by
  refine Pipeline.eq_sum_of_reset_step_apply (fun n h => (outsAt0 m c n h).2) 4 (fun _ => 0) (term m c)
    (fun t h j => ?_) (fun t h j => ?_) t j
  · rw [outsAt0_A m c t h (by omega)]
    frame_out
    pointwise [k0_pay2, k0_pay1, term]
    exact Finset.sum_congr rfl fun k _ => by rw [blk0, blk1]; rfl
  · by_cases h1 : t.val % 4 = 3
    · rw [outsAt0_C m c t h h1]
      frame_out
      simp only [read_unread_whole]
      pointwise [k0_pay2, k0_pay1, term]
      exact congrArg _ (Finset.sum_congr rfl fun k _ => by rw [blk0, blk1]; rfl)
    · rw [outsAt0_B m c t h h1]
      frame_out
      simp only [read_unread_whole]
      pointwise [k0_pay2, k0_pay1, term]
      exact congrArg _ (Finset.sum_congr rfl fun k _ => by rw [blk0, blk1]; rfl)

/-- What the kernel's result array holds: one product over all rows. -/
def G (c : Dev nD) : S2048x6144.Idx → EReal := fun i =>
  ∑ k : Fin 8192, rd (H m c) k.val (i 0).val * rd (D m c) k.val (i 1).val

/-- The last point of a run writes out what its accumulator holds. -/
theorem out_last (c : Dev nD) (t : Fin cfg0.N) (h : t.val % 4 = 3) (j : S1024x1536.Idx) :
    (outsAt0 m c t.val t.isLt).1 j = (outsAt0 m c t.val t.isLt).2 j := by
  rw [outsAt0_C m c t (by omega) h]
  frame_out
  pointwise [k0_pay3]

/-- The blocks that the last point of each run writes back are the blocks of `G`. -/
theorem final (c : Dev nD) : (dats m 0 c).arrAt 2 cfg0.N = G m c := by
  refine (dats m 0 c).arrAt_eq_of_covers 2 _ (by decide +kernel) fun t hf y => ?_
  have hr := (flush0_2 t).mp hf
  have e := idx t
  blk_simp
  rw [after0_2]
  refine (out_last m c t hr y).trans ((acc m c t y).trans ?_)
  have e0 : (((win0_2.blk t).view.emb y) 0).val = 1024 * (t.val / 16) + (y 0).val := by blk_simp [e.2.2]; omega
  have e1 : (((win0_2.blk t).view.emb y) 1).val = 1536 * (t.val / 4 % 4) + (y 1).val := by blk_simp [e.2.2]; omega
  rw [zero_add, G, e0, e1, hr]
  refine Eq.trans ?_ (sum_blocks 4 2048 fun q => rd (H m c) q (1024 * (t.val / 16) + (y 0).val)
    * rd (D m c) q (1536 * (t.val / 4 % 4) + (y 1).val))
  refine Finset.sum_congr rfl fun k hk => ?_
  have hk := Finset.mem_range.mp hk
  simp only [term]
  rw [show (4 * (t.val / 4) + k) % 4 = k by omega, show (4 * (t.val / 4) + k) / 16 = t.val / 16 by omega,
    show (4 * (t.val / 4) + k) / 4 % 4 = t.val / 4 % 4 by omega]

/-- The reference's result: the same product, its factors in the other order. -/
theorem ref (x0 : S8192x2048.Idx → EReal) (x1 : S8192x6144.Idx → EReal) :
    Cert.Reference4Ideal.Read.val_main_v6 (F := Ideal) x0 x1
      = fun i => ∑ k : Fin 8192, rd x0 k.val (i 0).val * rd x1 k.val (i 1).val := by
  funext i
  rw [Cert.Reference4Ideal.Read.val_main_v6_apply, Cert.Reference4Ideal.Read.val_main_v5_apply,
    Cert.Reference4Ideal.Read.val_main_v4_apply]
  refine Finset.sum_congr rfl fun k _ => ?_
  rw [mul_comm]
  exact congrArg₂ (· * ·) (rd_at x0 _ _ _ rfl rfl) (rd_at x1 _ _ _ rfl rfl)

/-- The gradient kernel of the input projection computes the reference's array. -/
theorem algebraic : Cert.algebraic_Kernel4Ideal_Reference4Ideal := fun m ρ m' ρ' _ hag =>
  ⟨fun c => G m c,
    (θ_run _ _ _).mono (fun _ h c => ⟨(h c).1.trans ((Value.final2 m c).symm.trans (final m c)), (h c).2⟩) (Value.run m ρ),
    (θ_run _ _ _).mono (fun _ h c => ⟨(h c).1.trans (by
      rw [(hag c).1, (hag c).2, Cert.Reference4Ideal.Read.val_main_v6_eq]; exact ref _ _), (h c).2⟩)
      (Cert.Reference4Ideal.Value.run m' ρ')⟩

end Cert.DwIn
end
-- ==== Proof.LruFVal.lean ====
module

public import proofs.«01_k».proof.Proof.LruF
public import proofs.«01_k».proof.Proof.Common
public import proofs.«01_k».proof.Defs
public import Idealize.ShloMosaic.Lib.Pointwise
public import Idealize.ShloMosaic.Lib.DynamicIndex
public import Idealize.ShloMosaic.Lib.VecWindow

/-!
Mixer C's recurrence: the rows are walked from the first to the last, `h r = a r * h (r - 1) + b r`.
The kernel walks blocks of 512 rows, eight rows a trip.
-/

@[expose] public section

set_option maxRecDepth 16384

noncomputable section

namespace Cert.LruF

open Cert.Kernel5Ideal Cert.Kernel5Ideal.Gen Cert.Kernel5Ideal.Lru Cert.Rd
open Idealize.ShloMosaic Idealize.ShloMosaic.TcCoe Idealize.SL.Sem

/-! ## The recurrence -/

section Spec

variable (a b : ℕ → ℕ → EReal)

/-- The recurrence's state after `n` rows, in column `q`. -/
def seq (q : ℕ) : ℕ → EReal
  | 0 => 0
  | n + 1 => a n q * seq q n + b n q

end Spec

/-- Row `i` of eight. -/
theorem row_at (A8 : Vec Ideal S8x512 .f32) (i : Fin 8) (h : S8x512.Slices ![i.val, 0] S1x512) (q : Fin 512) :
    extractStridedSlice S1x512 ![i.val, 0] A8 h (ix2 0 q) = A8 (ix2 i q) := by
  unfold extractStridedSlice
  refine congrArg A8 (funext fun b => Fin.ext ?_)
  match b with
  | 0 => simp
  | 1 => simp

/-- One trip of eight rows, from the state after `n` rows. -/
theorem trip_val (a b : ℕ → ℕ → EReal) (n : ℕ) (acc : Vec Ideal S1x512 .f32) (A8 B8 : Vec Ideal S8x512 .f32)
    (hacc : ∀ q : Fin 512, acc (ix2 0 q) = seq a b q.val n)
    (hA : ∀ (i : Fin 8) (q : Fin 512), A8 (ix2 i q) = a (n + i.val) q.val)
    (hB : ∀ (i : Fin 8) (q : Fin 512), B8 (ix2 i q) = b (n + i.val) q.val) :
    (∀ q : Fin 512, k0_pay9 acc A8 B8 (ix2 0 q) = seq a b q.val (n + 8))
      ∧ ∀ (i : Fin 8) (q : Fin 512), k0_pay10 acc A8 B8 (ix2 i q) = seq a b q.val (n + i.val + 1) := by
  have p2 : ∀ q : Fin 512, k0_pay2 acc A8 B8 (ix2 0 q) = seq a b q.val (n + 0 + 1) := fun q => by
    refine Eq.trans (congrArg₂ (fun x y => x * _ + y) ((row_at A8 0 _ q).trans (hA 0 q)) ((row_at B8 0 _ q).trans (hB 0 q))) ?_
    exact congrArg (fun x => a (n + 0) q.val * x + b (n + 0) q.val) (hacc q)
  have p3 : ∀ q : Fin 512, k0_pay3 acc A8 B8 (ix2 0 q) = seq a b q.val (n + 1 + 1) := fun q => by
    refine Eq.trans (congrArg₂ (fun x y => x * _ + y) ((row_at A8 1 _ q).trans (hA 1 q)) ((row_at B8 1 _ q).trans (hB 1 q))) ?_
    exact congrArg (fun x => a (n + 1) q.val * x + b (n + 1) q.val) (p2 q)
  have p4 : ∀ q : Fin 512, k0_pay4 acc A8 B8 (ix2 0 q) = seq a b q.val (n + 2 + 1) := fun q => by
    refine Eq.trans (congrArg₂ (fun x y => x * _ + y) ((row_at A8 2 _ q).trans (hA 2 q)) ((row_at B8 2 _ q).trans (hB 2 q))) ?_
    exact congrArg (fun x => a (n + 2) q.val * x + b (n + 2) q.val) (p3 q)
  have p5 : ∀ q : Fin 512, k0_pay5 acc A8 B8 (ix2 0 q) = seq a b q.val (n + 3 + 1) := fun q => by
    refine Eq.trans (congrArg₂ (fun x y => x * _ + y) ((row_at A8 3 _ q).trans (hA 3 q)) ((row_at B8 3 _ q).trans (hB 3 q))) ?_
    exact congrArg (fun x => a (n + 3) q.val * x + b (n + 3) q.val) (p4 q)
  have p6 : ∀ q : Fin 512, k0_pay6 acc A8 B8 (ix2 0 q) = seq a b q.val (n + 4 + 1) := fun q => by
    refine Eq.trans (congrArg₂ (fun x y => x * _ + y) ((row_at A8 4 _ q).trans (hA 4 q)) ((row_at B8 4 _ q).trans (hB 4 q))) ?_
    exact congrArg (fun x => a (n + 4) q.val * x + b (n + 4) q.val) (p5 q)
  have p7 : ∀ q : Fin 512, k0_pay7 acc A8 B8 (ix2 0 q) = seq a b q.val (n + 5 + 1) := fun q => by
    refine Eq.trans (congrArg₂ (fun x y => x * _ + y) ((row_at A8 5 _ q).trans (hA 5 q)) ((row_at B8 5 _ q).trans (hB 5 q))) ?_
    exact congrArg (fun x => a (n + 5) q.val * x + b (n + 5) q.val) (p6 q)
  have p8 : ∀ q : Fin 512, k0_pay8 acc A8 B8 (ix2 0 q) = seq a b q.val (n + 6 + 1) := fun q => by
    refine Eq.trans (congrArg₂ (fun x y => x * _ + y) ((row_at A8 6 _ q).trans (hA 6 q)) ((row_at B8 6 _ q).trans (hB 6 q))) ?_
    exact congrArg (fun x => a (n + 6) q.val * x + b (n + 6) q.val) (p7 q)
  have p9 : ∀ q : Fin 512, k0_pay9 acc A8 B8 (ix2 0 q) = seq a b q.val (n + 7 + 1) := fun q => by
    refine Eq.trans (congrArg₂ (fun x y => x * _ + y) ((row_at A8 7 _ q).trans (hA 7 q)) ((row_at B8 7 _ q).trans (hB 7 q))) ?_
    exact congrArg (fun x => a (n + 7) q.val * x + b (n + 7) q.val) (p8 q)
  refine ⟨p9, fun i q => ?_⟩
  match i with
  | 0 => exact Eq.trans (b := k0_pay2 acc A8 B8 (ix2 0 q)) (by pointwise [k0_pay10]) (p2 q)
  | 1 => exact Eq.trans (b := k0_pay3 acc A8 B8 (ix2 0 q)) (by pointwise [k0_pay10]) (p3 q)
  | 2 => exact Eq.trans (b := k0_pay4 acc A8 B8 (ix2 0 q)) (by pointwise [k0_pay10]) (p4 q)
  | 3 => exact Eq.trans (b := k0_pay5 acc A8 B8 (ix2 0 q)) (by pointwise [k0_pay10]) (p5 q)
  | 4 => exact Eq.trans (b := k0_pay6 acc A8 B8 (ix2 0 q)) (by pointwise [k0_pay10]) (p6 q)
  | 5 => exact Eq.trans (b := k0_pay7 acc A8 B8 (ix2 0 q)) (by pointwise [k0_pay10]) (p7 q)
  | 6 => exact Eq.trans (b := k0_pay8 acc A8 B8 (ix2 0 q)) (by pointwise [k0_pay10]) (p8 q)
  | 7 => exact Eq.trans (b := k0_pay9 acc A8 B8 (ix2 0 q)) (by pointwise [k0_pay10]) (p9 q)

section Loop

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x512 .f32) (harg6 : arg6.IsWhole)
  (X1 : BufTy.Contents (Elt Ideal) arg1.view.ty) (X2 : BufTy.Contents (Elt Ideal) arg2.view.ty)

/-- What a trip hands on. -/
theorem trip_fst (k : Fin k0_t1_loop.trips) (acc : Vec Ideal S1x512 .f32) :
    tripR_k0_t1 (F := Ideal) Variants.none c none i arg1 harg1 arg2 harg2 arg3 harg3 arg4 harg4 arg5 harg5 arg6 harg6 X1 X2 k acc
      = k0_pay9 acc (View.readAt (Elt Ideal) arg1.view (Rect.unit (s := S512x512) (k0_off1 k) S8x512.size (k0_off1_inb k)).toLoadRect X1) (View.readAt (Elt Ideal) arg2.view (Rect.unit (s := S512x512) (k0_off1 k) S8x512.size (k0_off1_inb k)).toLoadRect X2) := by
  unfold tripR_k0_t1 trip_k0_t1
  rfl

/-- What a trip stores. -/
theorem trip_snd (k : Fin k0_t1_loop.trips) (acc : Vec Ideal S1x512 .f32) :
    tripL_k0_t1 (F := Ideal) Variants.none c none i arg1 harg1 arg2 harg2 arg3 harg3 arg4 harg4 arg5 harg5 arg6 harg6 X1 X2 k acc
      = [⟨Rect.unit (s := S512x512) (k0_off1 k) S8x512.size (k0_off1_inb k),
          k0_pay10 acc (View.readAt (Elt Ideal) arg1.view (Rect.unit (s := S512x512) (k0_off1 k) S8x512.size (k0_off1_inb k)).toLoadRect X1) (View.readAt (Elt Ideal) arg2.view (Rect.unit (s := S512x512) (k0_off1 k) S8x512.size (k0_off1_inb k)).toLoadRect X2)⟩] := by
  unfold tripL_k0_t1 trip_k0_t1
  rfl

/-- The trips of one block, started at the state before the block: the row carried, and the rows stored. -/
theorem loop_val (a b : ℕ → ℕ → EReal) (t : ℕ) (init : Vec Ideal S1x512 .f32)
    (hinit : ∀ q : Fin 512, init (ix2 0 q) = seq a b q.val (512 * t))
    (hA : ∀ y : S512x512.Idx, arg1.view.read (Elt Ideal) X1 y = a (512 * t + (y 0).val) (y 1).val)
    (hB : ∀ y : S512x512.Idx, arg2.view.read (Elt Ideal) X2 y = b (512 * t + (y 0).val) (y 1).val) :
    ∀ k ≤ k0_t1_loop.trips,
      (∀ q : Fin 512, (st_k0_t1 (F := Ideal) Variants.none c none i arg1 harg1 arg2 harg2 arg3 harg3 arg4 harg4 arg5 harg5 arg6 harg6 X1 X2 init k).1 (ix2 0 q)
          = seq a b q.val (512 * t + 8 * k))
      ∧ ∀ p ∈ (st_k0_t1 (F := Ideal) Variants.none c none i arg1 harg1 arg2 harg2 arg3 harg3 arg4 harg4 arg5 harg5 arg6 harg6 X1 X2 init k).2, ∀ x : p.1.shape.Idx,
          p.2 x = (fun y : S512x512.Idx => seq a b (y 1).val (512 * t + (y 0).val + 1)) (p.1.emb x) := by
  intro k
  induction k with
  | zero =>
    intro _
    refine ⟨fun q => ?_, fun p hp => ?_⟩
    · rw [st_k0_t1_zero]; exact hinit q
    · exact absurd hp List.not_mem_nil
  | succ k ih =>
    intro hk
    have h64 : k0_t1_loop.trips = 64 := by decide +kernel
    obtain ⟨ih1, ih2⟩ := ih (by omega)
    have hoff : k0_off1 ⟨k, by omega⟩ = ![8 * k, 0] := k0_off1_eq ⟨k, by omega⟩
    have hs := st_k0_t1_succ (F := Ideal) Variants.none c none i arg1 harg1 arg2 harg2 arg3 harg3 arg4 harg4 arg5 harg5 arg6 harg6 X1 X2 init ⟨k, by omega⟩
    rw [trip_fst, trip_snd] at hs
    have tv := trip_val a b (512 * t + 8 * k) _
      (View.readAt (Elt Ideal) arg1.view (Rect.unit (s := S512x512) (k0_off1 ⟨k, by omega⟩) S8x512.size (k0_off1_inb ⟨k, by omega⟩)).toLoadRect X1)
      (View.readAt (Elt Ideal) arg2.view (Rect.unit (s := S512x512) (k0_off1 ⟨k, by omega⟩) S8x512.size (k0_off1_inb ⟨k, by omega⟩)).toLoadRect X2) ih1
      (fun j q => by
        refine (hA _).trans (congrArg₂ a ?_ ?_)
        · simp [hoff]; omega
        · simp [hoff])
      (fun j q => by
        refine (hB _).trans (congrArg₂ b ?_ ?_)
        · simp [hoff]; omega
        · simp [hoff])
    rw [show k + 1 = (⟨k, by omega⟩ : Fin k0_t1_loop.trips).val + 1 from rfl, hs]
    refine ⟨tv.1, fun p hp => ?_⟩
    rcases List.mem_append.mp hp with h | h
    · obtain rfl := List.mem_singleton.mp h
      intro x
      have hx : x = ix2 (x 0) (x 1) := by funext b; match b with | 0 => rfl | 1 => rfl
      rw [hx]
      refine (tv.2 (x 0) (x 1)).trans (congrArg₂ (seq a b) ?_ ?_)
      · simp [hoff]
      · simp [hoff]; omega
    · exact ih2 p h

end Loop

/-! ## The kernel -/

/-- A whole block loaded. -/
theorem readAt_whole {sp : Space} {e : EltTy} (v : View sig .tc sp S512x512 e) (f : v.ty.Contents (Elt Ideal))
    (h : ∀ a, (![0, 0] : Fin 2 → ℕ) a + S512x512.size a ≤ S512x512.size a) :
    View.readAt (Elt Ideal) v (Rect.unit (s := S512x512) ![0, 0] S512x512.size h).toLoadRect f = v.read (Elt Ideal) f := by
  funext y
  refine congrArg (v.read (Elt Ideal) f) (funext fun b => Fin.ext ?_)
  match b with
  | 0 => simp
  | 1 => simp

/-- A whole row loaded. -/
theorem readAt_whole1 {sp : Space} {e : EltTy} (v : View sig .tc sp S1x512 e) (f : v.ty.Contents (Elt Ideal))
    (h : ∀ a, (![0, 0] : Fin 2 → ℕ) a + S1x512.size a ≤ S1x512.size a) :
    View.readAt (Elt Ideal) v (Rect.unit (s := S1x512) ![0, 0] S1x512.size h).toLoadRect f = v.read (Elt Ideal) f := by
  funext y
  refine congrArg (v.read (Elt Ideal) f) (funext fun b => Fin.ext ?_)
  match b with
  | 0 => simp
  | 1 => simp

/-- A whole block stored last. -/
theorem read_whole {sp : Space} {e : EltTy} (v : View sig .tc sp S512x512 e) (f : v.ty.Contents (Elt Ideal))
    (h : ∀ a, (![0, 0] : Fin 2 → ℕ) a + S512x512.size a ≤ S512x512.size a) (w : S512x512.Idx → Elt Ideal e)
    (L : List (View.Piece (Elt Ideal) S512x512 e)) (y : S512x512.Idx) :
    v.read (Elt Ideal) (v.writes (Elt Ideal) f (⟨Rect.unit (s := S512x512) ![0, 0] S512x512.size h, w⟩ :: L)) y = w y :=
  View.read_writes_cons_hit_of_coords v f (Rect.unit (s := S512x512) ![0, 0] S512x512.size h) w L y y fun b => by
    match b with
    | 0 => simp
    | 1 => simp

/-- A whole row stored last. -/
theorem read_whole1 {sp : Space} {e : EltTy} (v : View sig .tc sp S1x512 e) (f : v.ty.Contents (Elt Ideal))
    (h : ∀ a, (![0, 0] : Fin 2 → ℕ) a + S1x512.size a ≤ S1x512.size a) (w : S1x512.Idx → Elt Ideal e)
    (L : List (View.Piece (Elt Ideal) S1x512 e)) (y : S1x512.Idx) :
    v.read (Elt Ideal) (v.writes (Elt Ideal) f (⟨Rect.unit (s := S1x512) ![0, 0] S1x512.size h, w⟩ :: L)) y = w y :=
  View.read_writes_cons_hit_of_coords v f (Rect.unit (s := S1x512) ![0, 0] S1x512.size h) w L y y fun b => by
    match b with
    | 0 => simp
    | 1 => simp

/-- The row carried is stored as it is. -/
theorem pay11_eq (x : Vec Ideal S1x512 .f32) : k0_pay11 x = x := by
  funext y
  idx_vars y
  pointwise [k0_pay11]

/-- What the first block leaves: its rows, their products with the gate, and the row it hands on. -/
theorem out_A (a b : ℕ → ℕ → EReal) (c : Dev nD) (t : Fin cfg0.N) (h0 : t.val = 0) (x0 x1 x2 : Vec Ideal S512x512 .f32)
    (hA : ∀ y : S512x512.Idx, x0 y = a (512 * t.val + (y 0).val) (y 1).val)
    (hB : ∀ y : S512x512.Idx, x1 y = b (512 * t.val + (y 0).val) (y 1).val) :
    (∀ y : S512x512.Idx, valA_0 c t h0 x0 x1 x2 y = seq a b (y 1).val (512 * t.val + (y 0).val + 1))
      ∧ (valA_1 c t h0 x0 x1 x2 = k0_pay12 (fun y : S512x512.Idx => seq a b (y 1).val (512 * t.val + (y 0).val + 1)) x2)
      ∧ ∀ q : Fin 512, valA_2 c t h0 x0 x1 x2 (ix2 0 q) = seq a b q.val (512 * (t.val + 1)) := by
  have ht : t.val < 16 := Nat.lt_of_lt_of_eq t.isLt N_0
  have h64 : k0_t1_loop.trips = 64 := by decide +kernel
  have lv := fun init h1 => loop_val c (grid0.coords t) (ms0 t) (hs0 t) (ms1 t) (hs1 t) (ms2 t) (hs2 t) (ms3 t) (hs3 t) (ms4 t) (hs4 t) scM0 (Memref.isWhole_whole _)
    ((hs0 t).unread x0) ((hs1 t).unread x1) a b t.val init h1
    (fun y => (congrFun ((hs0 t).read_unread x0) y).trans (hA y)) (fun y => (congrFun ((hs1 t).read_unread x1) y).trans (hB y)) k0_t1_loop.trips (le_refl _)
  refine ⟨fun y => ?_, funext fun y => ?_, fun q => ?_⟩
  · unfold valA_0
    refine View.read_writes_apply_of_pieces VO3 _ (fun y : S512x512.Idx => seq a b (y 1).val (512 * t.val + (y 0).val + 1)) _ ?_ y (covA_0 c t h0 x0 x1 x2 y)
    unfold runA
    dsimp only
    refine (lv _ ?_).2
    · intro q
      unfold runA.sl.v3
      unfold View.readCov
      refine (congrFun (readAt_whole1 _ _ _) (ix2 0 q)).trans ((read_whole1 _ _ _ _ _ (ix2 0 q)).trans ?_)
      rw [h0]
      pointwise [k0_pay1]
      rfl
  · unfold valA_1
    unfold runA
    dsimp only
    refine (read_whole _ _ _ _ _ y).trans ?_
    refine congrFun (congrArg₂ k0_pay12 ?_ ?_) y
    · unfold runA.sl.v9
      funext y
      refine (congrFun (readAt_whole _ _ _) y).trans ?_
      have hcov := covA_0 c t h0 x0 x1 x2 y
      unfold runA at hcov
      dsimp only at hcov
      refine View.read_writes_apply_of_pieces _ _ (fun y : S512x512.Idx => seq a b (y 1).val (512 * t.val + (y 0).val + 1)) _ ?_ y hcov
      refine (lv _ ?_).2
      intro q
      unfold runA.sl.v3
      unfold View.readCov
      refine (congrFun (readAt_whole1 _ _ _) (ix2 0 q)).trans ((read_whole1 _ _ _ _ _ (ix2 0 q)).trans ?_)
      rw [h0]
      pointwise [k0_pay1]
      rfl
    · rw [readAt_whole]
      exact (hs2 t).read_unread x2
  · unfold valA_2
    unfold runA
    dsimp only
    refine (read_whole1 _ _ _ _ _ (ix2 0 q)).trans ?_
    refine (congrFun (pay11_eq _) (ix2 0 q)).trans ?_
    refine ((lv _ ?_).1 q).trans (by rw [h64]; exact congrArg _ (by omega))
    · intro q
      unfold runA.sl.v3
      unfold View.readCov
      refine (congrFun (readAt_whole1 _ _ _) (ix2 0 q)).trans ((read_whole1 _ _ _ _ _ (ix2 0 q)).trans ?_)
      rw [h0]
      pointwise [k0_pay1]
      rfl

/-- What a later block leaves: its rows, their products with the gate, and the row it hands on. -/
theorem out_B (a b : ℕ → ℕ → EReal) (c : Dev nD) (t : Fin cfg0.N) (h0 : ¬t.val = 0) (x0 x1 x2 : Vec Ideal S512x512 .f32) (xs0 : Vec Ideal S1x512 .f32)
    (hA : ∀ y : S512x512.Idx, x0 y = a (512 * t.val + (y 0).val) (y 1).val)
    (hB : ∀ y : S512x512.Idx, x1 y = b (512 * t.val + (y 0).val) (y 1).val)
    (hS : ∀ q : Fin 512, xs0 (ix2 0 q) = seq a b q.val (512 * t.val)) :
    (∀ y : S512x512.Idx, valB_0 c t h0 x0 x1 x2 xs0 y = seq a b (y 1).val (512 * t.val + (y 0).val + 1))
      ∧ (valB_1 c t h0 x0 x1 x2 xs0 = k0_pay12 (fun y : S512x512.Idx => seq a b (y 1).val (512 * t.val + (y 0).val + 1)) x2)
      ∧ ∀ q : Fin 512, valB_2 c t h0 x0 x1 x2 xs0 (ix2 0 q) = seq a b q.val (512 * (t.val + 1)) := by
  have ht : t.val < 16 := Nat.lt_of_lt_of_eq t.isLt N_0
  have h64 : k0_t1_loop.trips = 64 := by decide +kernel
  have lv := fun init h1 => loop_val c (grid0.coords t) (ms0 t) (hs0 t) (ms1 t) (hs1 t) (ms2 t) (hs2 t) (ms3 t) (hs3 t) (ms4 t) (hs4 t) scM0 (Memref.isWhole_whole _)
    ((hs0 t).unread x0) ((hs1 t).unread x1) a b t.val init h1
    (fun y => (congrFun ((hs0 t).read_unread x0) y).trans (hA y)) (fun y => (congrFun ((hs1 t).read_unread x1) y).trans (hB y)) k0_t1_loop.trips (le_refl _)
  refine ⟨fun y => ?_, funext fun y => ?_, fun q => ?_⟩
  · unfold valB_0
    refine View.read_writes_apply_of_pieces VO3 _ (fun y : S512x512.Idx => seq a b (y 1).val (512 * t.val + (y 0).val + 1)) _ ?_ y (covB_0 c t h0 x0 x1 x2 xs0 y)
    unfold runB
    dsimp only
    refine (lv _ ?_).2
    · intro q
      exact (congrFun (readAt_whole1 _ _ _) (ix2 0 q)).trans ((congrFun (Memref.IsWhole.read_unread _ xs0) (ix2 0 q)).trans (hS q))
  · unfold valB_1
    unfold runB
    dsimp only
    refine (read_whole _ _ _ _ _ y).trans ?_
    refine congrFun (congrArg₂ k0_pay12 ?_ ?_) y
    · unfold runB.sl.v9
      funext y
      refine (congrFun (readAt_whole _ _ _) y).trans ?_
      have hcov := covB_0 c t h0 x0 x1 x2 xs0 y
      unfold runB at hcov
      dsimp only at hcov
      refine View.read_writes_apply_of_pieces _ _ (fun y : S512x512.Idx => seq a b (y 1).val (512 * t.val + (y 0).val + 1)) _ ?_ y hcov
      refine (lv _ ?_).2
      intro q
      exact (congrFun (readAt_whole1 _ _ _) (ix2 0 q)).trans ((congrFun (Memref.IsWhole.read_unread _ xs0) (ix2 0 q)).trans (hS q))
    · rw [readAt_whole]
      exact (hs2 t).read_unread x2
  · unfold valB_2
    unfold runB
    dsimp only
    refine (read_whole1 _ _ _ _ _ (ix2 0 q)).trans ?_
    refine (congrFun (pay11_eq _) (ix2 0 q)).trans ?_
    refine ((lv _ ?_).1 q).trans (by rw [h64]; exact congrArg _ (by omega))
    · intro q
      exact (congrFun (readAt_whole1 _ _ _) (ix2 0 q)).trans ((congrFun (Memref.IsWhole.read_unread _ xs0) (ix2 0 q)).trans (hS q))

end Cert.LruF

end
-- ==== Proof.LruFStep.lean ====
module

public import proofs.«01_k».proof.Proof.Gen.Reference5Ideal.Run
public import proofs.«01_k».proof.Proof.Gen.Reference5Ideal.Step

/-!
The reference's run restated over one row's step. After the generated module, whose last step of the carried values asks `rw` for a
term that is written another way there; here that step is closed by `exact`.
-/

@[expose] public section

set_option maxRecDepth 16384

noncomputable section

namespace Cert.LruF.Step

open Idealize.ShloMosaic Idealize.ShloMosaic.TcCoe Idealize.SL.Sem Idealize.ShloMosaic.StableHlo
open Cert.Reference5Ideal Cert.Reference5Ideal.Gen Cert.Reference5Ideal.Value
open Cert.Reference5Ideal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v2_3) = s.main_v2_3
  f_4 : V0 (Proc.devRef .tc main_v2_4) = s.main_v2_4
  f_0 : V0 (Proc.devRef .tc main_v2_0) = s.main_v2_0
  f_1 : V0 (Proc.devRef .tc main_v2_1) = s.main_v2_1
  n_2 : V0 (Proc.devRef .tc main_v2_2) = constantI S_ 32 (BitVec.ofNat 32 j)

variable {V0 s j}

/-- Value 0 of the trip at a valuation that holds the state. -/
theorem al_0 (h : Holds V0 s j) : (constantI S_ 32 0#32 : (Proc.devRef .tc main_while0b_call0_c : DevRef τ sig).ty.Contents (Elt F)) = Cert.Reference5Ideal.Step.b0 j s := by
  unfold Cert.Reference5Ideal.Step.b0
  rfl
/-- Value 1 of the trip at a valuation that holds the state. -/
theorem al_1 (h : Holds V0 s j) : (Host.dynamicSlice S1x512 (V0 (Proc.devRef .tc main_v2_0)) (fun k => (((![V0 (Proc.devRef .tc main_v2_2), constantI S_ 32 0#32] : Fin 2 → (⟨S_, .i32⟩ : BufTy).Contents (Elt F))) k (Shape.Idx.first h_S_)).toInt) sliceFits_S8192x512_S1x512 : (Proc.devRef .tc main_while0b_call0_v0 : DevRef τ sig).ty.Contents (Elt F)) = Cert.Reference5Ideal.Step.b1 j s := by
  unfold Cert.Reference5Ideal.Step.b1
  rw [← al_0 h, h.f_0, h.n_2]
  try rfl
/-- Value 2 of the trip at a valuation that holds the state. -/
theorem al_2 (h : Holds V0 s j) : (shapeCast S512 (Host.dynamicSlice S1x512 (V0 (Proc.devRef .tc main_v2_0)) (fun k => (((![V0 (Proc.devRef .tc main_v2_2), constantI S_ 32 0#32] : Fin 2 → (⟨S_, .i32⟩ : BufTy).Contents (Elt F))) k (Shape.Idx.first h_S_)).toInt) sliceFits_S8192x512_S1x512) shapeCasts_S1x512_S512 : (Proc.devRef .tc main_while0b_v7 : DevRef τ sig).ty.Contents (Elt F)) = Cert.Reference5Ideal.Step.b2 j s := by
  unfold Cert.Reference5Ideal.Step.b2
  rw [← al_1 h]
  try rfl
/-- Value 3 of the trip at a valuation that holds the state. -/
theorem al_3 (h : Holds V0 s j) : (constantI S_ 32 0#32 : (Proc.devRef .tc main_while0b_call1_c : DevRef τ sig).ty.Contents (Elt F)) = Cert.Reference5Ideal.Step.b3 j s := by
  unfold Cert.Reference5Ideal.Step.b3
  rfl
/-- Value 4 of the trip at a valuation that holds the state. -/
theorem al_4 (h : Holds V0 s j) : (Host.dynamicSlice S1x512 (V0 (Proc.devRef .tc main_v2_1)) (fun k => (((![V0 (Proc.devRef .tc main_v2_2), constantI S_ 32 0#32] : Fin 2 → (⟨S_, .i32⟩ : BufTy).Contents (Elt F))) k (Shape.Idx.first h_S_)).toInt) sliceFits_S8192x512_S1x512 : (Proc.devRef .tc main_while0b_call1_v0 : DevRef τ sig).ty.Contents (Elt F)) = Cert.Reference5Ideal.Step.b4 j s := by
  unfold Cert.Reference5Ideal.Step.b4
  rw [← al_3 h, h.f_1, h.n_2]
  try rfl
/-- Value 5 of the trip at a valuation that holds the state. -/
theorem al_5 (h : Holds V0 s j) : (shapeCast S512 (Host.dynamicSlice S1x512 (V0 (Proc.devRef .tc main_v2_1)) (fun k => (((![V0 (Proc.devRef .tc main_v2_2), constantI S_ 32 0#32] : Fin 2 → (⟨S_, .i32⟩ : BufTy).Contents (Elt F))) k (Shape.Idx.first h_S_)).toInt) sliceFits_S8192x512_S1x512) shapeCasts_S1x512_S512 : (Proc.devRef .tc main_while0b_v8 : DevRef τ sig).ty.Contents (Elt F)) = Cert.Reference5Ideal.Step.b5 j s := by
  unfold Cert.Reference5Ideal.Step.b5
  rw [← al_4 h]
  try rfl
/-- Value 6 of the trip at a valuation that holds the state. -/
theorem al_6 (h : Holds V0 s j) : (mulf (shapeCast S512 (Host.dynamicSlice S1x512 (V0 (Proc.devRef .tc main_v2_0)) (fun k => (((![V0 (Proc.devRef .tc main_v2_2), constantI S_ 32 0#32] : Fin 2 → (⟨S_, .i32⟩ : BufTy).Contents (Elt F))) k (Shape.Idx.first h_S_)).toInt) sliceFits_S8192x512_S1x512) shapeCasts_S1x512_S512) (V0 (Proc.devRef .tc main_v2_3)) : (Proc.devRef .tc main_while0b_v9 : DevRef τ sig).ty.Contents (Elt F)) = Cert.Reference5Ideal.Step.b6 j s := by
  unfold Cert.Reference5Ideal.Step.b6
  rw [← al_2 h, h.f_3]
  try rfl
/-- Value 7 of the trip at a valuation that holds the state. -/
theorem al_7 (h : Holds V0 s j) : (res_main_while0b_v10 V0 : (Proc.devRef .tc main_while0b_v10 : DevRef τ sig).ty.Contents (Elt F)) = Cert.Reference5Ideal.Step.b7 j s := by
  unfold res_main_while0b_v10 Cert.Reference5Ideal.Step.b7
  rw [← al_6 h, ← al_5 h]
  try rfl
/-- Value 8 of the trip at a valuation that holds the state. -/
theorem al_8 (h : Holds V0 s j) : (broadcastInDim S1x512 ![1] bcast_S512_S1x512_1 (res_main_while0b_v10 V0) : (Proc.devRef .tc main_while0b_call2_v0 : DevRef τ sig).ty.Contents (Elt F)) = Cert.Reference5Ideal.Step.b8 j s := by
  unfold Cert.Reference5Ideal.Step.b8
  rw [← al_7 h]
  try rfl
/-- Value 9 of the trip at a valuation that holds the state. -/
theorem al_9 (h : Holds V0 s j) : (constantI S_ 32 0#32 : (Proc.devRef .tc main_while0b_call2_c : DevRef τ sig).ty.Contents (Elt F)) = Cert.Reference5Ideal.Step.b9 j s := by
  unfold Cert.Reference5Ideal.Step.b9
  rfl
/-- Value 10 of the trip at a valuation that holds the state. -/
theorem al_10 (h : Holds V0 s j) : (Host.dynamicUpdateSlice (V0 (Proc.devRef .tc main_v2_4)) (broadcastInDim S1x512 ![1] bcast_S512_S1x512_1 (res_main_while0b_v10 V0)) (fun k => (((![V0 (Proc.devRef .tc main_v2_2), constantI S_ 32 0#32] : Fin 2 → (⟨S_, .i32⟩ : BufTy).Contents (Elt F))) k (Shape.Idx.first h_S_)).toInt) updateFits_S8192x512_S1x512 : (Proc.devRef .tc main_while0b_v11 : DevRef τ sig).ty.Contents (Elt F)) = Cert.Reference5Ideal.Step.b10 j s := by
  unfold Cert.Reference5Ideal.Step.b10
  rw [← al_8 h, ← al_9 h, h.f_4, h.n_2]
  try rfl

/-! One trip's step of the carried values is `step`, field by field; a counter steps to the next number. -/

/-- The carried row after a trip. -/
theorem step_3 (h : Holds V0 s j) : step_main_v2_3 V0 = (step j s).main_v2_3 := by
  unfold step_main_v2_3 Cert.Reference5Ideal.Step.step
  show id (res_main_while0b_v10 V0) = _
  rw [al_7 h]
  try rfl
/-- The stored rows after a trip. -/
theorem step_4 (h : Holds V0 s j) : step_main_v2_4 V0 = (step j s).main_v2_4 := by
  unfold step_main_v2_4 Cert.Reference5Ideal.Step.step
  show id (Host.dynamicUpdateSlice (V0 (Proc.devRef .tc main_v2_4)) (broadcastInDim S1x512 ![1] bcast_S512_S1x512_1 (res_main_while0b_v10 V0)) (fun k => (((![V0 (Proc.devRef .tc main_v2_2), constantI S_ 32 0#32] : Fin 2 → (⟨S_, .i32⟩ : BufTy).Contents (Elt F))) k (Shape.Idx.first h_S_)).toInt) updateFits_S8192x512_S1x512) = _
  exact al_10 h
/-- The trip number after a trip. -/
theorem step_2 (h : Holds V0 s j) : step_main_v2_2 V0 = constantI S_ 32 (BitVec.ofNat 32 (j + 1)) := by
  unfold step_main_v2_2
  rw [h.n_2]
  funext i
  show BitVec.ofNat 32 j + 1#32 = BitVec.ofNat 32 (j + 1)
  simp only [BitVec.ofNat_add]

/-- The second result of a state. -/
theorem out_main_v6_holds (h : Holds V0 s j) {x_main_arg2 : (⟨S8192x6144, .f32⟩ : BufTy).Contents (Elt F)} (h_main_arg2 : V0 (Proc.devRef .tc main_arg2) = x_main_arg2) : out_main_v6 V0 = Cert.Reference5Ideal.Step.R_main_v6 s x_main_arg2 := by
  unfold out_main_v6 Cert.Reference5Ideal.Step.R_main_v6
  rw [h.f_4, h_main_arg2]
  try rfl

/-- One trip keeps the valuation holding: `step` of the state, the same set-up values, the next number. -/
theorem holds_step (h : Holds V0 s j) : Holds (STEP V0) (step j s) (j + 1) where
  f_3 := (STEP_main_v2_3 V0).trans (step_3 h)
  f_4 := (STEP_main_v2_4 V0).trans (step_4 h)
  n_2 := (STEP_main_v2_2 V0).trans (step_2 h)
  f_0 := (STEP_main_v2_0 V0).trans h.f_0
  f_1 := (STEP_main_v2_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference5Ideal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v2_4) = (it c 8192).main_v2_4
      ∧ r.2.mem ((c.tc : Thread nD τ).loc main_v6) = Cert.Reference5Ideal.Step.R_main_v6 (it c 8192) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 8192
    ⟨(h c).1.trans hk.f_4, (h c).2.1.trans (out_main_v6_holds hk (iter_main_arg2 m c 8192)), (h c).2.2.1, (h c).2.2.2.1, (h c).2.2.2.2⟩) (Value.run m ρ)

end Cert.LruF.Step

end
-- ==== Proof.LruFEq.lean ====
module

public import proofs.«01_k».proof.Proof.LruFVal
public import proofs.«01_k».proof.Proof.LruFStep
public import Idealize.ShloMosaic.Lib.Claim

/-! The kernel of the recurrence and its reference leave the same arrays. -/

@[expose] public section

set_option maxRecDepth 16384

noncomputable section

namespace Cert.LruF

open Cert.Kernel5Ideal Cert.Kernel5Ideal.Gen Cert.Kernel5Ideal.Lru Cert.Rd
open Idealize.ShloMosaic Idealize.ShloMosaic.TcCoe Idealize.SL.Sem

/-! ## The formulas -/

section Spec

variable (A B : (⟨2, ![8192, 512]⟩ : Shape).Idx → EReal) (P : (⟨2, ![8192, 6144]⟩ : Shape).Idx → EReal)

/-- The recurrence's state at row `r`. -/
def hh (r q : ℕ) : EReal := seq (rd A) (rd B) q (r + 1)
/-- The state gated. -/
def yy (r q : ℕ) : EReal := hh A B r q * (rd P r (4608 + q) * Ideal.logistic (rd P r (4608 + q)))

end Spec

/-! ## The kernel -/

variable (m : (ℓ : Loc nD τ sig) → Buf (Elt Ideal) ℓ)

/-- The recurrence's coefficients. -/
abbrev A (c : Dev nD) : S8192x512.Idx → EReal := m ((c : Thread nD τ).loc main_arg0)
/-- The recurrence's inputs. -/
abbrev B (c : Dev nD) : S8192x512.Idx → EReal := m ((c : Thread nD τ).loc main_arg1)
/-- The layer's projection. -/
abbrev P (c : Dev nD) : S8192x6144.Idx → EReal := m ((c : Thread nD τ).loc main_arg2)

/-- The block indices of the windows at grid point `t`. -/
theorem idx : ∀ t : Fin grid0.N,
    (win0_0.index t = ![t.val, 0] ∧ win0_1.index t = ![t.val, 0])
      ∧ win0_2.index t = ![t.val, 9] ∧ win0_3.index t = ![t.val, 0] ∧ win0_4.index t = ![t.val, 0] := by
  decide +kernel

/-- A block of the coefficients. -/
theorem blk0 (c : Dev nD) (t : Fin cfg0.N) (y : S512x512.Idx) :
    (iblk m c 0 t : S512x512.Idx → EReal) y = rd (A m c) (512 * t.val + (y 0).val) (y 1).val := by
  have e := idx t
  refine (rfl : _ = A m c (((cfg0.win 0).blk t).view.emb y)).trans (rd_at _ _ _ _ ?_ ?_) <;> blk_simp [e.1.1] <;> omega

/-- A block of the inputs. -/
theorem blk1 (c : Dev nD) (t : Fin cfg0.N) (y : S512x512.Idx) :
    (iblk m c 1 t : S512x512.Idx → EReal) y = rd (B m c) (512 * t.val + (y 0).val) (y 1).val := by
  have e := idx t
  refine (rfl : _ = B m c (((cfg0.win 1).blk t).view.emb y)).trans (rd_at _ _ _ _ ?_ ?_) <;> blk_simp [e.1.2] <;> omega

/-- A block of the gate's columns. -/
theorem blk2 (c : Dev nD) (t : Fin cfg0.N) (y : S512x512.Idx) :
    (iblk m c 2 t : S512x512.Idx → EReal) y = rd (P m c) (512 * t.val + (y 0).val) (4608 + (y 1).val) := by
  have e := idx t
  refine (rfl : _ = P m c (((cfg0.win 2).blk t).view.emb y)).trans (rd_at _ _ _ _ ?_ ?_) <;> blk_simp [e.2.1] <;> omega

/-- What grid point `t` hands on: the state after its block. -/
theorem carry (c : Dev nD) : ∀ (n : ℕ) (t : Fin cfg0.N) (ht : t.val = n) (q : Fin 512),
    (outsAt m c t.val t.isLt).2.2 (ix2 0 q) = seq (rd (A m c)) (rd (B m c)) q.val (512 * (t.val + 1))
  | 0, t, ht, q => by
    rw [outsAt_A m c t ht]
    dsimp only
    exact (out_A _ _ c t ht _ _ _ (blk0 m c t) (blk1 m c t)).2.2 q
  | n + 1, t, ht, q => by
    have h0 : ¬t.val = 0 := by omega
    rw [outsAt_B m c t h0]
    dsimp only
    refine (out_B _ _ c t h0 _ _ _ _ (blk0 m c t) (blk1 m c t) fun q => ?_).2.2 q
    have e := carry c n ⟨t.val - 1, Nat.lt_of_le_of_lt (Nat.sub_le _ _) t.isLt⟩ (by show t.val - 1 = n; omega) q
    dsimp only at e
    rw [e, show t.val - 1 + 1 = t.val by omega]

/-- A point's block of the states. -/
theorem hh_at (c : Dev nD) (t : Fin cfg0.N) (y : S512x512.Idx) :
    (outsAt m c t.val t.isLt).1 y = hh (A m c) (B m c) (512 * t.val + (y 0).val) (y 1).val := by
  by_cases h0 : t.val = 0
  · rw [outsAt_A m c t h0]
    dsimp only
    exact (out_A _ _ c t h0 _ _ _ (blk0 m c t) (blk1 m c t)).1 y
  · rw [outsAt_B m c t h0]
    dsimp only
    refine (out_B _ _ c t h0 _ _ _ _ (blk0 m c t) (blk1 m c t) fun q => ?_).1 y
    have e := carry m c _ ⟨t.val - 1, Nat.lt_of_le_of_lt (Nat.sub_le _ _) t.isLt⟩ rfl q
    dsimp only at e
    rw [e, show t.val - 1 + 1 = t.val by omega]

/-- A block of states gated. -/
theorem gated_at (c : Dev nD) (t : Fin cfg0.N) (y : S512x512.Idx) :
    k0_pay12 (fun y : S512x512.Idx => seq (rd (A m c)) (rd (B m c)) (y 1).val (512 * t.val + (y 0).val + 1)) (iblk m c 2 t) y
      = yy (A m c) (B m c) (P m c) (512 * t.val + (y 0).val) (y 1).val := by
  idx_vars y
  pointwise [k0_pay12]
  rw [blk2]
  rfl

/-- A point's block of the gated states. -/
theorem yy_at (c : Dev nD) (t : Fin cfg0.N) (y : S512x512.Idx) :
    (outsAt m c t.val t.isLt).2.1 y = yy (A m c) (B m c) (P m c) (512 * t.val + (y 0).val) (y 1).val := by
  by_cases h0 : t.val = 0
  · rw [outsAt_A m c t h0]
    dsimp only
    rw [(out_A _ _ c t h0 _ _ _ (blk0 m c t) (blk1 m c t)).2.1]
    exact gated_at m c t y
  · rw [outsAt_B m c t h0]
    dsimp only
    rw [(out_B _ _ c t h0 _ _ _ _ (blk0 m c t) (blk1 m c t) fun q => by
      have e := carry m c _ ⟨t.val - 1, Nat.lt_of_le_of_lt (Nat.sub_le _ _) t.isLt⟩ rfl q
      dsimp only at e
      rw [e, show t.val - 1 + 1 = t.val by omega]).2.1]
    exact gated_at m c t y

/-- The array of the states. -/
theorem hh_final (c : Dev nD) : (dats m 0 c).arrAt 3 cfg0.N
    = fun i : S8192x512.Idx => hh (A m c) (B m c) (i 0).val (i 1).val := by
  refine (dats m 0 c).arrAt_eq_of_covers 3 _ (by decide +kernel) fun t hf y => ?_
  have e := idx t
  rw [after0_3]
  refine (hh_at m c t y).trans ?_
  congr 1 <;> blk_simp [e.2.2.1] <;> omega

/-- The array of the gated states. -/
theorem yy_final (c : Dev nD) : (dats m 0 c).arrAt 4 cfg0.N
    = fun i : S8192x512.Idx => yy (A m c) (B m c) (P m c) (i 0).val (i 1).val := by
  refine (dats m 0 c).arrAt_eq_of_covers 4 _ (by decide +kernel) fun t hf y => ?_
  have e := idx t
  rw [after0_4]
  refine (yy_at m c t y).trans ?_
  congr 1 <;> blk_simp [e.2.2.2] <;> omega

/-! ## The reference -/

section Ref

open Cert.Reference5Ideal.Step

variable (a b : S8192x512.Idx → EReal) (p : S8192x6144.Idx → EReal)

/-- The reference's state after `n` rows. -/
def it : ℕ → State Ideal
  | 0 => init a b
  | n + 1 => step n (it n)

/-- The loop keeps the coefficients. -/
theorem it_a (n : ℕ) : (it a b n).main_v2_0 = a := by
  induction n with
  | zero => rfl
  | succ n ih => exact ih

/-- The loop keeps the inputs. -/
theorem it_b (n : ℕ) : (it a b n).main_v2_1 = b := by
  induction n with
  | zero => rfl
  | succ n ih => exact ih

/-- The starts of a trip's slices. -/
theorem start (n : ℕ) (hn : n < 8192) (i : Cert.Reference5Ideal.S_.Idx) (z : Vec Ideal Cert.Reference5Ideal.S_ .i32)
    (hz : z = constantI Cert.Reference5Ideal.S_ 32 0#32) (k : Fin 2) :
    (((![(constantI Cert.Reference5Ideal.S_ 32 (BitVec.ofNat 32 n)), z] : Fin 2 → Vec Ideal Cert.Reference5Ideal.S_ .i32) k) i).toInt
      = ((![n, 0] : Fin 2 → ℕ) k : ℤ) := by
  subst hz
  match k with
  | 0 => exact toInt_ofNat_of_lt (by omega)
  | 1 => rfl

/-- Row `n` fits. -/
theorem fits (n : ℕ) (hn : n < 8192) : Cert.Reference5Ideal.S8192x512.Slices (![n, 0] : Fin 2 → ℕ) Cert.Reference5Ideal.S1x512 := by
  refine ⟨rfl, fun k => ?_⟩
  match k with
  | 0 => show n + 1 ≤ 8192; omega
  | 1 => show 0 + 512 ≤ 512; omega

/-- A row of a matrix, as a trip reads it. -/
theorem row_read (n : ℕ) (hn : n < 8192) (X : Vec Ideal Cert.Reference5Ideal.S8192x512 .f32) (i : Cert.Reference5Ideal.S_.Idx)
    (z : Vec Ideal Cert.Reference5Ideal.S_ .i32) (hz : z = constantI Cert.Reference5Ideal.S_ 32 0#32) (hs) (q : Fin 512) :
    Host.dynamicSlice Cert.Reference5Ideal.S1x512 X (fun k => (((![(constantI Cert.Reference5Ideal.S_ 32 (BitVec.ofNat 32 n)), z] :
      Fin 2 → Vec Ideal Cert.Reference5Ideal.S_ .i32) k) i).toInt) hs (ix2 0 q) = X (ix2 ⟨n, hn⟩ q) := by
  rw [Host.dynamicSlice_eq_extractStridedSlice _ X _ (![n, 0]) _ (fits n hn) (start n hn i z hz)]
  pointwise []

/-- A row reshaped to a vector. -/
theorem cast_row (x : Vec Ideal Cert.Reference5Ideal.S1x512 .f32) (hc) (q : Fin 512) :
    shapeCast Cert.Reference5Ideal.S512 x hc (ix1 q) = x (ix2 0 q) := by
  pointwise []

/-- What a trip hands on. -/
theorem next_at (n : ℕ) (hn : n < 8192) (s : State Ideal) (q : Fin 512) :
    b7 n s (ix1 q) = s.main_v2_0 (ix2 ⟨n, hn⟩ q) * s.main_v2_3 (ix1 q) + s.main_v2_1 (ix2 ⟨n, hn⟩ q) := by
  have e : b2 n s (ix1 q) = s.main_v2_0 (ix2 ⟨n, hn⟩ q) := by
    unfold b2
    rw [cast_row]
    exact row_read n hn s.main_v2_0 (Shape.Idx.first Cert.Reference5Ideal.Gen.h_S_) (b0 n s) rfl Cert.Reference5Ideal.Gen.sliceFits_S8192x512_S1x512 q
  have e' : b5 n s (ix1 q) = s.main_v2_1 (ix2 ⟨n, hn⟩ q) := by
    unfold b5
    rw [cast_row]
    exact row_read n hn s.main_v2_1 (Shape.Idx.first Cert.Reference5Ideal.Gen.h_S_) (b3 n s) rfl Cert.Reference5Ideal.Gen.sliceFits_S8192x512_S1x512 q
  rw [← e, ← e']
  rfl

/-- What the reference's first `n` trips hand on. -/
theorem it_carry (q : Fin 512) : ∀ n : ℕ, n ≤ 8192 → (it a b n).main_v2_3 (ix1 q) = seq (rd a) (rd b) q.val n
  | 0, _ => by
    show K_main_v0 (F := Ideal) (ix1 q) = 0
    pointwise [K_main_v0, K_main_cst]
  | n + 1, hn => by
    show b7 n (it a b n) (ix1 q) = _
    rw [next_at n hn, it_a, it_b, it_carry q n (by omega), seq, rd_ix a, rd_ix b]

/-- A trip's store: one row. -/
theorem store_at (n : ℕ) (hn : n < 8192) (s : State Ideal) (r : Fin 8192) (q : Fin 512) :
    b10 n s (ix2 r q) = if r.val = n then b7 n s (ix1 q) else s.main_v2_4 (ix2 r q) := by
  unfold b10
  rw [WordCmp.dynamicUpdateSlice_eq_update _ _ _ _ ![n, 0] (fits n hn) (start n hn _ (b9 n s) rfl)]
  rw [updateSlice_apply]
  by_cases hr : r.val = n
  · rw [if_pos hr, dif_pos (by
      intro k
      match k with
      | 0 => exact ⟨by show n ≤ r.val; omega, by show r.val < n + 1; omega⟩
      | 1 => exact ⟨Nat.zero_le _, by show q.val < 0 + 512; omega⟩)]
    pointwise [b8]
  · rw [if_neg hr, dif_neg (by
      intro h
      have h0 : n ≤ r.val ∧ r.val < n + 1 := h 0
      omega)]

/-- What the reference's first `n` trips have stored. -/
theorem it_out (r : Fin 8192) (q : Fin 512) : ∀ n : ℕ, n ≤ 8192 →
    (it a b n).main_v2_4 (ix2 r q) = if r.val < n then hh a b r.val q.val else 0
  | 0, _ => by
    show K_main_v1 (F := Ideal) (ix2 r q) = _
    rw [if_neg (by omega)]
    pointwise [K_main_v1, K_main_cst_0]
  | n + 1, hn => by
    refine (congrFun (step_main_v2_4 n (it a b n)) (ix2 r q)).trans ?_
    rw [store_at n hn, it_out r q n (by omega)]
    by_cases h1 : r.val = n
    · rw [if_pos h1, if_pos (by omega), hh, h1]
      exact it_carry a b q (n + 1) hn
    · rw [if_neg h1]
      exact if_congr (by omega) rfl rfl

/-- The reference's states. -/
theorem ref_hh : (it a b 8192).main_v2_4 = fun i : S8192x512.Idx => hh a b (i 0).val (i 1).val := by
  funext i
  idx_vars i
  rw [it_out a b i0 i1 8192 le_rfl, if_pos (by omega)]

/-- The reference's gated states. -/
theorem ref_yy : R_main_v6 (it a b 8192) p = fun i : S8192x512.Idx => yy a b p (i 0).val (i 1).val := by
  unfold R_main_v6
  rw [ref_hh]
  funext i
  idx_vars i
  pointwise []
  show _ = hh a b i0.val i1.val * (rd p i0.val (4608 + i1.val) * Ideal.logistic (rd p i0.val (4608 + i1.val)))
  rw [← rd_at p (ix2 i0 ⟨4608 + i1.val, by omega⟩) i0.val (4608 + i1.val) rfl rfl]
  rfl

end Ref

/-- The kernel and the reference end with equal states and equal gated states. -/
theorem algebraic : Cert.algebraic_Kernel5Ideal_Reference5Ideal := fun m ρ m' ρ' pre hag => by
  refine ⟨fun c => fun i : (⟨2, ![8192, 512]⟩ : Shape).Idx => hh (A m c) (B m c) (i 0).val (i 1).val,
    fun c => fun i : (⟨2, ![8192, 512]⟩ : Shape).Idx => yy (A m c) (B m c) (P m c) (i 0).val (i 1).val,
    (θ_run _ _ _).mono (fun _ h c => ⟨((h.1 c).1 3).trans (hh_final m c), ((h.1 c).1 4).trans (yy_final m c), h.2 c⟩)
      (Idealize.ShloMosaic.θ_run_and (run_main m ρ) (unchanged m ρ)),
    (θ_run _ _ _).mono (fun _ h c => ⟨(h c).1.trans ?_, (h c).2.1.trans ?_, (h c).2.2⟩)
      (Cert.LruF.Step.run_iter m' ρ' (fun c => it _ _) (fun c => rfl) (fun c n => rfl))⟩
  · rw [(hag c).1, (hag c).2.1]
    exact ref_hh _ _
  · rw [(hag c).1, (hag c).2.1, (hag c).2.2]
    exact ref_yy _ _ _

end Cert.LruF

end
-- ==== Proof.LruBStep.lean ====
module

public import proofs.«01_k».proof.Proof.Gen.Reference6Ideal.Run

/-!
One row's step of the reference's loop as plain definitions (what the loop's body computes, of the row's number and of the state handed
on), and the reference's run restated over it. After the generated step, which the recursion limit there keeps from compiling.
-/

@[expose] public section

set_option maxRecDepth 16384

noncomputable section

namespace Cert.LruB.Step

open Idealize.ShloMosaic Cert.Reference6Ideal Cert.Reference6Ideal.Gen

variable {F : FTy → Type} [FloatOps F]

/-- What a trip hands the next. -/
structure State (F : FTy → Type) [FloatOps F] where
  main_v8_3 : (⟨S512, .f32⟩ : BufTy).Contents (Elt F)
  main_v8_4 : (⟨S8192x512, .f32⟩ : BufTy).Contents (Elt F)
  main_v8_0 : (⟨S8192x512, .f32⟩ : BufTy).Contents (Elt F)
  main_v8_1 : (⟨S8192x512, .f32⟩ : BufTy).Contents (Elt F)

/-! What @main computes before the loop without reading an argument. -/

/-- `K_main_call0_cst` of one row's step. -/
def K_main_call0_cst : (⟨S_, .f32⟩ : BufTy).Contents (Elt F) := constant S_ .f32 0x3F800000#32
/-- `K_main_call0_v2` of one row's step. -/
def K_main_call0_v2 : (⟨S8192x512, .f32⟩ : BufTy).Contents (Elt F) := broadcastInDim S8192x512 ![] bcast_S_S8192x512 ((K_main_call0_cst (F := F)))
/-- `K_main_call0_cst_0` of one row's step. -/
def K_main_call0_cst_0 : (⟨S_, .f32⟩ : BufTy).Contents (Elt F) := constant S_ .f32 0x3F800000#32
/-- `K_main_call0_v4` of one row's step. -/
def K_main_call0_v4 : (⟨S8192x512, .f32⟩ : BufTy).Contents (Elt F) := broadcastInDim S8192x512 ![] bcast_S_S8192x512 ((K_main_call0_cst_0 (F := F)))
/-- `K_main_cst` of one row's step. -/
def K_main_cst : (⟨S_, .f32⟩ : BufTy).Contents (Elt F) := constant S_ .f32 0x00000000#32
/-- `K_main_v5` of one row's step. -/
def K_main_v5 : (⟨S512, .f32⟩ : BufTy).Contents (Elt F) := broadcastInDim S512 ![] bcast_S_S512 ((K_main_cst (F := F)))
/-- `K_main_cst_0` of one row's step. -/
def K_main_cst_0 : (⟨S_, .f32⟩ : BufTy).Contents (Elt F) := constant S_ .f32 0x00000000#32
/-- `K_main_v6` of one row's step. -/
def K_main_v6 : (⟨S512, .f32⟩ : BufTy).Contents (Elt F) := broadcastInDim S512 ![] bcast_S_S512 ((K_main_cst_0 (F := F)))
/-- `K_main_cst_1` of one row's step. -/
def K_main_cst_1 : (⟨S_, .f32⟩ : BufTy).Contents (Elt F) := constant S_ .f32 0x00000000#32
/-- `K_main_v7` of one row's step. -/
def K_main_v7 : (⟨S8192x512, .f32⟩ : BufTy).Contents (Elt F) := broadcastInDim S8192x512 ![] bcast_S_S8192x512 ((K_main_cst_1 (F := F)))
/-- `K_main_c` of one row's step. -/
def K_main_c : (⟨S_, .i32⟩ : BufTy).Contents (Elt F) := constantI S_ 32 0#32

/-! What @main computes before the loop from its arguments, as functions of them. -/

/-- `A_main_v0` of one row's step. -/
def A_main_v0 (main_arg1 : (⟨S8192x2048, .f32⟩ : BufTy).Contents (Elt F)) (main_arg3 : (⟨S8192x6144, .f32⟩ : BufTy).Contents (Elt F)) : (⟨S8192x512, .f32⟩ : BufTy).Contents (Elt F) := extractStridedSlice S8192x512 ![0, 4608] (main_arg3) slices_S8192x6144_S8192x512_0_4608
/-- `A_main_call0_v0` of one row's step. -/
def A_main_call0_v0 (main_arg1 : (⟨S8192x2048, .f32⟩ : BufTy).Contents (Elt F)) (main_arg3 : (⟨S8192x6144, .f32⟩ : BufTy).Contents (Elt F)) : (⟨S8192x512, .f32⟩ : BufTy).Contents (Elt F) := Host.negf ((A_main_v0 main_arg1 main_arg3))
/-- `A_main_call0_v1` of one row's step. -/
def A_main_call0_v1 (main_arg1 : (⟨S8192x2048, .f32⟩ : BufTy).Contents (Elt F)) (main_arg3 : (⟨S8192x6144, .f32⟩ : BufTy).Contents (Elt F)) : (⟨S8192x512, .f32⟩ : BufTy).Contents (Elt F) := Host.exp ((A_main_call0_v0 main_arg1 main_arg3))
/-- `A_main_call0_v3` of one row's step. -/
def A_main_call0_v3 (main_arg1 : (⟨S8192x2048, .f32⟩ : BufTy).Contents (Elt F)) (main_arg3 : (⟨S8192x6144, .f32⟩ : BufTy).Contents (Elt F)) : (⟨S8192x512, .f32⟩ : BufTy).Contents (Elt F) := addf ((K_main_call0_v2 (F := F))) ((A_main_call0_v1 main_arg1 main_arg3))
/-- `A_main_call0_v5` of one row's step. -/
def A_main_call0_v5 (main_arg1 : (⟨S8192x2048, .f32⟩ : BufTy).Contents (Elt F)) (main_arg3 : (⟨S8192x6144, .f32⟩ : BufTy).Contents (Elt F)) : (⟨S8192x512, .f32⟩ : BufTy).Contents (Elt F) := Host.divf ((K_main_call0_v4 (F := F))) ((A_main_call0_v3 main_arg1 main_arg3))
/-- `A_main_v1` of one row's step. -/
def A_main_v1 (main_arg1 : (⟨S8192x2048, .f32⟩ : BufTy).Contents (Elt F)) (main_arg3 : (⟨S8192x6144, .f32⟩ : BufTy).Contents (Elt F)) : (⟨S8192x512, .f32⟩ : BufTy).Contents (Elt F) := mulf ((A_main_v0 main_arg1 main_arg3)) ((A_main_call0_v5 main_arg1 main_arg3))
/-- `A_main_v3` of one row's step. -/
def A_main_v3 (main_arg1 : (⟨S8192x2048, .f32⟩ : BufTy).Contents (Elt F)) (main_arg3 : (⟨S8192x6144, .f32⟩ : BufTy).Contents (Elt F)) : (⟨S8192x512, .f32⟩ : BufTy).Contents (Elt F) := extractStridedSlice S8192x512 ![0, 1024] (main_arg1) slices_S8192x2048_S8192x512_0_1024
/-- `A_main_v4` of one row's step. -/
def A_main_v4 (main_arg1 : (⟨S8192x2048, .f32⟩ : BufTy).Contents (Elt F)) (main_arg3 : (⟨S8192x6144, .f32⟩ : BufTy).Contents (Elt F)) : (⟨S8192x512, .f32⟩ : BufTy).Contents (Elt F) := mulf ((A_main_v3 main_arg1 main_arg3)) ((A_main_v1 main_arg1 main_arg3))

/-! One trip's values, in the body's order. -/

/-- `b0` of one row's step. -/
def b0 (j : ℕ) (s : State F) : (⟨S_, .i32⟩ : BufTy).Contents (Elt F) :=
  constantI S_ 32 8192#32
/-- `b1` of one row's step. -/
def b1 (j : ℕ) (s : State F) : (⟨S_, .i32⟩ : BufTy).Contents (Elt F) :=
  subi ((b0 j s)) ((constantI S_ 32 (BitVec.ofNat 32 j) : (⟨S_, .i32⟩ : BufTy).Contents (Elt F)))
/-- `b2` of one row's step. -/
def b2 (j : ℕ) (s : State F) : (⟨S_, .i32⟩ : BufTy).Contents (Elt F) :=
  constantI S_ 32 1#32
/-- `b3` of one row's step. -/
def b3 (j : ℕ) (s : State F) : (⟨S_, .i32⟩ : BufTy).Contents (Elt F) :=
  subi ((b1 j s)) ((b2 j s))
/-- `b4` of one row's step. -/
def b4 (j : ℕ) (s : State F) : (⟨S_, .i32⟩ : BufTy).Contents (Elt F) :=
  constantI S_ 32 0#32
/-- `b5` of one row's step. -/
def b5 (j : ℕ) (s : State F) : (⟨S1x512, .f32⟩ : BufTy).Contents (Elt F) :=
  Host.dynamicSlice S1x512 (s.main_v8_0) (fun k => (((![(b3 j s), (b4 j s)] : Fin 2 → (⟨S_, .i32⟩ : BufTy).Contents (Elt F))) k (Shape.Idx.first h_S_)).toInt) sliceFits_S8192x512_S1x512
/-- `b6` of one row's step. -/
def b6 (j : ℕ) (s : State F) : (⟨S512, .f32⟩ : BufTy).Contents (Elt F) :=
  shapeCast S512 ((b5 j s)) shapeCasts_S1x512_S512
/-- `b7` of one row's step. -/
def b7 (j : ℕ) (s : State F) : (⟨S_, .i32⟩ : BufTy).Contents (Elt F) :=
  constantI S_ 32 0#32
/-- `b8` of one row's step. -/
def b8 (j : ℕ) (s : State F) : (⟨S1x512, .f32⟩ : BufTy).Contents (Elt F) :=
  Host.dynamicSlice S1x512 (s.main_v8_1) (fun k => (((![(b3 j s), (b7 j s)] : Fin 2 → (⟨S_, .i32⟩ : BufTy).Contents (Elt F))) k (Shape.Idx.first h_S_)).toInt) sliceFits_S8192x512_S1x512
/-- `b9` of one row's step. -/
def b9 (j : ℕ) (s : State F) : (⟨S512, .f32⟩ : BufTy).Contents (Elt F) :=
  shapeCast S512 ((b8 j s)) shapeCasts_S1x512_S512
/-- `b10` of one row's step. -/
def b10 (j : ℕ) (s : State F) : (⟨S512, .f32⟩ : BufTy).Contents (Elt F) :=
  addf (s.main_v8_3) ((b6 j s))
/-- `b11` of one row's step. -/
def b11 (j : ℕ) (s : State F) : (⟨S512, .f32⟩ : BufTy).Contents (Elt F) :=
  mulf ((b9 j s)) ((b10 j s))
/-- `b12` of one row's step. -/
def b12 (j : ℕ) (s : State F) : (⟨S1x512, .f32⟩ : BufTy).Contents (Elt F) :=
  broadcastInDim S1x512 ![1] bcast_S512_S1x512_1 ((b10 j s))
/-- `b13` of one row's step. -/
def b13 (j : ℕ) (s : State F) : (⟨S_, .i32⟩ : BufTy).Contents (Elt F) :=
  constantI S_ 32 0#32
/-- `b14` of one row's step. -/
def b14 (j : ℕ) (s : State F) : (⟨S8192x512, .f32⟩ : BufTy).Contents (Elt F) :=
  Host.dynamicUpdateSlice (s.main_v8_4) ((b12 j s)) (fun k => (((![(b3 j s), (b13 j s)] : Fin 2 → (⟨S_, .i32⟩ : BufTy).Contents (Elt F))) k (Shape.Idx.first h_S_)).toInt) updateFits_S8192x512_S1x512

/-- The state @main hands the first trip, of the arguments it copies in or computes from. -/
def init (main_arg0 : (⟨S8192x512, .f32⟩ : BufTy).Contents (Elt F)) (main_arg1 : (⟨S8192x2048, .f32⟩ : BufTy).Contents (Elt F)) (main_arg3 : (⟨S8192x6144, .f32⟩ : BufTy).Contents (Elt F)) : State F :=
  { main_v8_3 := K_main_v6 (F := F), main_v8_4 := K_main_v7 (F := F), main_v8_0 := A_main_v4 main_arg1 main_arg3, main_v8_1 := main_arg0 }

/-- One trip. -/
def step (j : ℕ) (s : State F) : State F :=
  { main_v8_3 := b11 j s, main_v8_4 := b14 j s, main_v8_0 := s.main_v8_0, main_v8_1 := s.main_v8_1 }
/-- `step_main_v8_3` of one row's step. -/
theorem step_main_v8_3 (j : ℕ) (s : State F) : (step j s).main_v8_3 = b11 j s := by unfold step; rfl
/-- `step_main_v8_4` of one row's step. -/
theorem step_main_v8_4 (j : ℕ) (s : State F) : (step j s).main_v8_4 = b14 j s := by unfold step; dsimp only

/-- `main_v15`, which the operations after the loop make, of the loop's last state and the arguments they read. -/
def R_main_v15 (s : State F) (main_arg1 : (⟨S8192x2048, .f32⟩ : BufTy).Contents (Elt F)) (main_arg2 : (⟨S8192x512, .f32⟩ : BufTy).Contents (Elt F)) (main_arg3 : (⟨S8192x6144, .f32⟩ : BufTy).Contents (Elt F)) : (⟨S8192x512, .bf16⟩ : BufTy).Contents (Elt F) :=
  truncf .bf16 (addf (mulf (mulf (main_arg2) (extractStridedSlice S8192x512 ![0, 1024] (main_arg1) slices_S8192x2048_S8192x512_0_1024)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 4608] (main_arg3) slices_S8192x6144_S8192x512_0_4608)))))) (mulf (mulf (extractStridedSlice S8192x512 ![0, 4608] (main_arg3) slices_S8192x6144_S8192x512_0_4608) (mulf (main_arg2) (extractStridedSlice S8192x512 ![0, 1024] (main_arg1) slices_S8192x2048_S8192x512_0_1024))) (mulf (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 4608] (main_arg3) slices_S8192x6144_S8192x512_0_4608))))) (subf (broadcastInDim S8192x512 ![] bcast_S_S8192x512 (constant S_ .f32 0x3F800000#32)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 4608] (main_arg3) slices_S8192x6144_S8192x512_0_4608))))))))) bitsLt_bf16_f32

end Cert.LruB.Step

namespace Cert.LruB.StepRun

open Idealize.ShloMosaic Idealize.ShloMosaic.TcCoe Idealize.SL.Sem Idealize.ShloMosaic.StableHlo
open Cert.Reference6Ideal Cert.Reference6Ideal.Gen Cert.Reference6Ideal.Value
open Cert.LruB.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v8_3) = s.main_v8_3
  f_4 : V0 (Proc.devRef .tc main_v8_4) = s.main_v8_4
  f_0 : V0 (Proc.devRef .tc main_v8_0) = s.main_v8_0
  f_1 : V0 (Proc.devRef .tc main_v8_1) = s.main_v8_1
  n_2 : V0 (Proc.devRef .tc main_v8_2) = constantI S_ 32 (BitVec.ofNat 32 j)

variable {V0 s j}

set_option maxRecDepth 8192 in
theorem al_0 (h : Holds V0 s j) : (constantI S_ 32 8192#32 : (Proc.devRef .tc main_while0b_c_6 : DevRef τ sig).ty.Contents (Elt F)) = Cert.LruB.Step.b0 j s := by
  unfold Cert.LruB.Step.b0
  rfl
set_option maxRecDepth 8192 in
theorem al_1 (h : Holds V0 s j) : (subi (constantI S_ 32 8192#32) (V0 (Proc.devRef .tc main_v8_2)) : (Proc.devRef .tc main_while0b_v16 : DevRef τ sig).ty.Contents (Elt F)) = Cert.LruB.Step.b1 j s := by
  unfold Cert.LruB.Step.b1
  rw [← al_0 h, h.n_2]
  try rfl
set_option maxRecDepth 8192 in
theorem al_2 (h : Holds V0 s j) : (constantI S_ 32 1#32 : (Proc.devRef .tc main_while0b_c_7 : DevRef τ sig).ty.Contents (Elt F)) = Cert.LruB.Step.b2 j s := by
  unfold Cert.LruB.Step.b2
  rfl
set_option maxRecDepth 8192 in
theorem al_3 (h : Holds V0 s j) : (res_main_while0b_v17 V0 : (Proc.devRef .tc main_while0b_v17 : DevRef τ sig).ty.Contents (Elt F)) = Cert.LruB.Step.b3 j s := by
  unfold res_main_while0b_v17 Cert.LruB.Step.b3
  rw [← al_1 h, ← al_2 h]
  try rfl
set_option maxRecDepth 8192 in
theorem al_4 (h : Holds V0 s j) : (constantI S_ 32 0#32 : (Proc.devRef .tc main_while0b_call1_c : DevRef τ sig).ty.Contents (Elt F)) = Cert.LruB.Step.b4 j s := by
  unfold Cert.LruB.Step.b4
  rfl
set_option maxRecDepth 8192 in
theorem al_5 (h : Holds V0 s j) : (Host.dynamicSlice S1x512 (V0 (Proc.devRef .tc main_v8_0)) (fun k => (((![res_main_while0b_v17 V0, constantI S_ 32 0#32] : Fin 2 → (⟨S_, .i32⟩ : BufTy).Contents (Elt F))) k (Shape.Idx.first h_S_)).toInt) sliceFits_S8192x512_S1x512 : (Proc.devRef .tc main_while0b_call1_v0 : DevRef τ sig).ty.Contents (Elt F)) = Cert.LruB.Step.b5 j s := by
  unfold Cert.LruB.Step.b5
  rw [← al_3 h, ← al_4 h, h.f_0]
  try rfl
set_option maxRecDepth 8192 in
theorem al_6 (h : Holds V0 s j) : (shapeCast S512 (Host.dynamicSlice S1x512 (V0 (Proc.devRef .tc main_v8_0)) (fun k => (((![res_main_while0b_v17 V0, constantI S_ 32 0#32] : Fin 2 → (⟨S_, .i32⟩ : BufTy).Contents (Elt F))) k (Shape.Idx.first h_S_)).toInt) sliceFits_S8192x512_S1x512) shapeCasts_S1x512_S512 : (Proc.devRef .tc main_while0b_v18 : DevRef τ sig).ty.Contents (Elt F)) = Cert.LruB.Step.b6 j s := by
  unfold Cert.LruB.Step.b6
  rw [← al_5 h]
  try rfl
set_option maxRecDepth 8192 in
theorem al_7 (h : Holds V0 s j) : (constantI S_ 32 0#32 : (Proc.devRef .tc main_while0b_call2_c : DevRef τ sig).ty.Contents (Elt F)) = Cert.LruB.Step.b7 j s := by
  unfold Cert.LruB.Step.b7
  rfl
set_option maxRecDepth 8192 in
theorem al_8 (h : Holds V0 s j) : (Host.dynamicSlice S1x512 (V0 (Proc.devRef .tc main_v8_1)) (fun k => (((![res_main_while0b_v17 V0, constantI S_ 32 0#32] : Fin 2 → (⟨S_, .i32⟩ : BufTy).Contents (Elt F))) k (Shape.Idx.first h_S_)).toInt) sliceFits_S8192x512_S1x512 : (Proc.devRef .tc main_while0b_call2_v0 : DevRef τ sig).ty.Contents (Elt F)) = Cert.LruB.Step.b8 j s := by
  unfold Cert.LruB.Step.b8
  rw [← al_3 h, ← al_7 h, h.f_1]
  try rfl
set_option maxRecDepth 8192 in
theorem al_9 (h : Holds V0 s j) : (shapeCast S512 (Host.dynamicSlice S1x512 (V0 (Proc.devRef .tc main_v8_1)) (fun k => (((![res_main_while0b_v17 V0, constantI S_ 32 0#32] : Fin 2 → (⟨S_, .i32⟩ : BufTy).Contents (Elt F))) k (Shape.Idx.first h_S_)).toInt) sliceFits_S8192x512_S1x512) shapeCasts_S1x512_S512 : (Proc.devRef .tc main_while0b_v19 : DevRef τ sig).ty.Contents (Elt F)) = Cert.LruB.Step.b9 j s := by
  unfold Cert.LruB.Step.b9
  rw [← al_8 h]
  try rfl
set_option maxRecDepth 8192 in
theorem al_10 (h : Holds V0 s j) : (res_main_while0b_v20 V0 : (Proc.devRef .tc main_while0b_v20 : DevRef τ sig).ty.Contents (Elt F)) = Cert.LruB.Step.b10 j s := by
  unfold res_main_while0b_v20 Cert.LruB.Step.b10
  rw [← al_6 h, h.f_3]
  try rfl
set_option maxRecDepth 8192 in
theorem al_11 (h : Holds V0 s j) : (mulf (shapeCast S512 (Host.dynamicSlice S1x512 (V0 (Proc.devRef .tc main_v8_1)) (fun k => (((![res_main_while0b_v17 V0, constantI S_ 32 0#32] : Fin 2 → (⟨S_, .i32⟩ : BufTy).Contents (Elt F))) k (Shape.Idx.first h_S_)).toInt) sliceFits_S8192x512_S1x512) shapeCasts_S1x512_S512) (res_main_while0b_v20 V0) : (Proc.devRef .tc main_while0b_v21 : DevRef τ sig).ty.Contents (Elt F)) = Cert.LruB.Step.b11 j s := by
  unfold Cert.LruB.Step.b11
  rw [← al_9 h, ← al_10 h]
  try rfl
set_option maxRecDepth 8192 in
theorem al_12 (h : Holds V0 s j) : (broadcastInDim S1x512 ![1] bcast_S512_S1x512_1 (res_main_while0b_v20 V0) : (Proc.devRef .tc main_while0b_call3_v0 : DevRef τ sig).ty.Contents (Elt F)) = Cert.LruB.Step.b12 j s := by
  unfold Cert.LruB.Step.b12
  rw [← al_10 h]
  try rfl
set_option maxRecDepth 8192 in
theorem al_13 (h : Holds V0 s j) : (constantI S_ 32 0#32 : (Proc.devRef .tc main_while0b_call3_c : DevRef τ sig).ty.Contents (Elt F)) = Cert.LruB.Step.b13 j s := by
  unfold Cert.LruB.Step.b13
  rfl
set_option maxRecDepth 8192 in
theorem al_14 (h : Holds V0 s j) : (Host.dynamicUpdateSlice (V0 (Proc.devRef .tc main_v8_4)) (broadcastInDim S1x512 ![1] bcast_S512_S1x512_1 (res_main_while0b_v20 V0)) (fun k => (((![res_main_while0b_v17 V0, constantI S_ 32 0#32] : Fin 2 → (⟨S_, .i32⟩ : BufTy).Contents (Elt F))) k (Shape.Idx.first h_S_)).toInt) updateFits_S8192x512_S1x512 : (Proc.devRef .tc main_while0b_v22 : DevRef τ sig).ty.Contents (Elt F)) = Cert.LruB.Step.b14 j s := by
  unfold Cert.LruB.Step.b14
  rw [← al_12 h, ← al_3 h, ← al_13 h, h.f_4]
  try rfl

/-! One trip's step of the carried values is `step`, field by field; a counter steps to the next number. -/

/-- `step_3` of one row's step. -/
theorem step_3 (h : Holds V0 s j) : step_main_v8_3 V0 = (step j s).main_v8_3 := by
  unfold step_main_v8_3 Cert.LruB.Step.step
  show id (mulf (shapeCast S512 (Host.dynamicSlice S1x512 (V0 (Proc.devRef .tc main_v8_1)) (fun k => (((![res_main_while0b_v17 V0, constantI S_ 32 0#32] : Fin 2 → (⟨S_, .i32⟩ : BufTy).Contents (Elt F))) k (Shape.Idx.first h_S_)).toInt) sliceFits_S8192x512_S1x512) shapeCasts_S1x512_S512) (res_main_while0b_v20 V0)) = _
  rw [al_11 h]
  try rfl
/-- `step_4` of one row's step. -/
theorem step_4 (h : Holds V0 s j) : step_main_v8_4 V0 = (step j s).main_v8_4 := by
  refine Eq.trans ?_ (Cert.LruB.Step.step_main_v8_4 j s).symm
  unfold step_main_v8_4
  unfold Cert.LruB.Step.b14 Cert.LruB.Step.b12 Cert.LruB.Step.b13
  rw [h.f_4, al_10 h, al_3 h]
  generalize Cert.LruB.Step.b3 j s = k3
  generalize Cert.LruB.Step.b10 j s = k10
  rfl
/-- `step_2` of one row's step. -/
theorem step_2 (h : Holds V0 s j) : step_main_v8_2 V0 = constantI S_ 32 (BitVec.ofNat 32 (j + 1)) := by
  unfold step_main_v8_2
  rw [h.n_2]
  funext i
  show BitVec.ofNat 32 j + 1#32 = BitVec.ofNat 32 (j + 1)
  simp only [BitVec.ofNat_add]

set_option maxRecDepth 8192 in
theorem out_main_v15_holds (h : Holds V0 s j) {x_main_arg1 : (⟨S8192x2048, .f32⟩ : BufTy).Contents (Elt F)} (h_main_arg1 : V0 (Proc.devRef .tc main_arg1) = x_main_arg1) {x_main_arg2 : (⟨S8192x512, .f32⟩ : BufTy).Contents (Elt F)} (h_main_arg2 : V0 (Proc.devRef .tc main_arg2) = x_main_arg2) {x_main_arg3 : (⟨S8192x6144, .f32⟩ : BufTy).Contents (Elt F)} (h_main_arg3 : V0 (Proc.devRef .tc main_arg3) = x_main_arg3) : out_main_v15 V0 = Cert.LruB.Step.R_main_v15 s x_main_arg1 x_main_arg2 x_main_arg3 := by
  unfold out_main_v15 Cert.LruB.Step.R_main_v15
  rw [h_main_arg1, h_main_arg2, h_main_arg3]
  try rfl

/-- One trip keeps the valuation holding: `step` of the state, the same set-up values, the next number. -/
theorem holds_step (h : Holds V0 s j) : Holds (STEP V0) (step j s) (j + 1) where
  f_3 := (STEP_main_v8_3 V0).trans (step_3 h)
  f_4 := (STEP_main_v8_4 V0).trans (step_4 h)
  n_2 := (STEP_main_v8_2 V0).trans (step_2 h)
  f_0 := (STEP_main_v8_0 V0).trans h.f_0
  f_1 := (STEP_main_v8_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg3))

variable (m : (ℓ : Loc nD τ sig) → Buf (Elt F) ℓ) (c : Dev nD)

set_option maxRecDepth 65536 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference6Ideal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v8_4) = (it c 8192).main_v8_4
      ∧ r.2.mem ((c.tc : Thread nD τ).loc main_v15) = Cert.LruB.Step.R_main_v15 (it c 8192) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 8192
    ⟨(h c).1.trans hk.f_4, (h c).2.1.trans (out_main_v15_holds hk (iter_main_arg1 m c 8192) (iter_main_arg2 m c 8192) (iter_main_arg3 m c 8192)), (h c).2.2.1, (h c).2.2.2.1, (h c).2.2.2.2.1, (h c).2.2.2.2.2⟩) (Value.run m ρ)

end Cert.LruB.StepRun

end
-- ==== Proof.LruBVal.lean ====
module

public import proofs.«01_k».proof.Proof.LruB
public import proofs.«01_k».proof.Proof.LruBStep
public import proofs.«01_k».proof.Proof.Common
public import proofs.«01_k».proof.Defs
public import Idealize.ShloMosaic.Lib.Pointwise
public import Idealize.ShloMosaic.Lib.DynamicIndex
public import Idealize.ShloMosaic.Lib.VecWindow

/-!
The gradient of mixer C's recurrence: the rows are walked from the last to the first, `lam r = d r + a (r + 1) * lam (r + 1)`.
The kernel walks blocks of 512 rows, eight rows a trip; the reference one row a trip.
-/

@[expose] public section

set_option maxRecDepth 16384

noncomputable section

namespace Cert.LruB

open Cert.Kernel6Ideal Cert.Kernel6Ideal.Gen Cert.Kernel6Ideal.Lru Cert.Rd
open Idealize.ShloMosaic Idealize.ShloMosaic.TcCoe Idealize.SL.Sem

/-! ## The recurrence -/

section Spec

variable (a d : ℕ → ℕ → EReal)

/-- What the last `n` rows hand to the row before them, in column `q`. -/
def seq (q : ℕ) : ℕ → EReal
  | 0 => 0
  | n + 1 => a (8191 - n) q * (d (8191 - n) q + seq q n)

/-- The gradient at row `r`. -/
def lam (r q : ℕ) : EReal := d r q + seq a d q (8191 - r)

end Spec

/-- The gradient at row `r`, from the rows after it. -/
theorem lam_eq (a d : ℕ → ℕ → EReal) (r n q : ℕ) (h : 8191 - r = n) : d r q + seq a d q n = lam a d r q := by
  rw [lam, h]

/-- Row `i` of eight. -/
theorem row_at (A8 : Vec Ideal S8x512 .f32) (i : Fin 8) (h : S8x512.Slices ![i.val, 0] S1x512) (q : Fin 512) :
    extractStridedSlice S1x512 ![i.val, 0] A8 h (ix2 0 q) = A8 (ix2 i q) := by
  unfold extractStridedSlice
  refine congrArg A8 (funext fun b => Fin.ext ?_)
  match b with
  | 0 => simp
  | 1 => simp

/-- One trip of eight rows, from `seq` of the `n` rows after them. -/
theorem trip_val (a d : ℕ → ℕ → EReal) (n : ℕ) (hn : n + 8 ≤ 8192) (acc : Vec Ideal S1x512 .f32) (A8 D8 : Vec Ideal S8x512 .f32)
    (hacc : ∀ q : Fin 512, acc (ix2 0 q) = seq a d q.val n)
    (hA : ∀ (i : Fin 8) (q : Fin 512), A8 (ix2 i q) = a (8184 - n + i.val) q.val)
    (hD : ∀ (i : Fin 8) (q : Fin 512), D8 (ix2 i q) = d (8184 - n + i.val) q.val) :
    (∀ q : Fin 512, k0_pay13 acc A8 D8 (ix2 0 q) = seq a d q.val (n + 8))
      ∧ ∀ (i : Fin 8) (q : Fin 512), k0_pay14 acc A8 D8 (ix2 i q) = lam a d (8184 - n + i.val) q.val := by
  have e7 : 8191 - n = 8184 - n + 7 := by omega
  have e6 : 8191 - (n + 1) = 8184 - n + 6 := by omega
  have e5 : 8191 - (n + 2) = 8184 - n + 5 := by omega
  have e4 : 8191 - (n + 3) = 8184 - n + 4 := by omega
  have e3 : 8191 - (n + 4) = 8184 - n + 3 := by omega
  have e2 : 8191 - (n + 5) = 8184 - n + 2 := by omega
  have e1 : 8191 - (n + 6) = 8184 - n + 1 := by omega
  have e0 : 8191 - (n + 7) = 8184 - n := by omega
  have p5 : ∀ q : Fin 512, k0_pay5 acc D8 (ix2 0 q) = d (8184 - n + 7) q.val + seq a d q.val n := fun q => by
    rw [← hacc]; exact congrArg (· + _) ((row_at D8 7 _ q).trans (hD 7 q))
  have p6 : ∀ q : Fin 512, k0_pay6 acc A8 D8 (ix2 0 q) = d (8184 - n + 6) q.val + seq a d q.val (n + 1) := fun q => by
    rw [seq, e7, ← p5]; exact congrArg₂ (fun x y => x + y * _) ((row_at D8 6 _ q).trans (hD 6 q)) ((row_at A8 7 _ q).trans (hA 7 q))
  have p7 : ∀ q : Fin 512, k0_pay7 acc A8 D8 (ix2 0 q) = d (8184 - n + 5) q.val + seq a d q.val (n + 2) := fun q => by
    rw [seq, e6, ← p6]; exact congrArg₂ (fun x y => x + y * _) ((row_at D8 5 _ q).trans (hD 5 q)) ((row_at A8 6 _ q).trans (hA 6 q))
  have p8 : ∀ q : Fin 512, k0_pay8 acc A8 D8 (ix2 0 q) = d (8184 - n + 4) q.val + seq a d q.val (n + 3) := fun q => by
    rw [seq, e5, ← p7]; exact congrArg₂ (fun x y => x + y * _) ((row_at D8 4 _ q).trans (hD 4 q)) ((row_at A8 5 _ q).trans (hA 5 q))
  have p9 : ∀ q : Fin 512, k0_pay9 acc A8 D8 (ix2 0 q) = d (8184 - n + 3) q.val + seq a d q.val (n + 4) := fun q => by
    rw [seq, e4, ← p8]; exact congrArg₂ (fun x y => x + y * _) ((row_at D8 3 _ q).trans (hD 3 q)) ((row_at A8 4 _ q).trans (hA 4 q))
  have p10 : ∀ q : Fin 512, k0_pay10 acc A8 D8 (ix2 0 q) = d (8184 - n + 2) q.val + seq a d q.val (n + 5) := fun q => by
    rw [seq, e3, ← p9]; exact congrArg₂ (fun x y => x + y * _) ((row_at D8 2 _ q).trans (hD 2 q)) ((row_at A8 3 _ q).trans (hA 3 q))
  have p11 : ∀ q : Fin 512, k0_pay11 acc A8 D8 (ix2 0 q) = d (8184 - n + 1) q.val + seq a d q.val (n + 6) := fun q => by
    rw [seq, e2, ← p10]; exact congrArg₂ (fun x y => x + y * _) ((row_at D8 1 _ q).trans (hD 1 q)) ((row_at A8 2 _ q).trans (hA 2 q))
  have p12 : ∀ q : Fin 512, k0_pay12 acc A8 D8 (ix2 0 q) = d (8184 - n) q.val + seq a d q.val (n + 7) := fun q => by
    rw [seq, e1, ← p11]; exact congrArg₂ (fun x y => x + y * _) ((row_at D8 0 _ q).trans (hD 0 q)) ((row_at A8 1 _ q).trans (hA 1 q))
  refine ⟨fun q => ?_, fun i q => ?_⟩
  · rw [seq, e0, ← p12]; exact congrArg (· * _) ((row_at A8 0 _ q).trans (hA 0 q))
  · match i with
    | 0 =>
      refine Eq.trans (b := k0_pay12 acc A8 D8 (ix2 0 q)) (by pointwise [k0_pay14]) ?_
      exact (p12 q).trans (lam_eq a d _ _ _ (by show 8191 - (8184 - n + 0) = n + 7; omega))
    | 1 =>
      refine Eq.trans (b := k0_pay11 acc A8 D8 (ix2 0 q)) (by pointwise [k0_pay14]) ?_
      exact (p11 q).trans (lam_eq a d _ _ _ (by show 8191 - (8184 - n + 1) = n + 6; omega))
    | 2 =>
      refine Eq.trans (b := k0_pay10 acc A8 D8 (ix2 0 q)) (by pointwise [k0_pay14]) ?_
      exact (p10 q).trans (lam_eq a d _ _ _ (by show 8191 - (8184 - n + 2) = n + 5; omega))
    | 3 =>
      refine Eq.trans (b := k0_pay9 acc A8 D8 (ix2 0 q)) (by pointwise [k0_pay14]) ?_
      exact (p9 q).trans (lam_eq a d _ _ _ (by show 8191 - (8184 - n + 3) = n + 4; omega))
    | 4 =>
      refine Eq.trans (b := k0_pay8 acc A8 D8 (ix2 0 q)) (by pointwise [k0_pay14]) ?_
      exact (p8 q).trans (lam_eq a d _ _ _ (by show 8191 - (8184 - n + 4) = n + 3; omega))
    | 5 =>
      refine Eq.trans (b := k0_pay7 acc A8 D8 (ix2 0 q)) (by pointwise [k0_pay14]) ?_
      exact (p7 q).trans (lam_eq a d _ _ _ (by show 8191 - (8184 - n + 5) = n + 2; omega))
    | 6 =>
      refine Eq.trans (b := k0_pay6 acc A8 D8 (ix2 0 q)) (by pointwise [k0_pay14]) ?_
      exact (p6 q).trans (lam_eq a d _ _ _ (by show 8191 - (8184 - n + 6) = n + 1; omega))
    | 7 =>
      refine Eq.trans (b := k0_pay5 acc D8 (ix2 0 q)) (by pointwise [k0_pay14]) ?_
      exact (p5 q).trans (lam_eq a d _ _ _ (by show 8191 - (8184 - n + 7) = n; omega))

section Loop

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole)
  (X1 : BufTy.Contents (Elt Ideal) arg1.view.ty) (X8 : BufTy.Contents (Elt Ideal) arg8.view.ty)

/-- What a trip hands on. -/
theorem trip_fst (k : Fin k0_t1_loop.trips) (acc : Vec Ideal S1x512 .f32) :
    tripR_k0_t1 (F := Ideal) Variants.none c none i arg1 harg1 arg2 harg2 arg3 harg3 arg4 harg4 arg5 harg5 arg6 harg6 arg7 harg7 arg8 harg8 X1 X8 k acc
      = k0_pay13 acc (View.readAt (Elt Ideal) arg1.view (Rect.unit (s := S512x512) (k0_off1 k) S8x512.size (k0_off1_inb k)).toLoadRect X1)
          (View.readAt (Elt Ideal) arg8.view (Rect.unit (s := S512x512) (k0_off1 k) S8x512.size (k0_off1_inb k)).toLoadRect X8) := by
  unfold tripR_k0_t1 trip_k0_t1
  rfl

/-- What a trip stores. -/
theorem trip_snd (k : Fin k0_t1_loop.trips) (acc : Vec Ideal S1x512 .f32) :
    tripL_k0_t1 (F := Ideal) Variants.none c none i arg1 harg1 arg2 harg2 arg3 harg3 arg4 harg4 arg5 harg5 arg6 harg6 arg7 harg7 arg8 harg8 X1 X8 k acc
      = [⟨Rect.unit (s := S512x512) (k0_off1 k) S8x512.size (k0_off1_inb k),
          k0_pay14 acc (View.readAt (Elt Ideal) arg1.view (Rect.unit (s := S512x512) (k0_off1 k) S8x512.size (k0_off1_inb k)).toLoadRect X1)
            (View.readAt (Elt Ideal) arg8.view (Rect.unit (s := S512x512) (k0_off1 k) S8x512.size (k0_off1_inb k)).toLoadRect X8)⟩] := by
  unfold tripL_k0_t1 trip_k0_t1
  rfl

/-- The trips of one block, started at `seq` of the rows after the block: the row carried, and the rows stored. -/
theorem loop_val (a d : ℕ → ℕ → EReal) (t : ℕ) (ht : t < 16) (init : Vec Ideal S1x512 .f32)
    (hinit : ∀ q : Fin 512, init (ix2 0 q) = seq a d q.val (512 * t))
    (hA : ∀ y : S512x512.Idx, arg1.view.read (Elt Ideal) X1 y = a (512 * (15 - t) + (y 0).val) (y 1).val)
    (hD : ∀ y : S512x512.Idx, arg8.view.read (Elt Ideal) X8 y = d (512 * (15 - t) + (y 0).val) (y 1).val) :
    ∀ k ≤ k0_t1_loop.trips,
      (∀ q : Fin 512, (st_k0_t1 (F := Ideal) Variants.none c none i arg1 harg1 arg2 harg2 arg3 harg3 arg4 harg4 arg5 harg5 arg6 harg6 arg7 harg7 arg8 harg8 X1 X8 init k).1 (ix2 0 q)
          = seq a d q.val (512 * t + 8 * k))
      ∧ ∀ p ∈ (st_k0_t1 (F := Ideal) Variants.none c none i arg1 harg1 arg2 harg2 arg3 harg3 arg4 harg4 arg5 harg5 arg6 harg6 arg7 harg7 arg8 harg8 X1 X8 init k).2, ∀ x : p.1.shape.Idx,
          p.2 x = (fun y : S512x512.Idx => lam a d (512 * (15 - t) + (y 0).val) (y 1).val) (p.1.emb x) := by
  intro k
  induction k with
  | zero =>
    intro _
    refine ⟨fun q => ?_, fun p hp => ?_⟩
    · rw [st_k0_t1_zero]; exact hinit q
    · exact absurd hp List.not_mem_nil
  | succ k ih =>
    intro hk
    have h64 : k0_t1_loop.trips = 64 := by decide +kernel
    obtain ⟨ih1, ih2⟩ := ih (by omega)
    have hoff : k0_off1 ⟨k, by omega⟩ = ![504 - 8 * k, 0] := k0_off1_eq ⟨k, by omega⟩
    have hs := st_k0_t1_succ (F := Ideal) Variants.none c none i arg1 harg1 arg2 harg2 arg3 harg3 arg4 harg4 arg5 harg5 arg6 harg6 arg7 harg7 arg8 harg8 X1 X8 init ⟨k, by omega⟩
    rw [trip_fst, trip_snd] at hs
    have tv := trip_val a d (512 * t + 8 * k) (by omega) _
      (View.readAt (Elt Ideal) arg1.view (Rect.unit (s := S512x512) (k0_off1 ⟨k, by omega⟩) S8x512.size (k0_off1_inb ⟨k, by omega⟩)).toLoadRect X1)
      (View.readAt (Elt Ideal) arg8.view (Rect.unit (s := S512x512) (k0_off1 ⟨k, by omega⟩) S8x512.size (k0_off1_inb ⟨k, by omega⟩)).toLoadRect X8) ih1
      (fun j q => by
        refine (hA _).trans (congrArg₂ a ?_ ?_)
        · simp [hoff]; omega
        · simp [hoff])
      (fun j q => by
        refine (hD _).trans (congrArg₂ d ?_ ?_)
        · simp [hoff]; omega
        · simp [hoff])
    rw [show k + 1 = (⟨k, by omega⟩ : Fin k0_t1_loop.trips).val + 1 from rfl, hs]
    refine ⟨tv.1, fun p hp => ?_⟩
    rcases List.mem_append.mp hp with h | h
    · obtain rfl := List.mem_singleton.mp h
      intro x
      have hx : x = ix2 (x 0) (x 1) := by funext b; match b with | 0 => rfl | 1 => rfl
      rw [hx]
      refine (tv.2 (x 0) (x 1)).trans (congrArg₂ (lam a d) ?_ ?_)
      · simp [hoff]; omega
      · simp [hoff]
    · exact ih2 p h

end Loop

/-! ## The kernel -/

/-- A whole block loaded. -/
theorem readAt_whole {sp : Space} {e : EltTy} (v : View sig .tc sp S512x512 e) (f : v.ty.Contents (Elt Ideal))
    (h : ∀ a, (![0, 0] : Fin 2 → ℕ) a + S512x512.size a ≤ S512x512.size a) :
    View.readAt (Elt Ideal) v (Rect.unit (s := S512x512) ![0, 0] S512x512.size h).toLoadRect f = v.read (Elt Ideal) f := by
  funext y
  refine congrArg (v.read (Elt Ideal) f) (funext fun b => Fin.ext ?_)
  match b with
  | 0 => simp
  | 1 => simp

/-- A whole row loaded. -/
theorem readAt_whole1 {sp : Space} {e : EltTy} (v : View sig .tc sp S1x512 e) (f : v.ty.Contents (Elt Ideal))
    (h : ∀ a, (![0, 0] : Fin 2 → ℕ) a + S1x512.size a ≤ S1x512.size a) :
    View.readAt (Elt Ideal) v (Rect.unit (s := S1x512) ![0, 0] S1x512.size h).toLoadRect f = v.read (Elt Ideal) f := by
  funext y
  refine congrArg (v.read (Elt Ideal) f) (funext fun b => Fin.ext ?_)
  match b with
  | 0 => simp
  | 1 => simp

/-- A whole block stored last. -/
theorem read_whole {sp : Space} {e : EltTy} (v : View sig .tc sp S512x512 e) (f : v.ty.Contents (Elt Ideal))
    (h : ∀ a, (![0, 0] : Fin 2 → ℕ) a + S512x512.size a ≤ S512x512.size a) (w : S512x512.Idx → Elt Ideal e)
    (L : List (View.Piece (Elt Ideal) S512x512 e)) (y : S512x512.Idx) :
    v.read (Elt Ideal) (v.writes (Elt Ideal) f (⟨Rect.unit (s := S512x512) ![0, 0] S512x512.size h, w⟩ :: L)) y = w y :=
  View.read_writes_cons_hit_of_coords v f (Rect.unit (s := S512x512) ![0, 0] S512x512.size h) w L y y fun b => by
    match b with
    | 0 => simp
    | 1 => simp

/-- A whole row stored last. -/
theorem read_whole1 {sp : Space} {e : EltTy} (v : View sig .tc sp S1x512 e) (f : v.ty.Contents (Elt Ideal))
    (h : ∀ a, (![0, 0] : Fin 2 → ℕ) a + S1x512.size a ≤ S1x512.size a) (w : S1x512.Idx → Elt Ideal e)
    (L : List (View.Piece (Elt Ideal) S1x512 e)) (y : S1x512.Idx) :
    v.read (Elt Ideal) (v.writes (Elt Ideal) f (⟨Rect.unit (s := S1x512) ![0, 0] S1x512.size h, w⟩ :: L)) y = w y :=
  View.read_writes_cons_hit_of_coords v f (Rect.unit (s := S1x512) ![0, 0] S1x512.size h) w L y y fun b => by
    match b with
    | 0 => simp
    | 1 => simp

/-- The row carried is stored as it is. -/
theorem pay1_eq (x : Vec Ideal S1x512 .f32) : k0_pay1 x = x := by
  funext y
  idx_vars y
  pointwise [k0_pay1]

/-- What the first block leaves: its rows, and the row it hands on. -/
theorem out_A (a d : ℕ → ℕ → EReal) (c : Dev nD) (t : Fin cfg0.N) (h0 : t.val = 0) (x0 x1 x2 x3 : Vec Ideal S512x512 .f32)
    (hA : ∀ y : S512x512.Idx, x0 y = a (512 * (15 - t.val) + (y 0).val) (y 1).val)
    (hD : ∀ y : S512x512.Idx, k0_pay2 x1 x3 y = d (512 * (15 - t.val) + (y 0).val) (y 1).val) :
    (∀ y : S512x512.Idx, valA_0 c t h0 x0 x1 x2 x3 y = lam a d (512 * (15 - t.val) + (y 0).val) (y 1).val)
      ∧ ∀ q : Fin 512, valA_2 c t h0 x0 x1 x2 x3 (ix2 0 q) = seq a d q.val (512 * (t.val + 1)) := by
  have ht : t.val < 16 := Nat.lt_of_lt_of_eq t.isLt N_0
  have h64 : k0_t1_loop.trips = 64 := by decide +kernel
  have lv := fun X8 init h1 h2 => loop_val c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
    ((hs0 t).unread x0) X8 a d t.val ht init h1
    (fun y => (congrFun ((hs0 t).read_unread x0) y).trans (hA y)) h2 k0_t1_loop.trips (le_refl _)
  have hd : ∀ y : S512x512.Idx, k0_pay2 (View.readAt (Elt Ideal) (ms1 t).view (Rect.unit ![0, 0] S512x512.size inb_S512x512_S512x512_0_0).toLoadRect ((hs1 t).unread x1))
      (View.readAt (Elt Ideal) (ms3 t).view (Rect.unit ![0, 0] S512x512.size inb_S512x512_S512x512_0_0).toLoadRect ((hs3 t).unread x3)) y
        = d (512 * (15 - t.val) + (y 0).val) (y 1).val := by
    intro y
    rw [readAt_whole, readAt_whole, (hs1 t).read_unread, (hs3 t).read_unread]
    exact hD y
  refine ⟨fun y => ?_, fun q => ?_⟩
  · unfold valA_0
    refine View.read_writes_apply_of_pieces VO4 _ (fun y : S512x512.Idx => lam a d (512 * (15 - t.val) + (y 0).val) (y 1).val) _ ?_ y (covA_0 c t h0 x0 x1 x2 x3 y)
    unfold runA
    dsimp only
    refine (lv _ _ ?_ ?_).2
    · intro q
      unfold runA.sl.v25
      unfold View.readCov
      refine (congrFun (readAt_whole1 _ _ _) (ix2 0 q)).trans ((read_whole1 _ _ _ _ _ (ix2 0 q)).trans ?_)
      rw [h0]
      pointwise [k0_pay4]
      rfl
    · intro y
      exact (read_whole _ _ _ _ _ y).trans (hd y)
  · unfold valA_2
    unfold runA
    dsimp only
    refine (read_whole1 _ _ _ _ _ (ix2 0 q)).trans ?_
    refine (congrFun (pay1_eq _) (ix2 0 q)).trans ?_
    refine ((lv _ _ ?_ ?_).1 q).trans (by rw [h64]; exact congrArg _ (by omega))
    · intro q
      unfold runA.sl.v25
      unfold View.readCov
      refine (congrFun (readAt_whole1 _ _ _) (ix2 0 q)).trans ((read_whole1 _ _ _ _ _ (ix2 0 q)).trans ?_)
      rw [h0]
      pointwise [k0_pay4]
      rfl
    · intro y
      exact (read_whole _ _ _ _ _ y).trans (hd y)

/-- The gate's gradient that the first block leaves. -/
theorem gate_A (c : Dev nD) (t : Fin cfg0.N) (h0 : t.val = 0) (x0 x1 x2 x3 : Vec Ideal S512x512 .f32) :
    valA_1 c t h0 x0 x1 x2 x3 = k0_pay3 x1 x2 x3 := by
  unfold valA_1
  unfold runA
  dsimp only
  funext y
  refine (read_whole _ _ _ _ _ y).trans ?_
  have hg : k0_pay3 (View.readAt (Elt Ideal) (ms1 t).view (Rect.unit ![0, 0] S512x512.size inb_S512x512_S512x512_0_0).toLoadRect ((hs1 t).unread x1))
      (View.readAt (Elt Ideal) (ms2 t).view (Rect.unit ![0, 0] S512x512.size inb_S512x512_S512x512_0_0).toLoadRect ((hs2 t).unread x2))
      (View.readAt (Elt Ideal) (ms3 t).view (Rect.unit ![0, 0] S512x512.size inb_S512x512_S512x512_0_0).toLoadRect ((hs3 t).unread x3)) = k0_pay3 x1 x2 x3 := by
    rw [readAt_whole, readAt_whole, readAt_whole, (hs1 t).read_unread, (hs2 t).read_unread, (hs3 t).read_unread]
  exact congrFun hg y

/-- What the a later block leaves: its rows, and the row it hands on. -/
theorem out_B (a d : ℕ → ℕ → EReal) (c : Dev nD) (t : Fin cfg0.N) (h0 : ¬t.val = 0) (x0 x1 x2 x3 : Vec Ideal S512x512 .f32) (xs0 : Vec Ideal S1x512 .f32)
    (hA : ∀ y : S512x512.Idx, x0 y = a (512 * (15 - t.val) + (y 0).val) (y 1).val)
    (hD : ∀ y : S512x512.Idx, k0_pay2 x1 x3 y = d (512 * (15 - t.val) + (y 0).val) (y 1).val)
    (hS : ∀ q : Fin 512, xs0 (ix2 0 q) = seq a d q.val (512 * t.val)) :
    (∀ y : S512x512.Idx, valB_0 c t h0 x0 x1 x2 x3 xs0 y = lam a d (512 * (15 - t.val) + (y 0).val) (y 1).val)
      ∧ ∀ q : Fin 512, valB_2 c t h0 x0 x1 x2 x3 xs0 (ix2 0 q) = seq a d q.val (512 * (t.val + 1)) := by
  have ht : t.val < 16 := Nat.lt_of_lt_of_eq t.isLt N_0
  have h64 : k0_t1_loop.trips = 64 := by decide +kernel
  have lv := fun X8 init h1 h2 => loop_val c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
    ((hs0 t).unread x0) X8 a d t.val ht init h1
    (fun y => (congrFun ((hs0 t).read_unread x0) y).trans (hA y)) h2 k0_t1_loop.trips (le_refl _)
  have hd : ∀ y : S512x512.Idx, k0_pay2 (View.readAt (Elt Ideal) (ms1 t).view (Rect.unit ![0, 0] S512x512.size inb_S512x512_S512x512_0_0).toLoadRect ((hs1 t).unread x1))
      (View.readAt (Elt Ideal) (ms3 t).view (Rect.unit ![0, 0] S512x512.size inb_S512x512_S512x512_0_0).toLoadRect ((hs3 t).unread x3)) y
        = d (512 * (15 - t.val) + (y 0).val) (y 1).val := by
    intro y
    rw [readAt_whole, readAt_whole, (hs1 t).read_unread, (hs3 t).read_unread]
    exact hD y
  refine ⟨fun y => ?_, fun q => ?_⟩
  · unfold valB_0
    refine View.read_writes_apply_of_pieces VO4 _ (fun y : S512x512.Idx => lam a d (512 * (15 - t.val) + (y 0).val) (y 1).val) _ ?_ y (covB_0 c t h0 x0 x1 x2 x3 xs0 y)
    unfold runB
    dsimp only
    refine (lv _ _ ?_ ?_).2
    · intro q
      exact (congrFun (readAt_whole1 _ _ _) (ix2 0 q)).trans ((congrFun (Memref.IsWhole.read_unread _ xs0) (ix2 0 q)).trans (hS q))
    · intro y
      exact (read_whole _ _ _ _ _ y).trans (hd y)
  · unfold valB_2
    unfold runB
    dsimp only
    refine (read_whole1 _ _ _ _ _ (ix2 0 q)).trans ?_
    refine (congrFun (pay1_eq _) (ix2 0 q)).trans ?_
    refine ((lv _ _ ?_ ?_).1 q).trans (by rw [h64]; exact congrArg _ (by omega))
    · intro q
      exact (congrFun (readAt_whole1 _ _ _) (ix2 0 q)).trans ((congrFun (Memref.IsWhole.read_unread _ xs0) (ix2 0 q)).trans (hS q))
    · intro y
      exact (read_whole _ _ _ _ _ y).trans (hd y)

/-- The gate's gradient that the a later block leaves. -/
theorem gate_B (c : Dev nD) (t : Fin cfg0.N) (h0 : ¬t.val = 0) (x0 x1 x2 x3 : Vec Ideal S512x512 .f32) (xs0 : Vec Ideal S1x512 .f32) :
    valB_1 c t h0 x0 x1 x2 x3 xs0 = k0_pay3 x1 x2 x3 := by
  unfold valB_1
  unfold runB
  dsimp only
  funext y
  refine (read_whole _ _ _ _ _ y).trans ?_
  have hg : k0_pay3 (View.readAt (Elt Ideal) (ms1 t).view (Rect.unit ![0, 0] S512x512.size inb_S512x512_S512x512_0_0).toLoadRect ((hs1 t).unread x1))
      (View.readAt (Elt Ideal) (ms2 t).view (Rect.unit ![0, 0] S512x512.size inb_S512x512_S512x512_0_0).toLoadRect ((hs2 t).unread x2))
      (View.readAt (Elt Ideal) (ms3 t).view (Rect.unit ![0, 0] S512x512.size inb_S512x512_S512x512_0_0).toLoadRect ((hs3 t).unread x3)) = k0_pay3 x1 x2 x3 := by
    rw [readAt_whole, readAt_whole, readAt_whole, (hs1 t).read_unread, (hs2 t).read_unread, (hs3 t).read_unread]
  exact congrFun hg y

end Cert.LruB

end
-- ==== Proof.LruBEq.lean ====
module

public import proofs.«01_k».proof.Proof.LruBVal
public import proofs.«01_k».proof.Proof.MixerARef
public import proofs.«01_k».proof.Proof.Finite
public import Idealize.ShloMosaic.Lib.Claim

/-! The kernel of the recurrence's gradient and its reference leave the same arrays. -/

@[expose] public section

set_option maxRecDepth 16384

noncomputable section

namespace Cert.LruB

open Cert.Kernel6Ideal Cert.Kernel6Ideal.Gen Cert.Kernel6Ideal.Lru Cert.Rd
open Idealize.ShloMosaic Idealize.ShloMosaic.TcCoe Idealize.SL.Sem

/-! ## The formulas -/

section Spec

variable (Y : (⟨2, ![8192, 2048]⟩ : Shape).Idx → EReal) (H : (⟨2, ![8192, 512]⟩ : Shape).Idx → EReal)
  (P : (⟨2, ![8192, 6144]⟩ : Shape).Idx → EReal)

/-- The gate's sigmoid. -/
def sg (r q : ℕ) : EReal := Ideal.logistic (rd P r (4608 + q))
/-- The gradient of the recurrence's output. -/
def dS (r q : ℕ) : EReal := rd Y r (1024 + q) * (rd P r (4608 + q) * sg P r q)
/-- The gradient of the gate's input. -/
def dc (r q : ℕ) : EReal := rd Y r (1024 + q) * rd H r q * (sg P r q * (1 + rd P r (4608 + q) * (1 - sg P r q)))

end Spec

/-! ## The kernel -/

variable (m : (ℓ : Loc nD τ sig) → Buf (Elt Ideal) ℓ)

/-- The recurrence's coefficients. -/
abbrev A (c : Dev nD) : S8192x512.Idx → EReal := m ((c : Thread nD τ).loc main_arg0)
/-- The gradient of the mixers' outputs. -/
abbrev Y (c : Dev nD) : S8192x2048.Idx → EReal := m ((c : Thread nD τ).loc main_arg1)
/-- The recurrence's output. -/
abbrev H (c : Dev nD) : S8192x512.Idx → EReal := m ((c : Thread nD τ).loc main_arg2)
/-- The layer's projection. -/
abbrev P (c : Dev nD) : S8192x6144.Idx → EReal := m ((c : Thread nD τ).loc main_arg3)

/-- The block indices of the windows at grid point `t`. -/
theorem idx : ∀ t : Fin grid0.N,
    (win0_0.index t = ![15 - t.val, 0] ∧ win0_1.index t = ![15 - t.val, 2])
      ∧ (win0_2.index t = ![15 - t.val, 0] ∧ win0_3.index t = ![15 - t.val, 9])
      ∧ win0_4.index t = ![15 - t.val, 0] ∧ win0_5.index t = ![15 - t.val, 0] := by
  decide +kernel

/-- A block of the coefficients. -/
theorem blk0 (c : Dev nD) (t : Fin cfg0.N) (y : S512x512.Idx) :
    (iblk m c 0 t : S512x512.Idx → EReal) y = rd (A m c) (512 * (15 - t.val) + (y 0).val) (y 1).val := by
  have e := idx t
  refine (rfl : _ = A m c (((cfg0.win 0).blk t).view.emb y)).trans (rd_at _ _ _ _ ?_ ?_) <;> blk_simp [e.1.1] <;> omega

/-- A block of the mixers' gradient. -/
theorem blk1 (c : Dev nD) (t : Fin cfg0.N) (y : S512x512.Idx) :
    (iblk m c 1 t : S512x512.Idx → EReal) y = rd (Y m c) (512 * (15 - t.val) + (y 0).val) (1024 + (y 1).val) := by
  have e := idx t
  refine (rfl : _ = Y m c (((cfg0.win 1).blk t).view.emb y)).trans (rd_at _ _ _ _ ?_ ?_) <;> blk_simp [e.1.2] <;> omega

/-- A block of the recurrence's output. -/
theorem blk2 (c : Dev nD) (t : Fin cfg0.N) (y : S512x512.Idx) :
    (iblk m c 2 t : S512x512.Idx → EReal) y = rd (H m c) (512 * (15 - t.val) + (y 0).val) (y 1).val := by
  have e := idx t
  refine (rfl : _ = H m c (((cfg0.win 2).blk t).view.emb y)).trans (rd_at _ _ _ _ ?_ ?_) <;> blk_simp [e.2.1.1] <;> omega

/-- A block of the gate's columns. -/
theorem blk3 (c : Dev nD) (t : Fin cfg0.N) (y : S512x512.Idx) :
    (iblk m c 3 t : S512x512.Idx → EReal) y = rd (P m c) (512 * (15 - t.val) + (y 0).val) (4608 + (y 1).val) := by
  have e := idx t
  refine (rfl : _ = P m c (((cfg0.win 3).blk t).view.emb y)).trans (rd_at _ _ _ _ ?_ ?_) <;> blk_simp [e.2.1.2] <;> omega

/-- A block of the gradient of the recurrence's output. -/
theorem dS_at (c : Dev nD) (t : Fin cfg0.N) (y : S512x512.Idx) :
    k0_pay2 (iblk m c 1 t) (iblk m c 3 t) y = dS (Y m c) (P m c) (512 * (15 - t.val) + (y 0).val) (y 1).val := by
  pointwise [k0_pay2]
  rw [blk1, blk3, dS, sg]

/-- A block of the gradient of the gate's input. -/
theorem dc_at (c : Dev nD) (t : Fin cfg0.N) (y : S512x512.Idx) :
    k0_pay3 (iblk m c 1 t) (iblk m c 2 t) (iblk m c 3 t) y = dc (Y m c) (H m c) (P m c) (512 * (15 - t.val) + (y 0).val) (y 1).val := by
  pointwise [k0_pay3]
  rw [blk1, blk2, blk3, dc, sg]

/-- What grid point `t` hands on: `seq` of the rows walked so far. -/
theorem carry (c : Dev nD) : ∀ (n : ℕ) (t : Fin cfg0.N) (ht : t.val = n) (q : Fin 512),
    (outsAt m c t.val t.isLt).2.2.1 (ix2 0 q) = seq (rd (A m c)) (dS (Y m c) (P m c)) q.val (512 * (t.val + 1))
  | 0, t, ht, q => by
    rw [outsAt_A m c t ht]
    dsimp only
    exact (out_A _ _ c t ht _ _ _ _ (blk0 m c t) (dS_at m c t)).2 q
  | n + 1, t, ht, q => by
    have h0 : ¬t.val = 0 := by omega
    rw [outsAt_B m c t h0]
    dsimp only
    refine (out_B _ _ c t h0 _ _ _ _ _ (blk0 m c t) (dS_at m c t) fun q => ?_).2 q
    have e := carry c n ⟨t.val - 1, Nat.lt_of_le_of_lt (Nat.sub_le _ _) t.isLt⟩ (by show t.val - 1 = n; omega) q
    dsimp only at e
    rw [e, show t.val - 1 + 1 = t.val by omega]

/-- A point's block of the recurrence's gradient. -/
theorem lam_at (c : Dev nD) (t : Fin cfg0.N) (y : S512x512.Idx) :
    (outsAt m c t.val t.isLt).1 y = lam (rd (A m c)) (dS (Y m c) (P m c)) (512 * (15 - t.val) + (y 0).val) (y 1).val := by
  by_cases h0 : t.val = 0
  · rw [outsAt_A m c t h0]
    dsimp only
    exact (out_A _ _ c t h0 _ _ _ _ (blk0 m c t) (dS_at m c t)).1 y
  · rw [outsAt_B m c t h0]
    dsimp only
    refine (out_B _ _ c t h0 _ _ _ _ _ (blk0 m c t) (dS_at m c t) fun q => ?_).1 y
    have e := carry m c _ ⟨t.val - 1, Nat.lt_of_le_of_lt (Nat.sub_le _ _) t.isLt⟩ rfl q
    dsimp only at e
    rw [e, show t.val - 1 + 1 = t.val by omega]

/-- A point's block of the gate's gradient. -/
theorem gate_at (c : Dev nD) (t : Fin cfg0.N) (y : S512x512.Idx) :
    (outsAt m c t.val t.isLt).2.1 y = dc (Y m c) (H m c) (P m c) (512 * (15 - t.val) + (y 0).val) (y 1).val := by
  by_cases h0 : t.val = 0
  · rw [outsAt_A m c t h0]
    dsimp only
    rw [gate_A]
    exact dc_at m c t y
  · rw [outsAt_B m c t h0]
    dsimp only
    rw [gate_B]
    exact dc_at m c t y

/-- The array of the recurrence's gradient. -/
theorem lam_final (c : Dev nD) : (dats m 0 c).arrAt 4 cfg0.N
    = fun i : S8192x512.Idx => lam (rd (A m c)) (dS (Y m c) (P m c)) (i 0).val (i 1).val := by
  refine (dats m 0 c).arrAt_eq_of_covers 4 _ (by decide +kernel) fun t hf y => ?_
  have e := idx t
  rw [after0_4]
  refine (lam_at m c t y).trans ?_
  congr 1 <;> blk_simp [e.2.2.1] <;> omega

/-- The array of the gate's gradient. -/
theorem gate_final (c : Dev nD) : (dats m 0 c).arrAt 5 cfg0.N
    = fun i : S8192x512.Idx => dc (Y m c) (H m c) (P m c) (i 0).val (i 1).val := by
  refine (dats m 0 c).arrAt_eq_of_covers 5 _ (by decide +kernel) fun t hf y => ?_
  have e := idx t
  rw [after0_5]
  refine (gate_at m c t y).trans ?_
  congr 1 <;> blk_simp [e.2.2.2] <;> omega

/-! ## The reference -/

section Ref

open Cert.LruB.Step

variable (a : S8192x512.Idx → EReal) (dy : S8192x2048.Idx → EReal) (h : S8192x512.Idx → EReal) (p : S8192x6144.Idx → EReal)

/-- The reference's state after `n` rows. -/
def it : ℕ → State Ideal
  | 0 => init a dy p
  | n + 1 => step n (it n)

/-- The loop keeps the gradient of the recurrence's output. -/
theorem it_d (n : ℕ) : (it a dy p n).main_v8_0 = A_main_v4 dy p := by
  induction n with
  | zero => rfl
  | succ n ih => exact ih

/-- The loop keeps the coefficients. -/
theorem it_a (n : ℕ) : (it a dy p n).main_v8_1 = a := by
  induction n with
  | zero => rfl
  | succ n ih => exact ih

/-- The reference's gradient of the recurrence's output. -/
theorem ref_d (r : Fin 8192) (q : Fin 512) : A_main_v4 (F := Ideal) dy p (ix2 r q) = dS dy p r.val q.val := by
  pointwise [A_main_v4, A_main_v3, A_main_v1, A_main_call0_v5, A_main_call0_v3, A_main_call0_v1, A_main_call0_v0, A_main_v0,
    K_main_call0_v2, K_main_call0_v4, K_main_call0_cst, K_main_call0_cst_0]
  rw [dS, sg, ← rd_at p (ix2 r ⟨4608 + q.val, by omega⟩) r.val (4608 + q.val) rfl rfl,
    ← rd_at dy (ix2 r ⟨1024 + q.val, by omega⟩) r.val (1024 + q.val) rfl rfl]
  rfl

/-- The row a trip reads. -/
theorem row_no (n : ℕ) (hn : n < 8192) (s : State Ideal) (k : Cert.Reference6Ideal.S_.Idx) :
    b3 n s k = BitVec.ofNat 32 (8191 - n) := by
  show 8192#32 - BitVec.ofNat 32 n - 1#32 = _
  apply BitVec.eq_of_toNat_eq
  simp only [BitVec.toNat_sub, BitVec.toNat_ofNat]
  omega

/-- The starts of a trip's slices. -/
theorem start (n : ℕ) (hn : n < 8192) (s : State Ideal) (z : Vec Ideal Cert.Reference6Ideal.S_ .i32) (hz : z = constantI Cert.Reference6Ideal.S_ 32 0#32) (i : Cert.Reference6Ideal.S_.Idx) (k : Fin 2) :
    (((![(b3 n s), z] : Fin 2 → Vec Ideal Cert.Reference6Ideal.S_ .i32) k) i).toInt
      = ((![8191 - n, 0] : Fin 2 → ℕ) k : ℤ) := by
  subst hz
  match k with
  | 0 =>
    show (b3 n s _).toInt = ((8191 - n : ℕ) : ℤ)
    rw [row_no n hn]
    exact toInt_ofNat_of_lt (by omega)
  | 1 => rfl

/-- Rows `8191 - n` fit. -/
theorem fits (n : ℕ) : Cert.Reference6Ideal.S8192x512.Slices (![8191 - n, 0] : Fin 2 → ℕ) Cert.Reference6Ideal.S1x512 := by
  refine ⟨rfl, fun k => ?_⟩
  match k with
  | 0 => show 8191 - n + 1 ≤ 8192; omega
  | 1 => show 0 + 512 ≤ 512; omega

/-- A row of a matrix, as a trip reads it. -/
theorem row_read (n : ℕ) (hn : n < 8192) (s : State Ideal) (X : Vec Ideal Cert.Reference6Ideal.S8192x512 .f32)
    (z : Vec Ideal Cert.Reference6Ideal.S_ .i32) (hz : z = constantI Cert.Reference6Ideal.S_ 32 0#32) (i : Cert.Reference6Ideal.S_.Idx) (hs) (q : Fin 512) :
    Host.dynamicSlice Cert.Reference6Ideal.S1x512 X (fun k => (((![(b3 n s), z] : Fin 2 → Vec Ideal Cert.Reference6Ideal.S_ .i32) k)
      i).toInt) hs (ix2 0 q) = X (ix2 ⟨8191 - n, by omega⟩ q) := by
  rw [Host.dynamicSlice_eq_extractStridedSlice _ X _ (![8191 - n, 0]) _ (fits n) (start n hn s z hz i)]
  pointwise []

/-- A row reshaped to a vector. -/
theorem cast_row (x : Vec Ideal Cert.Reference6Ideal.S1x512 .f32) (hc) (q : Fin 512) :
    shapeCast Cert.Reference6Ideal.S512 x hc (ix1 q) = x (ix2 0 q) := by
  pointwise []

/-- The sum a trip stores. -/
theorem sum_at (n : ℕ) (hn : n < 8192) (s : State Ideal) (q : Fin 512) :
    b10 n s (ix1 q) = s.main_v8_3 (ix1 q) + s.main_v8_0 (ix2 ⟨8191 - n, by omega⟩ q) := by
  have e : b6 n s (ix1 q) = s.main_v8_0 (ix2 ⟨8191 - n, by omega⟩ q) := by
    unfold b6
    rw [cast_row]
    exact row_read n hn s s.main_v8_0 (b4 n s) rfl (Shape.Idx.first Cert.Reference6Ideal.Gen.h_S_) Cert.Reference6Ideal.Gen.sliceFits_S8192x512_S1x512 q
  rw [← e]
  rfl

/-- What a trip hands on. -/
theorem next_at (n : ℕ) (hn : n < 8192) (s : State Ideal) (q : Fin 512) :
    b11 n s (ix1 q) = s.main_v8_1 (ix2 ⟨8191 - n, by omega⟩ q) * b10 n s (ix1 q) := by
  have e : b9 n s (ix1 q) = s.main_v8_1 (ix2 ⟨8191 - n, by omega⟩ q) := by
    unfold b9
    rw [cast_row]
    exact row_read n hn s s.main_v8_1 (b7 n s) rfl (Shape.Idx.first Cert.Reference6Ideal.Gen.h_S_) Cert.Reference6Ideal.Gen.sliceFits_S8192x512_S1x512 q
  rw [← e]
  rfl

/-- What the reference's first `n` trips hand on. -/
theorem it_carry (q : Fin 512) : ∀ n : ℕ, n ≤ 8192 → (it a dy p n).main_v8_3 (ix1 q) = seq (rd a) (dS dy p) q.val n
  | 0, _ => by
    show K_main_v6 (F := Ideal) (ix1 q) = 0
    pointwise [K_main_v6, K_main_cst_0]
  | n + 1, hn => by
    show b11 n (it a dy p n) (ix1 q) = _
    rw [next_at n hn, sum_at n hn, it_a, it_d, ref_d, it_carry q n (by omega), seq, add_comm, rd_ix a]

/-- What a trip stores is the gradient's row. -/
theorem it_sum (n : ℕ) (hn : n < 8192) (q : Fin 512) : b10 n (it a dy p n) (ix1 q) = lam (rd a) (dS dy p) (8191 - n) q.val := by
  rw [sum_at n hn, it_d, ref_d, it_carry a dy p q n (by omega), lam, add_comm, show 8191 - (8191 - n) = n by omega]

/-- A trip's store: one row. -/
theorem store_at (n : ℕ) (hn : n < 8192) (s : State Ideal) (r : Fin 8192) (q : Fin 512) :
    b14 n s (ix2 r q) = if r.val = 8191 - n then b10 n s (ix1 q) else s.main_v8_4 (ix2 r q) := by
  unfold b14
  rw [WordCmp.dynamicUpdateSlice_eq_update _ _ _ _ ![8191 - n, 0] (fits n) (start n hn s (b13 n s) rfl _)]
  rw [updateSlice_apply]
  by_cases hr : r.val = 8191 - n
  · rw [if_pos hr, dif_pos (by
      intro k
      match k with
      | 0 => exact ⟨by show 8191 - n ≤ r.val; omega, by show r.val < 8191 - n + 1; omega⟩
      | 1 => exact ⟨Nat.zero_le _, by show q.val < 0 + 512; omega⟩)]
    pointwise [b12]
  · rw [if_neg hr, dif_neg (by
      intro h
      have h0 : 8191 - n ≤ r.val ∧ r.val < 8191 - n + 1 := h 0
      omega)]

/-- What the reference's first `n` trips have stored. -/
theorem it_out (r : Fin 8192) (q : Fin 512) : ∀ n : ℕ, n ≤ 8192 →
    (it a dy p n).main_v8_4 (ix2 r q) = if 8191 - r.val < n then lam (rd a) (dS dy p) r.val q.val else 0
  | 0, _ => by
    show K_main_v7 (F := Ideal) (ix2 r q) = _
    rw [if_neg (by omega)]
    pointwise [K_main_v7, K_main_cst_1]
  | n + 1, hn => by
    have hr : r.val < 8192 := r.isLt
    refine (congrFun (step_main_v8_4 n (it a dy p n)) (ix2 r q)).trans ?_
    rw [store_at n hn, it_sum a dy p n hn, it_out r q n (by omega)]
    by_cases h1 : r.val = 8191 - n
    · rw [if_pos h1, if_pos (by omega), h1]
    · rw [if_neg h1]
      exact if_congr (by omega) rfl rfl

/-- The reference's gradient of the recurrence. -/
theorem ref_lam : (it a dy p 8192).main_v8_4 = fun i : S8192x512.Idx => lam (rd a) (dS dy p) (i 0).val (i 1).val := by
  funext i
  idx_vars i
  rw [it_out a dy p i0 i1 8192 le_rfl, if_pos (by omega)]

/-- The two ways to write the gate's gradient agree where the gradient and the recurrence's output are real numbers. -/
theorem gate (h y : ℝ) (x : EReal) :
    (h * y * Ideal.logistic x + x * (h * y) * (Ideal.logistic x * (1 - Ideal.logistic x)) : EReal)
      = y * h * (Ideal.logistic x * (1 + x * (1 - Ideal.logistic x))) := by
  have e : (1 : EReal) - 1 = 0 := by
    rw [← EReal.coe_one, ← EReal.coe_sub, sub_self, EReal.coe_zero]
  induction x using EReal.rec with
  | bot => simp
  | top => simp [e, mul_comm]
  | coe x =>
    rw [Ideal.logistic_coe]
    norm_cast
    ring

/-- The reference's gradient of the gate's input, on real gradients and outputs. -/
theorem ref_gate (s : State Ideal) (hy : ∀ i, ∃ x : ℝ, dy i = x) (hh : ∀ i, ∃ x : ℝ, h i = x) :
    R_main_v15 s dy h p = fun i : S8192x512.Idx => dc dy h p (i 0).val (i 1).val := by
  funext i
  idx_vars i
  obtain ⟨y, ey⟩ := MixerARef.rd_real dy hy i0.val (1024 + i1.val)
  obtain ⟨z, ez⟩ := MixerARef.rd_real h hh i0.val i1.val
  refine Eq.trans ?_ ((gate z y (rd p i0.val (4608 + i1.val))).trans ?_)
  · pointwise [R_main_v15]
    rw [← ey, ← ez, ← rd_at p (ix2 i0 ⟨4608 + i1.val, by omega⟩) i0.val (4608 + i1.val) rfl rfl,
      ← rd_at dy (ix2 i0 ⟨1024 + i1.val, by omega⟩) i0.val (1024 + i1.val) rfl rfl, ← rd_ix h]
    rfl
  · rw [← ey, ← ez]
    rfl

end Ref

/-- Where the gradient and the recurrence's output are finite, the kernel and the reference end with equal gradients of the
    recurrence's input and of the gate's. -/
theorem algebraic [Cert.Pre_finite6.Facts] : Cert.algebraic_Kernel6Ideal_Reference6Ideal_pre_finite6 := fun m ρ m' ρ' pre hag => by
  refine ⟨fun c => fun i : (⟨2, ![8192, 512]⟩ : Shape).Idx => lam (rd (A m c)) (dS (Y m c) (P m c)) (i 0).val (i 1).val,
    fun c => fun i : (⟨2, ![8192, 512]⟩ : Shape).Idx => dc (Y m c) (H m c) (P m c) (i 0).val (i 1).val,
    (θ_run _ _ _).mono (fun _ h c => ⟨((h.1 c).1 4).trans (lam_final m c), ((h.1 c).1 5).trans (gate_final m c), h.2 c⟩)
      (Idealize.ShloMosaic.θ_run_and (run_main m ρ) (unchanged m ρ)),
    (θ_run _ _ _).mono (fun _ h c => ⟨(h c).1.trans ?_, (h c).2.1.trans ?_, (h c).2.2⟩)
      (StepRun.run_iter m' ρ' (fun c => it _ _ _) (fun c => rfl) (fun c n => rfl))⟩
  · rw [(hag c).1, (hag c).2.1, (hag c).2.2.2]
    exact ref_lam _ _ _
  · rw [(hag c).2.1, (hag c).2.2.1, (hag c).2.2.2]
    exact ref_gate _ _ _ _ (fun i => Finite.real_of_abs _ (congrFun (pre c).1 i)) (fun i => Finite.real_of_abs _ (congrFun (pre c).2 i))

end Cert.LruB

end
-- ==== Proof.InProj.lean ====
module

public import proofs.«01_k».proof.Proof.Gen.Kernel7Ideal.Value
public import proofs.«01_k».proof.Proof.Gen.Reference7Ideal.Read
public import proofs.«01_k».proof.Proof.Common
public import proofs.«01_k».proof.Defs
public import Idealize.ShloMosaic.Lib.Pointwise

/-! The input projection: a product blocked over rows and columns. -/

@[expose] public section

set_option maxRecDepth 16384

noncomputable section

namespace Cert.InProj

open Cert.Kernel7Ideal Cert.Kernel7Ideal.Gen Cert.Rd
open Idealize.ShloMosaic Idealize.ShloMosaic.TcCoe Idealize.SL.Sem

variable (m : (ℓ : Loc nD τ sig) → Buf (Elt Ideal) ℓ)

/-- The layer's modulated input. -/
abbrev H (c : Dev nD) : S8192x2048.Idx → EReal := m ((c : Thread nD τ).loc main_arg0)
/-- The projection's weight. -/
abbrev W (c : Dev nD) : S2048x6144.Idx → EReal := m ((c : Thread nD τ).loc main_arg1)

/-- The block indices of the three windows at grid point `t`. -/
theorem idx : ∀ t : Fin grid0.N,
    win0_0.index t = ![t.val / 4, 0] ∧ win0_1.index t = ![0, t.val % 4] ∧ win0_2.index t = ![t.val / 4, t.val % 4] := by
  decide +kernel

/-- A block of the first argument at grid point `t`. -/
theorem blk0 (c : Dev nD) (t : Fin cfg0.N) (y : S1024x2048.Idx) :
    (iblk m c 0 t : S1024x2048.Idx → EReal) y = rd (H m c) (1024 * (t.val / 4) + (y 0).val) (y 1).val := by
  have e := idx t
  refine (rfl : _ = H m c (((cfg0.win 0).blk t).view.emb y)).trans (rd_at _ _ _ _ ?_ ?_) <;> blk_simp [e.1] <;> omega

/-- A block of the second argument at grid point `t`. -/
theorem blk1 (c : Dev nD) (t : Fin cfg0.N) (y : S2048x1536.Idx) :
    (iblk m c 1 t : S2048x1536.Idx → EReal) y = rd (W m c) (y 0).val (1536 * (t.val % 4) + (y 1).val) := by
  have e := idx t
  refine (rfl : _ = W m c (((cfg0.win 1).blk t).view.emb y)).trans (rd_at _ _ _ _ ?_ ?_) <;> blk_simp [e.2.1] <;> omega

/-- The product at row `r` and column `q`. -/
def prod (x : S8192x2048.Idx → EReal) (w : S2048x6144.Idx → EReal) (r q : ℕ) : EReal :=
  ∑ k : Fin 2048, rd x r k.val * rd w k.val q

/-- A point's block of the product. -/
theorem out_at (c : Dev nD) (t : Fin cfg0.N) (y : S1024x1536.Idx) :
    outsAt0 m c t y = prod (H m c) (W m c) (1024 * (t.val / 4) + (y 0).val) (1536 * (t.val % 4) + (y 1).val) := by
  unfold outsAt0
  frame_out
  pointwise [k0_pay2, k0_pay1, prod]
  try rw [zero_add]
  exact Finset.sum_congr rfl fun k _ => by rw [blk0, blk1]; rfl

/-- What the kernel's result array holds. -/
def G (c : Dev nD) : S8192x6144.Idx → EReal := fun i => prod (H m c) (W m c) (i 0).val (i 1).val

/-- The points' blocks make up the result array. -/
theorem final (c : Dev nD) : (dats m 0 c).arrAt 2 cfg0.N = G m c := by
  refine (dats m 0 c).arrAt_eq_of_covers 2 _ (by decide +kernel) fun t hf y => ?_
  have e := idx t
  blk_simp
  rw [after0_2]
  refine (out_at m c t y).trans ?_
  have e0 : (((win0_2.blk t).view.emb y) 0).val = 1024 * (t.val / 4) + (y 0).val := by blk_simp [e.2.2]; omega
  have e1 : (((win0_2.blk t).view.emb y) 1).val = 1536 * (t.val % 4) + (y 1).val := by blk_simp [e.2.2]; omega
  rw [G, e0, e1]

/-- The reference's result. -/
theorem ref (x0 : S8192x2048.Idx → EReal) (x1 : S2048x6144.Idx → EReal) :
    Cert.Reference7Ideal.Read.val_main_v2 (F := Ideal) x0 x1 = fun i => prod x0 x1 (i 0).val (i 1).val := by
  funext i
  rw [Cert.Reference7Ideal.Read.val_main_v2_apply]
  refine Finset.sum_congr rfl fun k _ => ?_
  exact congrArg₂ (· * ·) (rd_at x0 _ _ _ rfl rfl) (rd_at x1 _ _ _ rfl rfl)

/-- The kernel computes the reference's array. -/
theorem algebraic : Cert.algebraic_Kernel7Ideal_Reference7Ideal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by
      rw [(hag c).1, (hag c).2, Cert.Reference7Ideal.Read.val_main_v2_eq]; exact ref _ _), (h c).2⟩)
      (Cert.Reference7Ideal.Value.run m' ρ')⟩

end Cert.InProj
end
-- ==== Proof.DwOut.lean ====
module

public import proofs.«01_k».proof.Proof.Gen.Kernel8Ideal.Value
public import proofs.«01_k».proof.Proof.Gen.Reference8Ideal.Read
public import proofs.«01_k».proof.Proof.Common
public import proofs.«01_k».proof.Defs
public import Idealize.ShloMosaic.Lib.Pointwise

/-! The gradient of the output projection's weight: a product blocked over rows, columns and positions. -/

@[expose] public section

set_option maxRecDepth 16384

noncomputable section

namespace Cert.DwOut

open Cert.Kernel8Ideal Cert.Kernel8Ideal.Gen Cert.Rd
open Idealize.ShloMosaic Idealize.ShloMosaic.TcCoe Idealize.SL.Sem

variable (m : (ℓ : Loc nD τ sig) → Buf (Elt Ideal) ℓ)

/-- The first argument, the rows that the product contracts. -/
abbrev H (c : Dev nD) : S8192x2048.Idx → EReal := m ((c : Thread nD τ).loc main_arg0)
/-- The second argument, the gradient of the product's result. -/
abbrev D (c : Dev nD) : S8192x2048.Idx → EReal := m ((c : Thread nD τ).loc main_arg1)

/-- The block indices of the three windows at grid point `t`. -/
theorem idx : ∀ t : Fin grid0.N,
    win0_0.index t = ![t.val % 4, t.val / 8] ∧ win0_1.index t = ![t.val % 4, t.val / 4 % 2]
      ∧ win0_2.index t = ![t.val / 8, t.val / 4 % 2] := by
  decide +kernel

/-- What one block product contributes to an element of the accumulator. -/
def term (c : Dev nD) (t : ℕ) (j : S1024x1024.Idx) : EReal :=
  ∑ k : Fin 2048, rd (H m c) (2048 * (t % 4) + k.val) (1024 * (t / 8) + (j 0).val)
      * rd (D m c) (2048 * (t % 4) + k.val) (1024 * (t / 4 % 2) + (j 1).val)

/-- A block of the first argument at grid point `t`. -/
theorem blk0 (c : Dev nD) (t : Fin cfg0.N) (y : S2048x1024.Idx) :
    (iblk m c 0 t : S2048x1024.Idx → EReal) y
      = rd (H m c) (2048 * (t.val % 4) + (y 0).val) (1024 * (t.val / 8) + (y 1).val) := by
  have e := idx t
  refine (rfl : _ = H m c (((cfg0.win 0).blk t).view.emb y)).trans (rd_at _ _ _ _ ?_ ?_) <;> blk_simp [e.1] <;> omega

/-- A block of the second argument at grid point `t`. -/
theorem blk1 (c : Dev nD) (t : Fin cfg0.N) (y : S2048x1024.Idx) :
    (iblk m c 1 t : S2048x1024.Idx → EReal) y
      = rd (D m c) (2048 * (t.val % 4) + (y 0).val) (1024 * (t.val / 4 % 2) + (y 1).val) := by
  have e := idx t
  refine (rfl : _ = D m c (((cfg0.win 1).blk t).view.emb y)).trans (rd_at _ _ _ _ ?_ ?_) <;> blk_simp [e.2.1] <;> omega

/-- The accumulator after grid point `t`: the block products of the run so far. -/
theorem acc (c : Dev nD) (t : Fin cfg0.N) (j : S1024x1024.Idx) :
    (outsAt0 m c t.val t.isLt).2 j = 0 + ∑ k ∈ Finset.range (t.val % 4 + 1), term m c (4 * (t.val / 4) + k) j := by
  refine Pipeline.eq_sum_of_reset_step_apply (fun n h => (outsAt0 m c n h).2) 4 (fun _ => 0) (term m c)
    (fun t h j => ?_) (fun t h j => ?_) t j
  · rw [outsAt0_A m c t h (by omega)]
    frame_out
    pointwise [k0_pay2, k0_pay1, term]
    exact Finset.sum_congr rfl fun k _ => by rw [blk0, blk1]; rfl
  · by_cases h1 : t.val % 4 = 3
    · rw [outsAt0_C m c t h h1]
      frame_out
      simp only [read_unread_whole]
      pointwise [k0_pay2, k0_pay1, term]
      exact congrArg _ (Finset.sum_congr rfl fun k _ => by rw [blk0, blk1]; rfl)
    · rw [outsAt0_B m c t h h1]
      frame_out
      simp only [read_unread_whole]
      pointwise [k0_pay2, k0_pay1, term]
      exact congrArg _ (Finset.sum_congr rfl fun k _ => by rw [blk0, blk1]; rfl)

/-- What the kernel's result array holds: one product over all rows. -/
def G (c : Dev nD) : S2048x2048.Idx → EReal := fun i =>
  ∑ k : Fin 8192, rd (H m c) k.val (i 0).val * rd (D m c) k.val (i 1).val

/-- The last point of a run writes out what its accumulator holds. -/
theorem out_last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out
  pointwise [k0_pay3]

/-- The blocks that the last point of each run writes back are the blocks of `G`. -/
theorem final (c : Dev nD) : (dats m 0 c).arrAt 2 cfg0.N = G m c := by
  refine (dats m 0 c).arrAt_eq_of_covers 2 _ (by decide +kernel) fun t hf y => ?_
  have hr := (flush0_2 t).mp hf
  have e := idx t
  blk_simp
  rw [after0_2]
  refine (out_last m c t hr y).trans ((acc m c t y).trans ?_)
  have e0 : (((win0_2.blk t).view.emb y) 0).val = 1024 * (t.val / 8) + (y 0).val := by blk_simp [e.2.2]; omega
  have e1 : (((win0_2.blk t).view.emb y) 1).val = 1024 * (t.val / 4 % 2) + (y 1).val := by blk_simp [e.2.2]; omega
  rw [zero_add, G, e0, e1, hr]
  refine Eq.trans ?_ (sum_blocks 4 2048 fun q => rd (H m c) q (1024 * (t.val / 8) + (y 0).val)
    * rd (D m c) q (1024 * (t.val / 4 % 2) + (y 1).val))
  refine Finset.sum_congr rfl fun k hk => ?_
  have hk := Finset.mem_range.mp hk
  simp only [term]
  rw [show (4 * (t.val / 4) + k) % 4 = k by omega, show (4 * (t.val / 4) + k) / 8 = t.val / 8 by omega,
    show (4 * (t.val / 4) + k) / 4 % 2 = t.val / 4 % 2 by omega]

/-- The reference's result: the same product, its factors in the other order. -/
theorem ref (x0 : S8192x2048.Idx → EReal) (x1 : S8192x2048.Idx → EReal) :
    Cert.Reference8Ideal.Read.val_main_v6 (F := Ideal) x0 x1
      = fun i => ∑ k : Fin 8192, rd x0 k.val (i 0).val * rd x1 k.val (i 1).val := by
  funext i
  rw [Cert.Reference8Ideal.Read.val_main_v6_apply, Cert.Reference8Ideal.Read.val_main_v5_apply,
    Cert.Reference8Ideal.Read.val_main_v4_apply]
  refine Finset.sum_congr rfl fun k _ => ?_
  rw [mul_comm]
  exact congrArg₂ (· * ·) (rd_at x0 _ _ _ rfl rfl) (rd_at x1 _ _ _ rfl rfl)

/-- The gradient kernel of the output projection computes the reference's array. -/
theorem algebraic : Cert.algebraic_Kernel8Ideal_Reference8Ideal := fun m ρ m' ρ' _ hag =>
  ⟨fun c => G m c,
    (θ_run _ _ _).mono (fun _ h c => ⟨(h c).1.trans ((Value.final2 m c).symm.trans (final m c)), (h c).2⟩) (Value.run m ρ),
    (θ_run _ _ _).mono (fun _ h c => ⟨(h c).1.trans (by
      rw [(hag c).1, (hag c).2, Cert.Reference8Ideal.Read.val_main_v6_eq]; exact ref _ _), (h c).2⟩)
      (Cert.Reference8Ideal.Value.run m' ρ')⟩

end Cert.DwOut
end
-- ==== Proof.DyCat.lean ====
module

public import proofs.«01_k».proof.Proof.Gen.Kernel9Ideal.Value
public import proofs.«01_k».proof.Proof.Gen.Reference9Ideal.Read
public import proofs.«01_k».proof.Proof.Common
public import proofs.«01_k».proof.Defs
public import Idealize.ShloMosaic.Lib.Pointwise

/-! The gradient of the output projection's input: a product with the weight's transpose, blocked over rows and columns. -/

@[expose] public section

set_option maxRecDepth 16384

noncomputable section

namespace Cert.DyCat

open Cert.Kernel9Ideal Cert.Kernel9Ideal.Gen Cert.Rd
open Idealize.ShloMosaic Idealize.ShloMosaic.TcCoe Idealize.SL.Sem

variable (m : (ℓ : Loc nD τ sig) → Buf (Elt Ideal) ℓ)

/-- The gradient of the projection's result. -/
abbrev H (c : Dev nD) : S8192x2048.Idx → EReal := m ((c : Thread nD τ).loc main_arg0)
/-- The projection's weight. -/
abbrev W (c : Dev nD) : S2048x2048.Idx → EReal := m ((c : Thread nD τ).loc main_arg1)

/-- The block indices of the three windows at grid point `t`. -/
theorem idx : ∀ t : Fin grid0.N,
    win0_0.index t = ![t.val / 2, 0] ∧ win0_1.index t = ![t.val % 2, 0] ∧ win0_2.index t = ![t.val / 2, t.val % 2] := by
  decide +kernel

/-- A block of the first argument at grid point `t`. -/
theorem blk0 (c : Dev nD) (t : Fin cfg0.N) (y : S1024x2048.Idx) :
    (iblk m c 0 t : S1024x2048.Idx → EReal) y = rd (H m c) (1024 * (t.val / 2) + (y 0).val) (y 1).val := by
  have e := idx t
  refine (rfl : _ = H m c (((cfg0.win 0).blk t).view.emb y)).trans (rd_at _ _ _ _ ?_ ?_) <;> blk_simp [e.1] <;> omega

/-- A block of the second argument at grid point `t`. -/
theorem blk1 (c : Dev nD) (t : Fin cfg0.N) (y : S1024x2048.Idx) :
    (iblk m c 1 t : S1024x2048.Idx → EReal) y = rd (W m c) (1024 * (t.val % 2) + (y 0).val) (y 1).val := by
  have e := idx t
  refine (rfl : _ = W m c (((cfg0.win 1).blk t).view.emb y)).trans (rd_at _ _ _ _ ?_ ?_) <;> blk_simp [e.2.1] <;> omega

/-- The product with the weight's transpose at row `r` and column `q`. -/
def prod (x : S8192x2048.Idx → EReal) (w : S2048x2048.Idx → EReal) (r q : ℕ) : EReal :=
  ∑ k : Fin 2048, rd x r k.val * rd w q k.val

/-- A point's block of the product. -/
theorem out_at (c : Dev nD) (t : Fin cfg0.N) (y : S1024x1024.Idx) :
    outsAt0 m c t y = prod (H m c) (W m c) (1024 * (t.val / 2) + (y 0).val) (1024 * (t.val % 2) + (y 1).val) := by
  unfold outsAt0
  frame_out
  pointwise [k0_pay2, k0_pay1, prod]
  try rw [zero_add]
  exact Finset.sum_congr rfl fun k _ => by rw [blk0, blk1]; rfl

/-- What the kernel's result array holds. -/
def G (c : Dev nD) : S8192x2048.Idx → EReal := fun i => prod (H m c) (W m c) (i 0).val (i 1).val

/-- The points' blocks make up the result array. -/
theorem final (c : Dev nD) : (dats m 0 c).arrAt 2 cfg0.N = G m c := by
  refine (dats m 0 c).arrAt_eq_of_covers 2 _ (by decide +kernel) fun t hf y => ?_
  have e := idx t
  blk_simp
  rw [after0_2]
  refine (out_at m c t y).trans ?_
  have e0 : (((win0_2.blk t).view.emb y) 0).val = 1024 * (t.val / 2) + (y 0).val := by blk_simp [e.2.2]; omega
  have e1 : (((win0_2.blk t).view.emb y) 1).val = 1024 * (t.val % 2) + (y 1).val := by blk_simp [e.2.2]; omega
  rw [G, e0, e1]

/-- The reference's result. -/
theorem ref (x0 : S8192x2048.Idx → EReal) (x1 : S2048x2048.Idx → EReal) :
    Cert.Reference9Ideal.Read.val_main_v4 (F := Ideal) x0 x1 = fun i => prod x0 x1 (i 0).val (i 1).val := by
  funext i
  rw [Cert.Reference9Ideal.Read.val_main_v4_apply]
  refine Finset.sum_congr rfl fun k _ => ?_
  exact congrArg₂ (· * ·) (rd_at x0 _ _ _ rfl rfl) (rd_at x1 _ _ _ rfl rfl)

/-- The kernel computes the reference's array. -/
theorem algebraic : Cert.algebraic_Kernel9Ideal_Reference9Ideal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by
      rw [(hag c).1, (hag c).2, Cert.Reference9Ideal.Read.val_main_v4_eq]; exact ref _ _), (h c).2⟩)
      (Cert.Reference9Ideal.Value.run m' ρ')⟩

end Cert.DyCat
end
-- ==== Proof.OutLn.lean ====
module

public import proofs.«01_k».proof.Proof.Gen.Kernel10Ideal.Value
public import proofs.«01_k».proof.Proof.Gen.Reference10Ideal.Read
public import proofs.«01_k».proof.Proof.Common
public import proofs.«01_k».proof.Defs
public import Idealize.ShloMosaic.Lib.Pointwise

/-! The output projection with the residual and the layer norm after it, blocked over rows. -/

@[expose] public section

set_option maxRecDepth 16384

noncomputable section

namespace Cert.OutLn

open Cert.Kernel10Ideal Cert.Kernel10Ideal.Gen Cert.Rd
open Idealize.ShloMosaic Idealize.ShloMosaic.TcCoe Idealize.SL.Sem

/-! ## The mathematics, row by row -/

section Row
variable (C : S8192x2048.Idx → EReal) (w : S2048x2048.Idx → EReal) (x : S8192x2048.Idx → EReal) (g : S1x2048.Idx → EReal)

/-- The output projection at row `r` and column `q`. -/
def proj (r q : ℕ) : EReal := ∑ k : Fin 2048, rd C r k.val * rd w k.val q

/-- The residual sum: the scaled layer input and the gated projection. -/
def res (r q : ℕ) : EReal := Ideal.ofBits FTy.f32 1068827891#32 * rd x r q + (1 + rd g 0 q) * proj C w r q

/-- The residual sum less the mean of its row. -/
def cen (r q : ℕ) : EReal :=
  res C w x g r q - Ideal.div (∑ k : Fin 2048, res C w x g r k.val) (Ideal.ofBits FTy.f32 1157627904#32)

/-- The reciprocal of a row's standard deviation. -/
def rstd (r : ℕ) : EReal :=
  Ideal.rsqrt (Ideal.div (∑ k : Fin 2048, cen C w x g r k.val * cen C w x g r k.val) (Ideal.ofBits FTy.f32 1157627904#32)
    + Ideal.ofBits FTy.f32 925353388#32)

/-- The normalised row. -/
def xhat (r q : ℕ) : EReal := cen C w x g r q * rstd C w x g r

variable (lg lb sc sh : S1x2048.Idx → EReal)

/-- The next layer's input: the normalised row scaled and shifted. -/
def xnext (r q : ℕ) : EReal := xhat C w x g r q * rd lg 0 q + rd lb 0 q

/-- The next layer's modulated input. -/
def hnext (r q : ℕ) : EReal := xnext C w x g lg lb r q * (1 + rd sc 0 q) + rd sh 0 q

end Row

/-! ## The kernel's blocks -/

variable (m : (ℓ : Loc nD τ sig) → Buf (Elt Ideal) ℓ)

/-- The mixers' outputs. -/
abbrev Y (c : Dev nD) : S8192x2048.Idx → EReal := m ((c : Thread nD τ).loc main_arg0)
/-- The projection's weight. -/
abbrev W (c : Dev nD) : S2048x2048.Idx → EReal := m ((c : Thread nD τ).loc main_arg1)
/-- The layer's input. -/
abbrev X (c : Dev nD) : S8192x2048.Idx → EReal := m ((c : Thread nD τ).loc main_arg2)
/-- The residual's gate. -/
abbrev Gt (c : Dev nD) : S1x2048.Idx → EReal := m ((c : Thread nD τ).loc main_arg3)
/-- The layer norm's scale. -/
abbrev Lg (c : Dev nD) : S1x2048.Idx → EReal := m ((c : Thread nD τ).loc main_arg4)
/-- The layer norm's shift. -/
abbrev Lb (c : Dev nD) : S1x2048.Idx → EReal := m ((c : Thread nD τ).loc main_arg5)
/-- The next layer's scale. -/
abbrev Sc (c : Dev nD) : S1x2048.Idx → EReal := m ((c : Thread nD τ).loc main_arg6)
/-- The next layer's shift. -/
abbrev Sh (c : Dev nD) : S1x2048.Idx → EReal := m ((c : Thread nD τ).loc main_arg7)

/-- The block indices of the windows at grid point `t`. -/
theorem idx : ∀ t : Fin grid0.N,
    win0_0.index t = ![t.val, 0]
      ∧ win0_1.index t = ![0, 0]
      ∧ win0_2.index t = ![t.val, 0]
      ∧ win0_3.index t = ![0, 0]
      ∧ win0_4.index t = ![0, 0]
      ∧ win0_5.index t = ![0, 0]
      ∧ win0_6.index t = ![0, 0]
      ∧ win0_7.index t = ![0, 0]
      ∧ win0_8.index t = ![t.val, 0]
      ∧ win0_9.index t = ![t.val, 0]
      ∧ win0_10.index t = ![t.val, 0]
      ∧ win0_11.index t = ![t.val, 0]
      ∧ win0_12.index t = ![t.val, 0] := by
  decide +kernel

/-- A point's block of the argument: the mixers' outputs. -/
theorem blk0 (c : Dev nD) (t : Fin cfg0.N) (y : S256x2048.Idx) :
    (iblk m c 0 t : S256x2048.Idx → EReal) y = rd (Y m c) (256 * t.val + (y 0).val) (y 1).val := by
  have e := idx t
  refine (rfl : _ = Y m c (((cfg0.win 0).blk t).view.emb y)).trans (rd_at _ _ _ _ ?_ ?_) <;> blk_simp [e.1] <;> omega

/-- A point's block of the argument: the projection's weight. -/
theorem blk1 (c : Dev nD) (t : Fin cfg0.N) (y : S2048x2048.Idx) :
    (iblk m c 1 t : S2048x2048.Idx → EReal) y = rd (W m c) (y 0).val (y 1).val := by
  have e := idx t
  refine (rfl : _ = W m c (((cfg0.win 1).blk t).view.emb y)).trans (rd_at _ _ _ _ ?_ ?_) <;> blk_simp [e.2.1] <;> omega

/-- A point's block of the argument: the layer's input. -/
theorem blk2 (c : Dev nD) (t : Fin cfg0.N) (y : S256x2048.Idx) :
    (iblk m c 2 t : S256x2048.Idx → EReal) y = rd (X m c) (256 * t.val + (y 0).val) (y 1).val := by
  have e := idx t
  refine (rfl : _ = X m c (((cfg0.win 2).blk t).view.emb y)).trans (rd_at _ _ _ _ ?_ ?_) <;> blk_simp [e.2.2.1] <;> omega

/-- A point's block of the argument: the residual's gate. -/
theorem blk3 (c : Dev nD) (t : Fin cfg0.N) (y : S1x2048.Idx) :
    (iblk m c 3 t : S1x2048.Idx → EReal) y = rd (Gt m c) (y 0).val (y 1).val := by
  have e := idx t
  refine (rfl : _ = Gt m c (((cfg0.win 3).blk t).view.emb y)).trans (rd_at _ _ _ _ ?_ ?_) <;> blk_simp [e.2.2.2.1] <;> omega

/-- A point's block of the argument: the layer norm's scale. -/
theorem blk4 (c : Dev nD) (t : Fin cfg0.N) (y : S1x2048.Idx) :
    (iblk m c 4 t : S1x2048.Idx → EReal) y = rd (Lg m c) (y 0).val (y 1).val := by
  have e := idx t
  refine (rfl : _ = Lg m c (((cfg0.win 4).blk t).view.emb y)).trans (rd_at _ _ _ _ ?_ ?_) <;> blk_simp [e.2.2.2.2.1] <;> omega

/-- A point's block of the argument: the layer norm's shift. -/
theorem blk5 (c : Dev nD) (t : Fin cfg0.N) (y : S1x2048.Idx) :
    (iblk m c 5 t : S1x2048.Idx → EReal) y = rd (Lb m c) (y 0).val (y 1).val := by
  have e := idx t
  refine (rfl : _ = Lb m c (((cfg0.win 5).blk t).view.emb y)).trans (rd_at _ _ _ _ ?_ ?_) <;> blk_simp [e.2.2.2.2.2.1] <;> omega

/-- A point's block of the argument: the next layer's scale. -/
theorem blk6 (c : Dev nD) (t : Fin cfg0.N) (y : S1x2048.Idx) :
    (iblk m c 6 t : S1x2048.Idx → EReal) y = rd (Sc m c) (y 0).val (y 1).val := by
  have e := idx t
  refine (rfl : _ = Sc m c (((cfg0.win 6).blk t).view.emb y)).trans (rd_at _ _ _ _ ?_ ?_) <;> blk_simp [e.2.2.2.2.2.2.1] <;> omega

/-- A point's block of the argument: the next layer's shift. -/
theorem blk7 (c : Dev nD) (t : Fin cfg0.N) (y : S1x2048.Idx) :
    (iblk m c 7 t : S1x2048.Idx → EReal) y = rd (Sh m c) (y 0).val (y 1).val := by
  have e := idx t
  refine (rfl : _ = Sh m c (((cfg0.win 7).blk t).view.emb y)).trans (rd_at _ _ _ _ ?_ ?_) <;> blk_simp [e.2.2.2.2.2.2.2.1] <;> omega

section Block
variable (c : Dev nD) (t : Fin cfg0.N)

/-- A point's block of the projection. -/
theorem pay2 (y : S256x2048.Idx) :
    k0_pay2 (F := Ideal) (iblk m c 0 t) (iblk m c 1 t) y
      = proj (Y m c) (W m c) (256 * t.val + (y 0).val) (y 1).val := by
  pointwise [k0_pay2, proj]
  exact Finset.sum_congr rfl fun k _ => by rw [blk0, blk1]; rfl

/-- A point's block of the centred residual sum. -/
theorem pay3 (y : S256x2048.Idx) :
    k0_pay3 (F := Ideal) (iblk m c 0 t) (iblk m c 1 t) (iblk m c 2 t) (iblk m c 3 t) y
      = cen (Y m c) (W m c) (X m c) (Gt m c) (256 * t.val + (y 0).val) (y 1).val := by
  have h := pay2 m c t
  have hx := blk2 m c t
  have hg := blk3 m c t
  unfold k0_pay3
  generalize k0_pay2 (F := Ideal) (iblk m c 0 t) (iblk m c 1 t) = p at h ⊢
  generalize (iblk m c 2 t : S256x2048.Idx → EReal) = x at hx ⊢
  generalize (iblk m c 3 t : S1x2048.Idx → EReal) = g at hg ⊢
  pointwise [cen, res]
  simp only [h, hx, hg]
  rfl

/-- A point's block of the reciprocal standard deviations. -/
theorem pay4 (y : S256x1.Idx) :
    k0_pay4 (F := Ideal) (iblk m c 0 t) (iblk m c 1 t) (iblk m c 2 t) (iblk m c 3 t) y
      = rstd (Y m c) (W m c) (X m c) (Gt m c) (256 * t.val + (y 0).val) := by
  have h := pay3 m c t
  unfold k0_pay4
  generalize k0_pay3 (F := Ideal) (iblk m c 0 t) (iblk m c 1 t) (iblk m c 2 t) (iblk m c 3 t) = p at h ⊢
  pointwise [rstd]
  simp only [h]
  rfl

/-- A point's block of the normalised rows. -/
theorem pay5 (y : S256x2048.Idx) :
    k0_pay5 (F := Ideal) (iblk m c 0 t) (iblk m c 1 t) (iblk m c 2 t) (iblk m c 3 t) y
      = xhat (Y m c) (W m c) (X m c) (Gt m c) (256 * t.val + (y 0).val) (y 1).val := by
  have h := pay3 m c t
  have h' := pay4 m c t
  unfold k0_pay5
  generalize k0_pay3 (F := Ideal) (iblk m c 0 t) (iblk m c 1 t) (iblk m c 2 t) (iblk m c 3 t) = p at h ⊢
  generalize k0_pay4 (F := Ideal) (iblk m c 0 t) (iblk m c 1 t) (iblk m c 2 t) (iblk m c 3 t) = q at h' ⊢
  pointwise [xhat]
  rw [h, h']
  rfl

/-- A point's block of the next layer's input. -/
theorem pay6 (y : S256x2048.Idx) :
    k0_pay6 (F := Ideal) (iblk m c 0 t) (iblk m c 1 t) (iblk m c 2 t) (iblk m c 3 t) (iblk m c 4 t) (iblk m c 5 t) y
      = xnext (Y m c) (W m c) (X m c) (Gt m c) (Lg m c) (Lb m c) (256 * t.val + (y 0).val) (y 1).val := by
  have h := pay5 m c t
  have hx := blk4 m c t
  have hg := blk5 m c t
  unfold k0_pay6
  generalize k0_pay5 (F := Ideal) (iblk m c 0 t) (iblk m c 1 t) (iblk m c 2 t) (iblk m c 3 t) = p at h ⊢
  generalize (iblk m c 4 t : S1x2048.Idx → EReal) = x at hx ⊢
  generalize (iblk m c 5 t : S1x2048.Idx → EReal) = g at hg ⊢
  pointwise [xnext]
  simp only [h, hx, hg]
  rfl

/-- A point's block of the next layer's modulated input. -/
theorem pay1 (y : S256x2048.Idx) :
    k0_pay1 (F := Ideal) (k0_pay6 (F := Ideal) (iblk m c 0 t) (iblk m c 1 t) (iblk m c 2 t) (iblk m c 3 t) (iblk m c 4 t)
        (iblk m c 5 t)) (iblk m c 6 t) (iblk m c 7 t) y
      = hnext (Y m c) (W m c) (X m c) (Gt m c) (Lg m c) (Lb m c) (Sc m c) (Sh m c) (256 * t.val + (y 0).val) (y 1).val := by
  have h := pay6 m c t
  have hx := blk6 m c t
  have hg := blk7 m c t
  unfold k0_pay1
  generalize k0_pay6 (F := Ideal) (iblk m c 0 t) (iblk m c 1 t) (iblk m c 2 t) (iblk m c 3 t) (iblk m c 4 t)
    (iblk m c 5 t) = p at h ⊢
  generalize (iblk m c 6 t : S1x2048.Idx → EReal) = x at hx ⊢
  generalize (iblk m c 7 t : S1x2048.Idx → EReal) = g at hg ⊢
  pointwise [hnext]
  simp only [h, hx, hg]
  rfl

end Block

/-! ## The result arrays -/

/-- The kernel's result array of the next layer's input. -/
def G8 (c : Dev nD) : S8192x2048.Idx → EReal := fun i => xnext (Y m c) (W m c) (X m c) (Gt m c) (Lg m c) (Lb m c) (i 0).val (i 1).val

/-- The points' blocks of the next layer's input make up the array. -/
theorem final8 (c : Dev nD) : (dats m 0 c).arrAt 8 cfg0.N = G8 m c := by
  refine (dats m 0 c).arrAt_eq_of_covers 8 _ (by decide +kernel) fun t hf y => ?_
  have e := idx t
  blk_simp
  rw [after0_8]
  unfold out0_8
  frame_out
  refine (pay6 m c t y).trans ?_
  have e0 : (((win0_8.blk t).view.emb y) 0).val = 256 * t.val + (y 0).val := by blk_simp [e.2.2.2.2.2.2.2.2.1]; omega
  have e1 : (((win0_8.blk t).view.emb y) 1).val = (y 1).val := by blk_simp [e.2.2.2.2.2.2.2.2.1]
  rw [G8, e0, e1]

/-- The kernel's result array of the normalised rows. -/
def G9 (c : Dev nD) : S8192x2048.Idx → EReal := fun i => xhat (Y m c) (W m c) (X m c) (Gt m c) (i 0).val (i 1).val

/-- The points' blocks of the normalised rows make up the array. -/
theorem final9 (c : Dev nD) : (dats m 0 c).arrAt 9 cfg0.N = G9 m c := by
  refine (dats m 0 c).arrAt_eq_of_covers 9 _ (by decide +kernel) fun t hf y => ?_
  have e := idx t
  blk_simp
  rw [after0_9]
  unfold out0_9
  frame_out
  refine (pay5 m c t y).trans ?_
  have e0 : (((win0_9.blk t).view.emb y) 0).val = 256 * t.val + (y 0).val := by blk_simp [e.2.2.2.2.2.2.2.2.2.1]; omega
  have e1 : (((win0_9.blk t).view.emb y) 1).val = (y 1).val := by blk_simp [e.2.2.2.2.2.2.2.2.2.1]
  rw [G9, e0, e1]

/-- The kernel's result array of the projection. -/
def G10 (c : Dev nD) : S8192x2048.Idx → EReal := fun i => proj (Y m c) (W m c) (i 0).val (i 1).val

/-- The points' blocks of the projection make up the array. -/
theorem final10 (c : Dev nD) : (dats m 0 c).arrAt 10 cfg0.N = G10 m c := by
  refine (dats m 0 c).arrAt_eq_of_covers 10 _ (by decide +kernel) fun t hf y => ?_
  have e := idx t
  blk_simp
  rw [after0_10]
  unfold out0_10
  frame_out
  refine (pay2 m c t y).trans ?_
  have e0 : (((win0_10.blk t).view.emb y) 0).val = 256 * t.val + (y 0).val := by blk_simp [e.2.2.2.2.2.2.2.2.2.2.1]; omega
  have e1 : (((win0_10.blk t).view.emb y) 1).val = (y 1).val := by blk_simp [e.2.2.2.2.2.2.2.2.2.2.1]
  rw [G10, e0, e1]

/-- The kernel's result array of the reciprocal standard deviations. -/
def G11 (c : Dev nD) : S8192x1.Idx → EReal := fun i => rstd (Y m c) (W m c) (X m c) (Gt m c) (i 0).val

/-- The points' blocks of the reciprocal standard deviations make up the array. -/
theorem final11 (c : Dev nD) : (dats m 0 c).arrAt 11 cfg0.N = G11 m c := by
  refine (dats m 0 c).arrAt_eq_of_covers 11 _ (by decide +kernel) fun t hf y => ?_
  have e := idx t
  blk_simp
  rw [after0_11]
  unfold out0_11
  frame_out
  refine (pay4 m c t y).trans ?_
  have e0 : (((win0_11.blk t).view.emb y) 0).val = 256 * t.val + (y 0).val := by blk_simp [e.2.2.2.2.2.2.2.2.2.2.2.1]; omega
  rw [G11, e0]

/-- The kernel's result array of the next layer's modulated input. -/
def G12 (c : Dev nD) : S8192x2048.Idx → EReal := fun i => hnext (Y m c) (W m c) (X m c) (Gt m c) (Lg m c) (Lb m c) (Sc m c) (Sh m c) (i 0).val (i 1).val

/-- The points' blocks of the next layer's modulated input make up the array. -/
theorem final12 (c : Dev nD) : (dats m 0 c).arrAt 12 cfg0.N = G12 m c := by
  refine (dats m 0 c).arrAt_eq_of_covers 12 _ (by decide +kernel) fun t hf y => ?_
  have e := idx t
  blk_simp
  rw [after0_12]
  unfold out0_12
  frame_out
  refine (pay1 m c t y).trans ?_
  have e0 : (((win0_12.blk t).view.emb y) 0).val = 256 * t.val + (y 0).val := by blk_simp [e.2.2.2.2.2.2.2.2.2.2.2.2]; omega
  have e1 : (((win0_12.blk t).view.emb y) 1).val = (y 1).val := by blk_simp [e.2.2.2.2.2.2.2.2.2.2.2.2]
  rw [G12, e0, e1]

/-! ## The reference -/

section Reference
open Cert.Reference10Ideal.Read

variable (C : S8192x2048.Idx → EReal) (w : S2048x2048.Idx → EReal) (x : S8192x2048.Idx → EReal) (g : S1x2048.Idx → EReal)
  (lg lb sc sh : S1x2048.Idx → EReal)

/-- The reference's projection. -/
theorem ref2 (i : S8192x2048.Idx) : val_main_v2 (F := Ideal) C w i = proj C w (i 0).val (i 1).val := by
  rw [val_main_v2_apply]
  refine Finset.sum_congr rfl fun k _ => ?_
  exact congrArg₂ (· * ·) (rd_at C _ _ _ rfl rfl) (rd_at w _ _ _ rfl rfl)

/-- The reference's residual sum. -/
theorem ref9 (i : S8192x2048.Idx) : val_main_v9 (F := Ideal) C w x g i = res C w x g (i 0).val (i 1).val := by
  rw [val_main_v9_apply, val_main_v8_apply, val_main_v7_apply, val_main_v6_apply, val_main_v5_apply, val_main_v4_apply,
    val_main_v3_apply, val_main_cst_apply, val_main_cst_0_apply, ref2, rd_at x i _ _ rfl rfl, rd_at g _ 0 (i 1).val rfl rfl]
  pointwise [res]

/-- The reference's centred residual sum. -/
theorem ref15 (i : S8192x2048.Idx) : val_main_v15 (F := Ideal) C w x g i = cen C w x g (i 0).val (i 1).val := by
  rw [val_main_v15_apply, val_main_v14_apply, val_main_v13_apply, val_main_v12_apply, val_main_v11_apply, val_main_v10_apply,
    val_main_cst_1_apply, val_main_cst_2_apply]
  pointwise [cen]
  simp only [ref9]

/-- The same, of its second appearance. -/
theorem ref25 (i : S8192x2048.Idx) : val_main_v25 (F := Ideal) C w x g i = cen C w x g (i 0).val (i 1).val :=
  ref15 C w x g i

/-- The reference's reciprocal standard deviation. -/
theorem ref23 (i : Cert.Reference10Ideal.S8192x1.Idx) : val_main_v23 (F := Ideal) C w x g i = rstd C w x g (i 0).val := by
  rw [val_main_v23_apply, val_main_v22_apply, val_main_v21_apply, val_main_v20_apply, val_main_v19_apply, val_main_cst_5_apply,
    val_main_cst_4_apply, val_main_v18_apply, val_main_v17_apply, val_main_cst_3_apply]
  pointwise [rstd]
  simp only [val_main_v16_apply, ref15]
  rfl

/-- The reference's normalised rows. -/
theorem ref27 (i : S8192x2048.Idx) : val_main_v27 (F := Ideal) C w x g i = xhat C w x g (i 0).val (i 1).val := by
  rw [val_main_v27_apply, val_main_v26_apply, ref25, ref23]
  rfl

/-- The reference's next layer's input. -/
theorem ref31 (i : S8192x2048.Idx) :
    val_main_v31 (F := Ideal) C w x g lg lb i = xnext C w x g lg lb (i 0).val (i 1).val := by
  rw [val_main_v31_apply, val_main_v30_apply, val_main_v29_apply, val_main_v28_apply, ref27, rd_at lg _ 0 (i 1).val rfl rfl,
    rd_at lb _ 0 (i 1).val rfl rfl]
  rfl

/-- The reference's next layer's modulated input. -/
theorem ref38 (i : S8192x2048.Idx) :
    val_main_v38 (F := Ideal) C w x g lg lb sc sh i = hnext C w x g lg lb sc sh (i 0).val (i 1).val := by
  rw [val_main_v38_apply, val_main_v37_apply, val_main_v36_apply, val_main_v35_apply, val_main_v34_apply, val_main_v33_apply,
    val_main_v32_apply, val_main_cst_6_apply, ref31, rd_at sc _ 0 (i 1).val rfl rfl, rd_at sh _ 0 (i 1).val rfl rfl]
  pointwise [hnext]

end Reference

/-- The kernel computes the reference's arrays. -/
theorem algebraic : Cert.algebraic_Kernel10Ideal_Reference10Ideal := fun m ρ m' ρ' _ hag => by
  refine ⟨fun c => G8 m c, fun c => G9 m c, fun c => G10 m c, fun c => G11 m c, fun c => G12 m c,
    (θ_run _ _ _).mono (fun _ h c => ⟨(h c).1.trans (final8 m c), (h c).2.1.trans (final9 m c), (h c).2.2.1.trans (final10 m c),
      (h c).2.2.2.1.trans (final11 m c), (h c).2.2.2.2.1.trans (final12 m c), (h c).2.2.2.2.2⟩) (Value.run_blocks m ρ),
    (θ_run _ _ _).mono (fun _ h c => ⟨(h c).1.trans ?_, (h c).2.1.trans ?_, (h c).2.2.1.trans ?_, (h c).2.2.2.1.trans ?_,
      (h c).2.2.2.2.1.trans ?_, (h c).2.2.2.2.2⟩) (Cert.Reference10Ideal.Value.run m' ρ')⟩
  · rw [Cert.Reference10Ideal.Read.val_main_v31_eq, (hag c).1, (hag c).2.1, (hag c).2.2.1, (hag c).2.2.2.1, (hag c).2.2.2.2.1, (hag c).2.2.2.2.2.1]
    exact funext fun i => ref31 _ _ _ _ _ _ i
  · rw [Cert.Reference10Ideal.Read.val_main_v27_eq, (hag c).1, (hag c).2.1, (hag c).2.2.1, (hag c).2.2.2.1]
    exact funext fun i => ref27 _ _ _ _ i
  · rw [Cert.Reference10Ideal.Read.val_main_v2_eq, (hag c).1, (hag c).2.1]
    exact funext fun i => ref2 _ _ i
  · rw [Cert.Reference10Ideal.Read.val_main_v23_eq, (hag c).1, (hag c).2.1, (hag c).2.2.1, (hag c).2.2.2.1]
    exact funext fun i => ref23 _ _ _ _ i
  · rw [Cert.Reference10Ideal.Read.val_main_v38_eq, (hag c).1, (hag c).2.1, (hag c).2.2.1, (hag c).2.2.2.1, (hag c).2.2.2.2.1, (hag c).2.2.2.2.2.1, (hag c).2.2.2.2.2.2.1, (hag c).2.2.2.2.2.2.2]
    exact funext fun i => ref38 _ _ _ _ _ _ _ _ i

end Cert.OutLn
end
-- ==== Proof.LnRow.lean ====
module

public import Idealize.ShloMosaic.Lib.Pointwise
public import Idealize.ShloMosaic.PureOps.Ideal.Laws

/-! The gradient of a layer norm, for one row of 2048 real numbers: the closed form is what the chain rule gives. -/

@[expose] public section

set_option maxRecDepth 16384

noncomputable section

namespace Cert.LnRow

open Idealize.ShloMosaic

/-- The row's length, as the programs write it. -/
abbrev N : EReal := Ideal.ofBits FTy.f32 1157627904#32
/-- The small number under the root, as the programs write it. -/
abbrev E : EReal := Ideal.ofBits FTy.f32 925353388#32

/-- The row's length is 2048. -/
theorem N_eq : N = ((2048 : ℝ) : EReal) := by
  simp [N, Ideal.ofBits, Ideal.ieee, -EReal.coe_mul]
  norm_num

/-- The small number is a positive real. -/
theorem E_eq : ∃ e : ℝ, 0 < e ∧ E = (e : EReal) := by
  refine ⟨_, ?_, rfl⟩
  simp [Ideal.ieee]

/-- The residual's factor is a real number. -/
theorem A_eq : ∃ e : ℝ, Ideal.ofBits FTy.f32 1068827891#32 = (e : EReal) := ⟨_, rfl⟩

/-- The derivative of the root brings minus one half. -/
theorem H_eq : Ideal.ofBits FTy.f32 3204448256#32 = ((-1 / 2 : ℝ) : EReal) := by
  simp [Ideal.ofBits, Ideal.ieee, -EReal.coe_mul, -EReal.coe_neg]
  norm_num

/-- The derivative of the square brings two. -/
theorem T_eq : Ideal.ofBits FTy.f32 1073741824#32 = ((2 : ℝ) : EReal) := by
  simp [Ideal.ofBits, Ideal.ieee, -EReal.coe_mul, -EReal.coe_neg]
  norm_num

variable (f u : Fin 2048 → EReal)

/-- The row less its mean. -/
def cen (k : Fin 2048) : EReal := f k - Ideal.div (∑ j, f j) N

/-- The row's mean square, with the small number added. -/
def var : EReal := Ideal.div (∑ j, cen f j * cen f j) N + E

/-- The reciprocal of the row's deviation. -/
def rstd : EReal := Ideal.rsqrt (var f)

/-- The closed form of the gradient at `u`. -/
def closed (k : Fin 2048) : EReal :=
  rstd f * ((u k - Ideal.div (∑ j, u j) N) - (cen f k * rstd f) * Ideal.div (∑ j, u j * (cen f j * rstd f)) N)

/-- What goes back through the root and the mean square. -/
def back : EReal :=
  Ideal.div ((∑ j, cen f j * u j) * (Ideal.ofBits FTy.f32 3204448256#32 * Ideal.div (rstd f) (var f))) N

/-- The chain rule's gradient at `u`. -/
def chain (k : Fin 2048) : EReal :=
  (u k * rstd f + back f u * (Ideal.ofBits FTy.f32 1073741824#32 * cen f k))
    + Ideal.div ((∑ j, -(u j * rstd f)) + ∑ j, -(back f u * (Ideal.ofBits FTy.f32 1073741824#32 * cen f j))) N

/-- A sum of real numbers is real. -/
theorem coe_sum (g : Fin 2048 → ℝ) : ∑ j, (g j : EReal) = ((∑ j, g j : ℝ) : EReal) := by
  induction (Finset.univ : Finset (Fin 2048)) using Finset.induction_on with
  | empty => simp
  | insert a s h ih => rw [Finset.sum_insert h, Finset.sum_insert h, ih, EReal.coe_add]

/-- A real number divided by the row's length. -/
theorem div_N (x : ℝ) : Ideal.div (x : EReal) N = ((x / 2048 : ℝ) : EReal) := by
  rw [N_eq, Ideal.div_coe (by norm_num), ← EReal.coe_mul]
  congr 1
  ring

/-- The identity between real numbers. -/
theorem real_eq (c v : Fin 2048 → ℝ) (r q : ℝ) (hq : q ≠ 0) (hr : r * r * q = 1) (hc : ∑ j, c j = 0) (k : Fin 2048) :
    r * ((v k - (∑ j, v j) / 2048) - (c k * r) * ((∑ j, v j * (c j * r)) / 2048))
      = (v k * r + ((∑ j, c j * v j) * (-1 / 2 * (r / q)) / 2048) * (2 * c k))
        + ((∑ j, -(v j * r)) + ∑ j, -(((∑ j, c j * v j) * (-1 / 2 * (r / q)) / 2048) * (2 * c j))) / 2048 := by
  have h1 : ∑ j, v j * (c j * r) = (∑ j, c j * v j) * r := by
    rw [Finset.sum_mul]; exact Finset.sum_congr rfl fun j _ => by ring
  have h2 : ∑ j, -(v j * r) = -((∑ j, v j) * r) := by rw [Finset.sum_neg_distrib, Finset.sum_mul]
  have h3 (w : ℝ) : ∑ j, -(w * (2 * c j)) = 0 := by
    rw [Finset.sum_neg_distrib, ← Finset.mul_sum, ← Finset.mul_sum, hc]; ring
  rw [h1, h2, h3]
  have h4 : r / q = r * r * r := by
    field_simp
    linear_combination (-r) * hr
  rw [h4]
  ring

/-- The closed form is the chain rule's gradient, on rows of real numbers. -/
theorem closed_eq_chain (hf : ∀ k, ∃ x : ℝ, f k = x) (hu : ∀ k, ∃ x : ℝ, u k = x) (k : Fin 2048) :
    closed f u k = chain f u k := by
  choose F hF using hf
  choose U hU using hu
  obtain ⟨e, he, hE⟩ := E_eq
  have hc (j : Fin 2048) : cen f j = ((F j - (∑ j, F j) / 2048 : ℝ) : EReal) := by
    rw [cen, Finset.sum_congr rfl fun j _ => hF j, coe_sum, div_N, hF, ← EReal.coe_sub]
  generalize hcd : (fun j => F j - (∑ j, F j) / 2048) = c at hc
  have hc (j : Fin 2048) : cen f j = (c j : EReal) := by rw [← hcd]; exact hc j
  have hc0 : ∑ j, c j = 0 := by
    rw [← hcd, Finset.sum_sub_distrib, Finset.sum_const, Finset.card_univ, Fintype.card_fin, nsmul_eq_mul]
    push_cast
    ring
  have hv : var f = (((∑ j, c j * c j) / 2048 + e : ℝ) : EReal) := by
    rw [var, Finset.sum_congr rfl fun j _ => (by rw [hc, ← EReal.coe_mul] : cen f j * cen f j = ((c j * c j : ℝ) : EReal)),
      coe_sum, div_N, hE, ← EReal.coe_add]
  have hq : 0 < (∑ j, c j * c j) / 2048 + e := by
    have : 0 ≤ ∑ j, c j * c j := Finset.sum_nonneg fun j _ => mul_self_nonneg _
    positivity
  generalize (∑ j, c j * c j) / 2048 + e = q at hv hq
  have hr : rstd f = (((Real.sqrt q)⁻¹ : ℝ) : EReal) := by
    rw [rstd, hv, Ideal.rsqrt_coe, if_neg (not_lt.mpr hq.le), if_neg hq.ne']
  have hrr : (Real.sqrt q)⁻¹ * (Real.sqrt q)⁻¹ * q = 1 := by
    rw [← mul_inv, Real.mul_self_sqrt hq.le, inv_mul_cancel₀ hq.ne']
  generalize (Real.sqrt q)⁻¹ = r at hr hrr
  have hb : back f u = (((∑ j, c j * U j) * (-1 / 2 * (r / q)) / 2048 : ℝ) : EReal) := by
    rw [back, H_eq, hr, hv, Ideal.div_coe hq.ne', Finset.sum_congr rfl fun j _ =>
      (by rw [hc, hU, ← EReal.coe_mul] : cen f j * u j = ((c j * U j : ℝ) : EReal)), coe_sum, ← EReal.coe_mul, ← EReal.coe_mul,
      ← EReal.coe_mul, div_N]
    congr 2
    ring
  have h := real_eq c U r q hq.ne' hrr hc0 k
  rw [closed, chain, hb, T_eq, hr, Finset.sum_congr rfl fun j _ =>
      (by rw [hc, hU, ← EReal.coe_mul, ← EReal.coe_mul] : u j * (cen f j * (r : EReal)) = ((U j * (c j * r) : ℝ) : EReal)),
    coe_sum, div_N, Finset.sum_congr rfl fun j _ => hU j, coe_sum, div_N, hU, hc,
    Finset.sum_congr rfl fun j _ => (by rw [hU, ← EReal.coe_mul, ← EReal.coe_neg] : -(u j * (r : EReal)) = ((-(U j * r) : ℝ) : EReal)),
    coe_sum]
  generalize (∑ j, c j * U j) * (-1 / 2 * (r / q)) / 2048 = w at h ⊢
  rw [Finset.sum_congr rfl fun j _ => (by rw [hc, ← EReal.coe_mul, ← EReal.coe_mul, ← EReal.coe_neg] :
      -((w : EReal) * (((2 : ℝ) : EReal) * cen f j)) = ((-(w * (2 * c j)) : ℝ) : EReal)), coe_sum]
  rw [← EReal.coe_add (∑ j, -(U j * r)), div_N]
  simp only [← EReal.coe_mul, ← EReal.coe_sub, ← EReal.coe_add]
  rw [h]

end Cert.LnRow
end
-- ==== Proof.LnBwd.lean ====
module

public import proofs.«01_k».proof.Proof.Gen.Kernel11Ideal.Value
public import proofs.«01_k».proof.Proof.Gen.Reference11Ideal.Read
public import proofs.«01_k».proof.Proof.Common
public import proofs.«01_k».proof.Proof.LnRow
public import proofs.«01_k».proof.Proof.Finite
public import proofs.«01_k».proof.Defs
public import Idealize.ShloMosaic.Lib.Pointwise
public import Idealize.ShloMosaic.Lib.StableHlo.ReadAt

/-! The gradient of the layer norm: six results, three of them sums over blocks of rows. -/

@[expose] public section

set_option maxRecDepth 16384

noncomputable section

namespace Cert.LnBwd

open Cert.Kernel11Ideal Cert.Kernel11Ideal.Gen Cert.Rd
open Idealize.ShloMosaic Idealize.ShloMosaic.TcCoe Idealize.SL.Sem

/-! ## The mathematics, row by row -/

section Row
variable (D X Y : S8192x2048.Idx → EReal) (g lg : S1x2048.Idx → EReal) (w : S2048x2048.Idx → EReal)

/-- The residual sum: the scaled layer input and the gated projection. -/
def res (r q : ℕ) : EReal := Ideal.ofBits FTy.f32 1068827891#32 * rd X r q + (1 + rd g 0 q) * rd Y r q

/-- A row of the residual sum. -/
abbrev row (r : ℕ) : Fin 2048 → EReal := fun k => res X Y g r k.val

/-- The residual sum less the mean of its row. -/
def cen (r q : ℕ) : EReal :=
  res X Y g r q - Ideal.div (∑ k : Fin 2048, res X Y g r k.val) (Ideal.ofBits FTy.f32 1157627904#32)

/-- The reciprocal of a row's standard deviation. -/
def rstd (r : ℕ) : EReal :=
  Ideal.rsqrt (Ideal.div (∑ k : Fin 2048, cen X Y g r k.val * cen X Y g r k.val) (Ideal.ofBits FTy.f32 1157627904#32)
    + Ideal.ofBits FTy.f32 925353388#32)

/-- The normalised row. -/
def xhat (r q : ℕ) : EReal := cen X Y g r q * rstd X Y g r

/-- The gradient at the normalised row. -/
def up (r q : ℕ) : EReal := rd D r q * rd lg 0 q

/-- The gradient at the residual sum, in closed form. -/
def dres (r q : ℕ) : EReal :=
  rstd X Y g r * ((up D lg r q - Ideal.div (∑ k : Fin 2048, up D lg r k.val) (Ideal.ofBits FTy.f32 1157627904#32))
    - xhat X Y g r q * Ideal.div (∑ k : Fin 2048, up D lg r k.val * xhat X Y g r k.val) (Ideal.ofBits FTy.f32 1157627904#32))

/-- The gradient at the projection. -/
def dy (r q : ℕ) : EReal := (1 + rd g 0 q) * dres D X Y g lg r q

/-- The gradient at the layer input, through the residual. -/
def dx (r q : ℕ) : EReal := Ideal.ofBits FTy.f32 1068827891#32 * dres D X Y g lg r q

/-- The gradient at the mixers' outputs. -/
def dyc (r q : ℕ) : EReal := ∑ k : Fin 2048, dy D X Y g lg r k.val * rd w q k.val

end Row

/-! ## The kernel's blocks -/

variable (m : (ℓ : Loc nD τ sig) → Buf (Elt Ideal) ℓ)

/-- The gradient at the layer's result. -/
abbrev D (c : Dev nD) : S8192x2048.Idx → EReal := m ((c : Thread nD τ).loc main_arg0)
/-- The layer's input. -/
abbrev X (c : Dev nD) : S8192x2048.Idx → EReal := m ((c : Thread nD τ).loc main_arg1)
/-- The output projection. -/
abbrev Y (c : Dev nD) : S8192x2048.Idx → EReal := m ((c : Thread nD τ).loc main_arg2)
/-- The residual's gate. -/
abbrev Gt (c : Dev nD) : S1x2048.Idx → EReal := m ((c : Thread nD τ).loc main_arg3)
/-- The layer norm's scale. -/
abbrev Lg (c : Dev nD) : S1x2048.Idx → EReal := m ((c : Thread nD τ).loc main_arg4)
/-- The projection's weight. -/
abbrev W (c : Dev nD) : S2048x2048.Idx → EReal := m ((c : Thread nD τ).loc main_arg5)

section Host
variable (c : Dev nD)

/-- An element of the layer's input. -/
theorem hX (y : S8192x2048.Idx) : m (c, Proc.tc.devRef main_arg1) y = rd (X m c) (y 0).val (y 1).val :=
  rd_at (X m c) y _ _ rfl rfl

/-- An element of the output projection. -/
theorem hY (y : S8192x2048.Idx) : m (c, Proc.tc.devRef main_arg2) y = rd (Y m c) (y 0).val (y 1).val :=
  rd_at (Y m c) y _ _ rfl rfl

/-- An element of the gate. -/
theorem hG (y : S1x2048.Idx) : m (c, Proc.tc.devRef main_arg3) y = rd (Gt m c) (y 0).val (y 1).val :=
  rd_at (Gt m c) y _ _ rfl rfl

/-- The normalised rows that the host computes. -/
theorem host24 (y : S8192x2048.Idx) :
    (V m c main_v24 : S8192x2048.Idx → EReal) y = xhat (X m c) (Y m c) (Gt m c) (y 0).val (y 1).val := by
  unfold V
  after_reads_at
  simp only [hX, hY, hG]
  rfl

/-- The reciprocal deviations that the host computes. -/
theorem host20 (y : S8192x1.Idx) :
    (V m c main_v20 : S8192x1.Idx → EReal) y = rstd (X m c) (Y m c) (Gt m c) (y 0).val := by
  unfold V
  after_reads_at
  simp only [hX, hY, hG]
  rfl

end Host

/-- The block indices of the windows at grid point `t`. -/
theorem idx : ∀ t : Fin grid0.N,
    win0_0.index t = ![t.val, 0]
      ∧ win0_1.index t = ![t.val, 0]
      ∧ win0_2.index t = ![t.val, 0]
      ∧ win0_3.index t = ![t.val, 0]
      ∧ win0_4.index t = ![0, 0]
      ∧ win0_5.index t = ![0, 0]
      ∧ win0_6.index t = ![0, 0]
      ∧ win0_7.index t = ![t.val, 0]
      ∧ win0_8.index t = ![t.val, 0]
      ∧ win0_9.index t = ![0, 0]
      ∧ win0_10.index t = ![0, 0]
      ∧ win0_11.index t = ![0, 0]
      ∧ win0_12.index t = ![t.val, 0] := by
  decide +kernel

/-- A point's block of the argument: the gradient at the layer's result. -/
theorem blk0 (c : Dev nD) (t : Fin cfg0.N) (y : S256x2048.Idx) :
    (iblk m c 0 t : S256x2048.Idx → EReal) y = rd (D m c) (256 * t.val + (y 0).val) (y 1).val := by
  have e := idx t
  refine (rfl : _ = D m c (((cfg0.win 0).blk t).view.emb y)).trans (rd_at _ _ _ _ ?_ ?_) <;> blk_simp [e.1] <;> omega

/-- A point's block of the argument: the output projection. -/
theorem blk2 (c : Dev nD) (t : Fin cfg0.N) (y : S256x2048.Idx) :
    (iblk m c 2 t : S256x2048.Idx → EReal) y = rd (Y m c) (256 * t.val + (y 0).val) (y 1).val := by
  have e := idx t
  refine (rfl : _ = Y m c (((cfg0.win 2).blk t).view.emb y)).trans (rd_at _ _ _ _ ?_ ?_) <;> blk_simp [e.2.2.1] <;> omega

/-- A point's block of the argument: the layer norm's scale. -/
theorem blk4 (c : Dev nD) (t : Fin cfg0.N) (y : S1x2048.Idx) :
    (iblk m c 4 t : S1x2048.Idx → EReal) y = rd (Lg m c) ((y 0).val) (y 1).val := by
  have e := idx t
  refine (rfl : _ = Lg m c (((cfg0.win 4).blk t).view.emb y)).trans (rd_at _ _ _ _ ?_ ?_) <;> blk_simp [e.2.2.2.2.1] <;> omega

/-- A point's block of the argument: the residual's gate. -/
theorem blk5 (c : Dev nD) (t : Fin cfg0.N) (y : S1x2048.Idx) :
    (iblk m c 5 t : S1x2048.Idx → EReal) y = rd (Gt m c) ((y 0).val) (y 1).val := by
  have e := idx t
  refine (rfl : _ = Gt m c (((cfg0.win 5).blk t).view.emb y)).trans (rd_at _ _ _ _ ?_ ?_) <;> blk_simp [e.2.2.2.2.2.1] <;> omega

/-- A point's block of the argument: the projection's weight. -/
theorem blk6 (c : Dev nD) (t : Fin cfg0.N) (y : S2048x2048.Idx) :
    (iblk m c 6 t : S2048x2048.Idx → EReal) y = rd (W m c) ((y 0).val) (y 1).val := by
  have e := idx t
  refine (rfl : _ = W m c (((cfg0.win 6).blk t).view.emb y)).trans (rd_at _ _ _ _ ?_ ?_) <;> blk_simp [e.2.2.2.2.2.2.1] <;> omega

/-- A point's block of the host's normalised rows. -/
theorem blk1 (c : Dev nD) (t : Fin cfg0.N) (y : S256x2048.Idx) :
    (iblk m c 1 t : S256x2048.Idx → EReal) y
      = xhat (X m c) (Y m c) (Gt m c) (256 * t.val + (y 0).val) (y 1).val := by
  have e := idx t
  refine (rfl : _ = V m c main_v24 (((cfg0.win 1).blk t).view.emb y)).trans ?_
  rw [host24]
  have e0 : (((win0_1.blk t).view.emb y) 0).val = 256 * t.val + (y 0).val := by blk_simp [e.2.1]; omega
  have e1 : (((win0_1.blk t).view.emb y) 1).val = (y 1).val := by blk_simp [e.2.1]
  exact congrArg₂ _ e0 e1

/-- A point's block of the host's reciprocal deviations. -/
theorem blk3 (c : Dev nD) (t : Fin cfg0.N) (y : S256x1.Idx) :
    (iblk m c 3 t : S256x1.Idx → EReal) y = rstd (X m c) (Y m c) (Gt m c) (256 * t.val + (y 0).val) := by
  have e := idx t
  refine (rfl : _ = V m c main_v20 (((cfg0.win 3).blk t).view.emb y)).trans ?_
  rw [host20]
  have e0 : (((win0_3.blk t).view.emb y) 0).val = 256 * t.val + (y 0).val := by blk_simp [e.2.2.2.1]; omega
  exact congrArg _ e0

section Block
variable (c : Dev nD) (t : Fin cfg0.N)

/-- A point's block of the gradient at the residual sum. -/
theorem pay9 (y : S256x2048.Idx) :
    k0_pay9 (F := Ideal) (iblk m c 0 t) (iblk m c 1 t) (iblk m c 4 t) (iblk m c 3 t) y
      = dres (D m c) (X m c) (Y m c) (Gt m c) (Lg m c) (256 * t.val + (y 0).val) (y 1).val := by
  have h0 := blk0 m c t
  have h1 := blk1 m c t
  have h4 := blk4 m c t
  have h3 := blk3 m c t
  unfold k0_pay9
  generalize (iblk m c 0 t : S256x2048.Idx → EReal) = x0 at h0 ⊢
  generalize (iblk m c 1 t : S256x2048.Idx → EReal) = x1 at h1 ⊢
  generalize (iblk m c 4 t : S1x2048.Idx → EReal) = x4 at h4 ⊢
  generalize (iblk m c 3 t : S256x1.Idx → EReal) = x3 at h3 ⊢
  pointwise [k0_pay8, dres]
  simp only [h0, h1, h4, h3]
  rfl

/-- A point's block of the gradient at the projection. -/
theorem pay10 (y : S256x2048.Idx) :
    k0_pay10 (F := Ideal) (iblk m c 0 t) (iblk m c 1 t) (iblk m c 4 t) (iblk m c 3 t) (iblk m c 5 t) y
      = dy (D m c) (X m c) (Y m c) (Gt m c) (Lg m c) (256 * t.val + (y 0).val) (y 1).val := by
  have h := pay9 m c t
  have hg := blk5 m c t
  unfold k0_pay10
  generalize k0_pay9 (F := Ideal) (iblk m c 0 t) (iblk m c 1 t) (iblk m c 4 t) (iblk m c 3 t) = p at h ⊢
  generalize (iblk m c 5 t : S1x2048.Idx → EReal) = g at hg ⊢
  pointwise [dy]
  simp only [h, hg]
  rfl

/-- A point's block of the gradient at the layer input. -/
theorem pay11 (y : S256x2048.Idx) :
    k0_pay11 (F := Ideal) (iblk m c 0 t) (iblk m c 1 t) (iblk m c 4 t) (iblk m c 3 t) y
      = dx (D m c) (X m c) (Y m c) (Gt m c) (Lg m c) (256 * t.val + (y 0).val) (y 1).val := by
  have h := pay9 m c t
  unfold k0_pay11
  generalize k0_pay9 (F := Ideal) (iblk m c 0 t) (iblk m c 1 t) (iblk m c 4 t) (iblk m c 3 t) = p at h ⊢
  pointwise [dx]
  rw [h]

/-- A point's block of the gradient at the mixers' outputs. -/
theorem pay4 (y : S256x2048.Idx) :
    k0_pay4 (F := Ideal) (k0_pay10 (F := Ideal) (iblk m c 0 t) (iblk m c 1 t) (iblk m c 4 t) (iblk m c 3 t) (iblk m c 5 t))
        (iblk m c 6 t) y
      = dyc (D m c) (X m c) (Y m c) (Gt m c) (Lg m c) (W m c) (256 * t.val + (y 0).val) (y 1).val := by
  have h := pay10 m c t
  have hw := blk6 m c t
  unfold k0_pay4
  generalize k0_pay10 (F := Ideal) (iblk m c 0 t) (iblk m c 1 t) (iblk m c 4 t) (iblk m c 3 t) (iblk m c 5 t) = p at h ⊢
  generalize (iblk m c 6 t : S2048x2048.Idx → EReal) = w at hw ⊢
  pointwise [dyc]
  simp only [h, hw]
  rfl

/-- What a point adds to the gradient of the layer norm's scale. -/
def term1 (t : ℕ) (j : S1x2048.Idx) : EReal :=
  ∑ l : Fin 256, rd (D m c) (256 * t + l.val) (j 1).val * xhat (X m c) (Y m c) (Gt m c) (256 * t + l.val) (j 1).val

/-- The scale's gradient with one more block of rows. -/
theorem pay1 (a : S1x2048.Idx → EReal) (j : S1x2048.Idx) :
    k0_pay1 (F := Ideal) (iblk m c 0 t) (k0_pay8 (F := Ideal) (iblk m c 1 t)) a j = a j + term1 m c t.val j := by
  have h0 := blk0 m c t
  have h1 := blk1 m c t
  unfold k0_pay1
  generalize (iblk m c 0 t : S256x2048.Idx → EReal) = x0 at h0 ⊢
  generalize (iblk m c 1 t : S256x2048.Idx → EReal) = x1 at h1 ⊢
  pointwise [k0_pay8, term1]
  simp only [h0, h1]
  rfl

/-- What a point adds to the gradient of the layer norm's shift. -/
def term2 (t : ℕ) (j : S1x2048.Idx) : EReal := ∑ l : Fin 256, rd (D m c) (256 * t + l.val) (j 1).val

/-- The shift's gradient with one more block of rows. -/
theorem pay2 (a : S1x2048.Idx → EReal) (j : S1x2048.Idx) :
    k0_pay2 (F := Ideal) (iblk m c 0 t) a j = a j + term2 m c t.val j := by
  have h0 := blk0 m c t
  unfold k0_pay2
  generalize (iblk m c 0 t : S256x2048.Idx → EReal) = x0 at h0 ⊢
  pointwise [term2]
  simp only [h0]
  rfl

/-- What a point adds to the gradient of the gate. -/
def term3 (t : ℕ) (j : S1x2048.Idx) : EReal :=
  ∑ l : Fin 256, dres (D m c) (X m c) (Y m c) (Gt m c) (Lg m c) (256 * t + l.val) (j 1).val
    * rd (Y m c) (256 * t + l.val) (j 1).val

/-- The gate's gradient with one more block of rows. -/
theorem pay3 (a : S1x2048.Idx → EReal) (j : S1x2048.Idx) :
    k0_pay3 (F := Ideal) (k0_pay9 (F := Ideal) (iblk m c 0 t) (iblk m c 1 t) (iblk m c 4 t) (iblk m c 3 t)) a (iblk m c 2 t) j
      = a j + term3 m c t.val j := by
  have h := pay9 m c t
  have h2 := blk2 m c t
  unfold k0_pay3
  generalize k0_pay9 (F := Ideal) (iblk m c 0 t) (iblk m c 1 t) (iblk m c 4 t) (iblk m c 3 t) = p at h ⊢
  generalize (iblk m c 2 t : S256x2048.Idx → EReal) = x2 at h2 ⊢
  pointwise [term3]
  simp only [h, h2]
  rfl

end Block

/-! ## What each point leaves in the six buffers -/

/-- A point's block of the gradient at the projection, as left for the write back. -/
theorem out7 (c : Dev nD) (t : Fin cfg0.N) (y : S256x2048.Idx) :
    (outsAt0 m c t.val t.isLt).1 y = dy (D m c) (X m c) (Y m c) (Gt m c) (Lg m c) (256 * t.val + (y 0).val) (y 1).val := by
  by_cases h : t.val % 32 = 0
  · rw [outsAt0_A m c t h]
    frame_out
    exact pay10 m c t y
  · rw [outsAt0_B m c t h]
    frame_out
    exact pay10 m c t y

/-- A point's block of the gradient at the layer input, as left for the write back. -/
theorem out8 (c : Dev nD) (t : Fin cfg0.N) (y : S256x2048.Idx) :
    (outsAt0 m c t.val t.isLt).2.1 y = dx (D m c) (X m c) (Y m c) (Gt m c) (Lg m c) (256 * t.val + (y 0).val) (y 1).val := by
  by_cases h : t.val % 32 = 0
  · rw [outsAt0_A m c t h]
    frame_out
    exact pay11 m c t y
  · rw [outsAt0_B m c t h]
    frame_out
    exact pay11 m c t y

/-- A point's block of the gradient at the mixers' outputs, as left for the write back. -/
theorem out12 (c : Dev nD) (t : Fin cfg0.N) (y : S256x2048.Idx) :
    (outsAt0 m c t.val t.isLt).2.2.2.2.2 y = dyc (D m c) (X m c) (Y m c) (Gt m c) (Lg m c) (W m c) (256 * t.val + (y 0).val) (y 1).val := by
  by_cases h : t.val % 32 = 0
  · rw [outsAt0_A m c t h]
    frame_out
    exact pay4 m c t y
  · rw [outsAt0_B m c t h]
    frame_out
    exact pay4 m c t y

/-- The gradient of the layer norm's scale after grid point `t`: the blocks of rows so far. -/
theorem acc9 (c : Dev nD) (t : Fin cfg0.N) (j : S1x2048.Idx) :
    (outsAt0 m c t.val t.isLt).2.2.1 j = 0 + ∑ k ∈ Finset.range (t.val % 32 + 1), term1 m c (32 * (t.val / 32) + k) j := by
  refine Pipeline.eq_sum_of_reset_step_apply (fun n h => (outsAt0 m c n h).2.2.1) 32 (fun _ => 0) (term1 m c)
    (fun t h j => ?_) (fun t h j => ?_) t j
  · rw [outsAt0_A m c t h]
    frame_out
    refine (pay1 m c t _ j).trans (congrArg (· + _) ?_)
    pointwise [k0_pay5]
  · rw [outsAt0_B m c t h]
    frame_out
    exact pay1 m c t _ j

/-- The gradient of the layer norm's shift after grid point `t`: the blocks of rows so far. -/
theorem acc10 (c : Dev nD) (t : Fin cfg0.N) (j : S1x2048.Idx) :
    (outsAt0 m c t.val t.isLt).2.2.2.1 j = 0 + ∑ k ∈ Finset.range (t.val % 32 + 1), term2 m c (32 * (t.val / 32) + k) j := by
  refine Pipeline.eq_sum_of_reset_step_apply (fun n h => (outsAt0 m c n h).2.2.2.1) 32 (fun _ => 0) (term2 m c)
    (fun t h j => ?_) (fun t h j => ?_) t j
  · rw [outsAt0_A m c t h]
    frame_out
    refine (pay2 m c t _ j).trans (congrArg (· + _) ?_)
    pointwise [k0_pay6]
  · rw [outsAt0_B m c t h]
    frame_out
    exact pay2 m c t _ j

/-- The gradient of the gate after grid point `t`: the blocks of rows so far. -/
theorem acc11 (c : Dev nD) (t : Fin cfg0.N) (j : S1x2048.Idx) :
    (outsAt0 m c t.val t.isLt).2.2.2.2.1 j = 0 + ∑ k ∈ Finset.range (t.val % 32 + 1), term3 m c (32 * (t.val / 32) + k) j := by
  refine Pipeline.eq_sum_of_reset_step_apply (fun n h => (outsAt0 m c n h).2.2.2.2.1) 32 (fun _ => 0) (term3 m c)
    (fun t h j => ?_) (fun t h j => ?_) t j
  · rw [outsAt0_A m c t h]
    frame_out
    refine (pay3 m c t _ j).trans (congrArg (· + _) ?_)
    pointwise [k0_pay7]
  · rw [outsAt0_B m c t h]
    frame_out
    exact pay3 m c t _ j

/-! ## The result arrays -/

/-- The kernel's result array of the gradient at the projection. -/
def G7 (c : Dev nD) : S8192x2048.Idx → EReal := fun i => dy (D m c) (X m c) (Y m c) (Gt m c) (Lg m c) (i 0).val (i 1).val

/-- The points' blocks of the gradient at the projection make up the array. -/
theorem final7 (c : Dev nD) : (dats m 0 c).arrAt 7 cfg0.N = G7 m c := by
  refine (dats m 0 c).arrAt_eq_of_covers 7 _ (by decide +kernel) fun t hf y => ?_
  have e := idx t
  blk_simp
  rw [after0_7]
  refine (out7 m c t y).trans ?_
  have e0 : (((win0_7.blk t).view.emb y) 0).val = 256 * t.val + (y 0).val := by blk_simp [e.2.2.2.2.2.2.2.1]; omega
  have e1 : (((win0_7.blk t).view.emb y) 1).val = (y 1).val := by blk_simp [e.2.2.2.2.2.2.2.1]
  rw [G7, e0, e1]

/-- The kernel's result array of the gradient at the layer input. -/
def G8 (c : Dev nD) : S8192x2048.Idx → EReal := fun i => dx (D m c) (X m c) (Y m c) (Gt m c) (Lg m c) (i 0).val (i 1).val

/-- The points' blocks of the gradient at the layer input make up the array. -/
theorem final8 (c : Dev nD) : (dats m 0 c).arrAt 8 cfg0.N = G8 m c := by
  refine (dats m 0 c).arrAt_eq_of_covers 8 _ (by decide +kernel) fun t hf y => ?_
  have e := idx t
  blk_simp
  rw [after0_8]
  refine (out8 m c t y).trans ?_
  have e0 : (((win0_8.blk t).view.emb y) 0).val = 256 * t.val + (y 0).val := by blk_simp [e.2.2.2.2.2.2.2.2.1]; omega
  have e1 : (((win0_8.blk t).view.emb y) 1).val = (y 1).val := by blk_simp [e.2.2.2.2.2.2.2.2.1]
  rw [G8, e0, e1]

/-- The kernel's result array of the gradient at the mixers' outputs. -/
def G12 (c : Dev nD) : S8192x2048.Idx → EReal := fun i => dyc (D m c) (X m c) (Y m c) (Gt m c) (Lg m c) (W m c) (i 0).val (i 1).val

/-- The points' blocks of the gradient at the mixers' outputs make up the array. -/
theorem final12 (c : Dev nD) : (dats m 0 c).arrAt 12 cfg0.N = G12 m c := by
  refine (dats m 0 c).arrAt_eq_of_covers 12 _ (by decide +kernel) fun t hf y => ?_
  have e := idx t
  blk_simp
  rw [after0_12]
  refine (out12 m c t y).trans ?_
  have e0 : (((win0_12.blk t).view.emb y) 0).val = 256 * t.val + (y 0).val := by blk_simp [e.2.2.2.2.2.2.2.2.2.2.2.2]; omega
  have e1 : (((win0_12.blk t).view.emb y) 1).val = (y 1).val := by blk_simp [e.2.2.2.2.2.2.2.2.2.2.2.2]
  rw [G12, e0, e1]

/-- The kernel's result array of the gradient of the layer norm's scale: a sum over all rows. -/
def G9 (c : Dev nD) : S1x2048.Idx → EReal := fun i => ∑ q : Fin 8192, rd (D m c) q.val (i 1).val * xhat (X m c) (Y m c) (Gt m c) q.val (i 1).val

/-- The last point leaves the gradient of the layer norm's scale. -/
theorem final9 (c : Dev nD) : (dats m 0 c).arrAt 9 cfg0.N = G9 m c := by
  refine (dats m 0 c).arrAt_eq_of_covers 9 _ (by decide +kernel) fun t hf y => ?_
  have hr := (flush0_9 t).mp hf
  have ht : t.val / 32 = 0 := Nat.div_eq_of_lt t.isLt
  have e := idx t
  blk_simp
  rw [after0_9]
  refine (acc9 m c t y).trans ?_
  have e1 : (((win0_9.blk t).view.emb y) 1).val = (y 1).val := by blk_simp [e.2.2.2.2.2.2.2.2.2.1]
  rw [zero_add, G9, e1, hr, ht]
  refine Eq.trans ?_ (sum_blocks 32 256 fun q => rd (D m c) q (y 1).val * xhat (X m c) (Y m c) (Gt m c) q (y 1).val)
  exact Finset.sum_congr rfl fun k _ => by rw [Nat.mul_zero, Nat.zero_add]; rfl

/-- The kernel's result array of the gradient of the layer norm's shift: a sum over all rows. -/
def G10 (c : Dev nD) : S1x2048.Idx → EReal := fun i => ∑ q : Fin 8192, rd (D m c) q.val (i 1).val

/-- The last point leaves the gradient of the layer norm's shift. -/
theorem final10 (c : Dev nD) : (dats m 0 c).arrAt 10 cfg0.N = G10 m c := by
  refine (dats m 0 c).arrAt_eq_of_covers 10 _ (by decide +kernel) fun t hf y => ?_
  have hr := (flush0_10 t).mp hf
  have ht : t.val / 32 = 0 := Nat.div_eq_of_lt t.isLt
  have e := idx t
  blk_simp
  rw [after0_10]
  refine (acc10 m c t y).trans ?_
  have e1 : (((win0_10.blk t).view.emb y) 1).val = (y 1).val := by blk_simp [e.2.2.2.2.2.2.2.2.2.2.1]
  rw [zero_add, G10, e1, hr, ht]
  refine Eq.trans ?_ (sum_blocks 32 256 fun q => rd (D m c) q (y 1).val)
  exact Finset.sum_congr rfl fun k _ => by rw [Nat.mul_zero, Nat.zero_add]; rfl

/-- The kernel's result array of the gradient of the gate: a sum over all rows. -/
def G11 (c : Dev nD) : S1x2048.Idx → EReal := fun i => ∑ q : Fin 8192, dres (D m c) (X m c) (Y m c) (Gt m c) (Lg m c) q.val (i 1).val * rd (Y m c) q.val (i 1).val

/-- The last point leaves the gradient of the gate. -/
theorem final11 (c : Dev nD) : (dats m 0 c).arrAt 11 cfg0.N = G11 m c := by
  refine (dats m 0 c).arrAt_eq_of_covers 11 _ (by decide +kernel) fun t hf y => ?_
  have hr := (flush0_11 t).mp hf
  have ht : t.val / 32 = 0 := Nat.div_eq_of_lt t.isLt
  have e := idx t
  blk_simp
  rw [after0_11]
  refine (acc11 m c t y).trans ?_
  have e1 : (((win0_11.blk t).view.emb y) 1).val = (y 1).val := by blk_simp [e.2.2.2.2.2.2.2.2.2.2.2.1]
  rw [zero_add, G11, e1, hr, ht]
  refine Eq.trans ?_ (sum_blocks 32 256 fun q => dres (D m c) (X m c) (Y m c) (Gt m c) (Lg m c) q (y 1).val * rd (Y m c) q (y 1).val)
  exact Finset.sum_congr rfl fun k _ => by rw [Nat.mul_zero, Nat.zero_add]; rfl

end Cert.LnBwd
end
-- ==== Proof.LnBwdRef.lean ====
module

public import proofs.«01_k».proof.Proof.LnBwd

/-! The reference's layer norm gradient, and that the kernel's equals it on finite arguments. -/

@[expose] public section

set_option maxRecDepth 16384

noncomputable section

namespace Cert.LnBwd

open Cert.Rd Cert.Reference11Ideal.Read
open Cert.Kernel11Ideal (nD τ sig main_arg0 main_arg1 main_arg2 main_arg3 main_arg4 main_arg5 S8192x2048 S8192x1 S1x2048 S2048x2048)
open Cert.Kernel11Ideal.Gen (dats)
open Idealize.ShloMosaic Idealize.ShloMosaic.TcCoe Idealize.SL.Sem

/-! ## Finite arguments -/

/-- The precondition makes every entry real. -/
theorem real_of_pre [Cert.Pre_finite11.Facts] (x0 x1 x2 : Vec Ideal ⟨2, ![8192, 2048]⟩ .f32) (x3 x4 : Vec Ideal ⟨2, ![1, 2048]⟩ .f32)
    (x5 : Vec Ideal ⟨2, ![2048, 2048]⟩ .bf16)
    (h0 : (Cert.Pre_finite11.fn (F := Ideal) x0 x1 x2 x3 x4 x5).1 = fun _ => 1#1)
    (h1 : (Cert.Pre_finite11.fn (F := Ideal) x0 x1 x2 x3 x4 x5).2.1 = fun _ => 1#1)
    (h2 : (Cert.Pre_finite11.fn (F := Ideal) x0 x1 x2 x3 x4 x5).2.2.1 = fun _ => 1#1)
    (h3 : (Cert.Pre_finite11.fn (F := Ideal) x0 x1 x2 x3 x4 x5).2.2.2.1 = fun _ => 1#1)
    (h4 : (Cert.Pre_finite11.fn (F := Ideal) x0 x1 x2 x3 x4 x5).2.2.2.2 = fun _ => 1#1) :
    (∀ i, ∃ x : ℝ, x0 i = x) ∧ (∀ i, ∃ x : ℝ, x1 i = x) ∧ (∀ i, ∃ x : ℝ, x2 i = x) ∧ (∀ i, ∃ x : ℝ, x3 i = x)
      ∧ ∀ i, ∃ x : ℝ, x4 i = x := by
  refine ⟨fun i => Finite.real_of_abs _ ?_, fun i => Finite.real_of_abs _ ?_, fun i => Finite.real_of_abs _ ?_,
    fun i => Finite.real_of_abs _ ?_, fun i => Finite.real_of_abs _ ?_⟩
  · exact congrFun h0 i
  · exact congrFun h1 i
  · exact congrFun h2 i
  · exact congrFun h3 i
  · exact congrFun h4 i

/-- A reading of a matrix of real numbers is a real number. -/
theorem real_rd {a b : ℕ} (A : (⟨2, ![a, b]⟩ : Shape).Idx → EReal) (h : ∀ i, ∃ x : ℝ, A i = x) (r q : ℕ) :
    ∃ x : ℝ, rd A r q = x := by
  unfold rd
  split
  · exact h _
  · exact ⟨0, rfl⟩

variable (x0 x1 x2 : S8192x2048.Idx → EReal) (x3 x4 : S1x2048.Idx → EReal) (x5 : S2048x2048.Idx → EReal)

/-- The chain rule's gradient at the residual sum, of one row and column. -/
def chn (r : ℕ) (q : Fin 2048) : EReal :=
  LnRow.chain (fun k => res x1 x2 x3 r k.val) (fun k => up x0 x4 r k.val) q

/-- On real numbers the closed form is the chain rule's gradient. -/
theorem dres_eq (h0 : ∀ i, ∃ x : ℝ, x0 i = x) (h1 : ∀ i, ∃ x : ℝ, x1 i = x) (h2 : ∀ i, ∃ x : ℝ, x2 i = x)
    (h3 : ∀ i, ∃ x : ℝ, x3 i = x) (h4 : ∀ i, ∃ x : ℝ, x4 i = x) (r : ℕ) (q : Fin 2048) :
    dres x0 x1 x2 x3 x4 r q.val = chn x0 x1 x2 x3 x4 r q := by
  refine (rfl : _ = LnRow.closed (fun k => res x1 x2 x3 r k.val) (fun k => up x0 x4 r k.val) q).trans
    (LnRow.closed_eq_chain _ _ (fun k => ?_) (fun k => ?_) q)
  · obtain ⟨a, ha⟩ := LnRow.A_eq
    obtain ⟨x, hx⟩ := real_rd x1 h1 r k.val
    obtain ⟨y, hy⟩ := real_rd x2 h2 r k.val
    obtain ⟨g, hg⟩ := real_rd x3 h3 0 k.val
    refine ⟨a * x + (1 + g) * y, ?_⟩
    simp only [res, ha, hx, hy, hg]
    norm_cast
  · obtain ⟨x, hx⟩ := real_rd x0 h0 r k.val
    obtain ⟨y, hy⟩ := real_rd x4 h4 0 k.val
    refine ⟨x * y, ?_⟩
    simp only [up, hx, hy]
    norm_cast

/-! ## The reference's stages -/

/-- The reference's residual sum. -/
theorem ref7 (i : S8192x2048.Idx) : val_main_v7 (F := Ideal) x1 x2 x3 i = res x1 x2 x3 (i 0).val (i 1).val := by
  rw [val_main_v7_apply, val_main_v6_apply, val_main_v5_apply, val_main_v4_apply, val_main_v3_apply, val_main_cst_1_apply,
    val_main_v2_apply, val_main_v1_apply, val_main_cst_0_apply, rd_at x1 i _ _ rfl rfl, rd_at x2 i _ _ rfl rfl,
    rd_at x3 _ 0 (i 1).val rfl rfl]
  pointwise [res]

/-- The reference's centred residual sum. -/
theorem ref13 (i : S8192x2048.Idx) : val_main_v13 (F := Ideal) x1 x2 x3 i = cen x1 x2 x3 (i 0).val (i 1).val := by
  rw [val_main_v13_apply, val_main_v12_apply, val_main_v11_apply, val_main_v10_apply, val_main_cst_3_apply, val_main_v9_apply,
    val_main_v8_apply, val_main_cst_2_apply]
  pointwise [cen]
  simp only [ref7]

/-- The same, of its second appearance. -/
theorem ref22 (i : S8192x2048.Idx) : val_main_v22 (F := Ideal) x1 x2 x3 i = cen x1 x2 x3 (i 0).val (i 1).val :=
  ref13 x1 x2 x3 i

/-- The reference's variance with the small number added. -/
theorem ref24 (i : Cert.Reference11Ideal.S8192x1.Idx) :
    val_main_v24 (F := Ideal) x1 x2 x3 i = LnRow.var (fun k => res x1 x2 x3 (i 0).val k.val) := by
  rw [val_main_v24_apply, val_main_v23_apply, val_main_cst_7_apply, val_main_v20_apply, val_main_v19_apply, val_main_cst_6_apply,
    val_main_v18_apply, val_main_v17_apply, val_main_cst_5_apply]
  pointwise [LnRow.var]
  simp only [val_main_v14_apply, ref13]
  rfl

/-- The reference's reciprocal standard deviation. -/
theorem ref25 (i : Cert.Reference11Ideal.S8192x1.Idx) :
    val_main_v25 (F := Ideal) x1 x2 x3 i = rstd x1 x2 x3 (i 0).val := by
  rw [val_main_v25_apply, ref24]
  rfl

/-- The reference's normalised rows. -/
theorem ref30 (i : S8192x2048.Idx) : val_main_v30 (F := Ideal) x1 x2 x3 i = xhat x1 x2 x3 (i 0).val (i 1).val := by
  rw [val_main_v30_apply, val_main_v29_apply, ref22, ref25]
  rfl

/-- The gradient at the layer's result, read as given. -/
theorem ref35 (i : S8192x2048.Idx) : val_main_v35 (F := Ideal) x0 i = rd x0 (i 0).val (i 1).val := by
  rw [val_main_v35_apply]
  have h0 : (i 0).val < 8192 := (i 0).isLt
  have h1 : (i 1).val < 2048 := (i 1).isLt
  refine rd_at x0 _ _ _ ?_ ?_
  · show ((i 0).val * 2048 + (i 1).val) / 2048 = (i 0).val
    omega
  · show ((i 0).val * 2048 + (i 1).val) % 2048 = (i 1).val
    omega

/-- The gradient at the normalised rows. -/
theorem ref42 (i : S8192x2048.Idx) : val_main_v42 (F := Ideal) x0 x4 i = up x0 x4 (i 0).val (i 1).val := by
  rw [val_main_v42_apply, ref35, val_main_v41_apply, rd_at x4 _ 0 (i 1).val rfl rfl]
  rfl

/-- The direct part of the gradient. -/
theorem ref47 (i : S8192x2048.Idx) :
    val_main_v47 (F := Ideal) x0 x1 x2 x3 x4 i = up x0 x4 (i 0).val (i 1).val * rstd x1 x2 x3 (i 0).val := by
  rw [val_main_v47_apply, val_main_v46_apply, ref42, ref25]
  rfl

/-- What goes back through the root and the mean square, by row. -/
theorem ref53 (i : Cert.Reference11Ideal.S8192x1.Idx) :
    val_main_v53 (F := Ideal) x0 x1 x2 x3 x4 i
      = LnRow.back (fun k => res x1 x2 x3 (i 0).val k.val) (fun k => up x0 x4 (i 0).val k.val) := by
  rw [val_main_v53_apply, val_main_v52_apply, val_main_cst_13_apply, val_main_v48_apply, val_main_v45_apply, val_main_v44_apply,
    val_main_cst_11_apply, val_main_v28_apply, val_main_v27_apply, val_main_cst_8_apply, val_main_v26_apply, ref25, ref24]
  pointwise [LnRow.back]
  have h : (i 1).val = 0 := by have := (i 1).isLt; change (i 1).val < 1 at this; omega
  simp only [val_main_v43_apply, ref22, ref42, h, Nat.mul_one, Nat.add_zero]
  rfl

/-- The same, spread over the row's columns and through the square. -/
theorem ref56 (i : S8192x2048.Idx) :
    val_main_v56 (F := Ideal) x0 x1 x2 x3 x4 i
      = LnRow.back (fun k => res x1 x2 x3 (i 0).val k.val) (fun k => up x0 x4 (i 0).val k.val)
        * (Ideal.ofBits FTy.f32 1073741824#32 * cen x1 x2 x3 (i 0).val (i 1).val) := by
  rw [val_main_v56_apply, val_main_v55_apply, val_main_v54_apply, val_main_cst_14_apply, val_main_v16_apply, val_main_v15_apply,
    val_main_cst_4_apply, ref13, Fin.sum_univ_one, ref53]
  pointwise []

/-- The reference's gradient at the residual sum is the chain rule's. -/
theorem ref66 (i : S8192x2048.Idx) :
    val_main_v66 (F := Ideal) x0 x1 x2 x3 x4 i = chn x0 x1 x2 x3 x4 (i 0).val ⟨(i 1).val, (i 1).isLt⟩ := by
  rw [val_main_v66_apply, val_main_v65_apply, val_main_v64_apply, val_main_cst_17_apply, Fin.sum_univ_one, val_main_v63_apply,
    val_main_v62_apply, val_main_cst_16_apply, val_main_v61_apply, val_main_v51_apply, val_main_v50_apply, val_main_cst_12_apply,
    val_main_v59_apply, val_main_v58_apply, val_main_cst_15_apply, val_main_v60_apply, ref47, ref56]
  pointwise [chn, LnRow.chain]
  simp only [val_main_v49_apply, val_main_v57_apply, ref47, ref56, Fin.val_zero, Nat.mul_one, Nat.add_zero]
  rfl

/-- The column of a summand is the result's. -/
theorem col36 (i : S1x2048.Idx) (k : Fin 8192) : (idx_main_v36 (idx_main_v37 i) k 1).val = (i 1).val := by
  have h : (i 0).val = 0 := by have := (i 0).isLt; change (i 0).val < 1 at this; omega
  show (i 0).val * 2048 + (i 1).val = (i 1).val
  omega

/-- The column of a summand is the result's. -/
theorem col39 (i : S1x2048.Idx) (k : Fin 8192) : (idx_main_v39 (idx_main_v40 i) k 1).val = (i 1).val := by
  have h : (i 0).val = 0 := by have := (i 0).isLt; change (i 0).val < 1 at this; omega
  show (i 0).val * 2048 + (i 1).val = (i 1).val
  omega

/-- The column of a summand is the result's. -/
theorem col70 (i : S1x2048.Idx) (k : Fin 8192) : (idx_main_v70 (idx_main_v71 i) k 1).val = (i 1).val := by
  have h : (i 0).val = 0 := by have := (i 0).isLt; change (i 0).val < 1 at this; omega
  show (i 0).val * 2048 + (i 1).val = (i 1).val
  omega

section Real
variable (h0 : ∀ i, ∃ x : ℝ, x0 i = x) (h1 : ∀ i, ∃ x : ℝ, x1 i = x) (h2 : ∀ i, ∃ x : ℝ, x2 i = x)
  (h3 : ∀ i, ∃ x : ℝ, x3 i = x) (h4 : ∀ i, ∃ x : ℝ, x4 i = x)
include h0 h1 h2 h3 h4

/-- On real numbers the reference's gradient at the residual sum is the closed form. -/
theorem refRes (i : S8192x2048.Idx) :
    val_main_v66 (F := Ideal) x0 x1 x2 x3 x4 i = dres x0 x1 x2 x3 x4 (i 0).val (i 1).val := by
  rw [ref66, ← dres_eq x0 x1 x2 x3 x4 h0 h1 h2 h3 h4]

/-- The reference's gradient at the projection. -/
theorem ref74 (i : S8192x2048.Idx) :
    val_main_v74 (F := Ideal) x0 x1 x2 x3 x4 i = dy x0 x1 x2 x3 x4 (i 0).val (i 1).val := by
  rw [val_main_v74_apply, val_main_v68_apply, val_main_v67_apply, val_main_v4_apply, val_main_v3_apply, val_main_cst_1_apply,
    refRes x0 x1 x2 x3 x4 h0 h1 h2 h3 h4, rd_at x3 _ 0 (i 1).val rfl rfl]
  pointwise [dy]

/-- The reference's gradient at the layer input. -/
theorem ref73 (i : S8192x2048.Idx) :
    val_main_v73 (F := Ideal) x0 x1 x2 x3 x4 i = dx x0 x1 x2 x3 x4 (i 0).val (i 1).val := by
  rw [val_main_v73_apply, val_main_v72_apply, val_main_cst_19_apply, refRes x0 x1 x2 x3 x4 h0 h1 h2 h3 h4]
  rfl

/-- The reference's gradient of the gate. -/
theorem ref71 (i : S1x2048.Idx) :
    val_main_v71 (F := Ideal) x0 x1 x2 x3 x4 i
      = ∑ q : Fin 8192, dres x0 x1 x2 x3 x4 q.val (i 1).val * rd x2 q.val (i 1).val := by
  rw [val_main_v71_apply, val_main_v70_apply, val_main_cst_18_apply]
  pointwise []
  refine Finset.sum_congr rfl fun k _ => ?_
  rw [val_main_v69_apply, refRes x0 x1 x2 x3 x4 h0 h1 h2 h3 h4, rd_at x2 _ k.val (i 1).val rfl (col70 i k), col70 i k]
  rfl

/-- The reference's gradient at the mixers' outputs. -/
theorem ref79 (i : S8192x2048.Idx) :
    val_main_v79 (F := Ideal) x0 x1 x2 x3 x4 x5 i = dyc x0 x1 x2 x3 x4 x5 (i 0).val (i 1).val := by
  rw [val_main_v79_apply]
  refine Finset.sum_congr rfl fun k _ => ?_
  rw [val_main_v78_apply, ref74 x0 x1 x2 x3 x4 h0 h1 h2 h3 h4, val_main_v75_apply]
  exact congrArg₂ (· * ·) rfl (rd_at x5 _ _ _ rfl rfl)

end Real

/-- The reference's gradient of the layer norm's shift. -/
theorem ref37 (i : S1x2048.Idx) : val_main_v37 (F := Ideal) x0 i = ∑ q : Fin 8192, rd x0 q.val (i 1).val := by
  rw [val_main_v37_apply, val_main_v36_apply, val_main_cst_9_apply]
  pointwise []
  refine Finset.sum_congr rfl fun k _ => ?_
  exact rd_at x0 _ _ _ rfl (col36 i k)

/-- The reference's gradient of the layer norm's scale. -/
theorem ref40 (i : S1x2048.Idx) :
    val_main_v40 (F := Ideal) x0 x1 x2 x3 i
      = ∑ q : Fin 8192, rd x0 q.val (i 1).val * xhat x1 x2 x3 q.val (i 1).val := by
  rw [val_main_v40_apply, val_main_v39_apply, val_main_cst_10_apply]
  pointwise []
  refine Finset.sum_congr rfl fun k _ => ?_
  rw [val_main_v38_apply, ref30, ref35]
  rw [col39 i k]
  exact mul_comm _ _

/-- On finite arguments the kernel and the reference end with equal gradients. -/
theorem algebraic [Cert.Pre_finite11.Facts] : Cert.algebraic_Kernel11Ideal_Reference11Ideal_pre_finite11 :=
    fun m ρ m' ρ' pre hag => by
  refine ⟨fun c => G7 m c, fun c => G8 m c, fun c => G9 m c, fun c => G10 m c, fun c => G11 m c, fun c => G12 m c,
    (θ_run _ _ _).mono (fun _ h c => ⟨(h c).1.trans (final7 m c), (h c).2.1.trans (final8 m c), (h c).2.2.1.trans (final9 m c),
      (h c).2.2.2.1.trans (final10 m c), (h c).2.2.2.2.1.trans (final11 m c), (h c).2.2.2.2.2.1.trans (final12 m c),
      (h c).2.2.2.2.2.2⟩) (Cert.Kernel11Ideal.Value.run_blocks m ρ),
    (θ_run _ _ _).mono (fun _ h c => ?_) (Cert.Reference11Ideal.Value.run m' ρ')⟩
  obtain ⟨h0, h1, h2, h3, h4⟩ := real_of_pre _ _ _ _ _ _ (pre c).1 (pre c).2.1 (pre c).2.2.1 (pre c).2.2.2.1 (pre c).2.2.2.2
  refine ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩
  · rw [val_main_v74_eq, (hag c).1, (hag c).2.1, (hag c).2.2.1, (hag c).2.2.2.1, (hag c).2.2.2.2.1]
    exact funext fun i => ref74 _ _ _ _ _ h0 h1 h2 h3 h4 i
  · rw [val_main_v73_eq, (hag c).1, (hag c).2.1, (hag c).2.2.1, (hag c).2.2.2.1, (hag c).2.2.2.2.1]
    exact funext fun i => ref73 _ _ _ _ _ h0 h1 h2 h3 h4 i
  · rw [val_main_v40_eq, (hag c).1, (hag c).2.1, (hag c).2.2.1, (hag c).2.2.2.1]
    exact funext fun i => ref40 _ _ _ _ i
  · rw [val_main_v37_eq, (hag c).1]
    exact funext fun i => ref37 _ i
  · rw [val_main_v71_eq, (hag c).1, (hag c).2.1, (hag c).2.2.1, (hag c).2.2.2.1, (hag c).2.2.2.2.1]
    exact funext fun i => ref71 _ _ _ _ _ h0 h1 h2 h3 h4 i
  · rw [val_main_v79_eq, (hag c).1, (hag c).2.1, (hag c).2.2.1, (hag c).2.2.2.1, (hag c).2.2.2.2.1, (hag c).2.2.2.2.2]
    exact funext fun i => ref79 _ _ _ _ _ _ h0 h1 h2 h3 h4 i

end Cert.LnBwd
end
-- ==== Proof.LnLoss.lean ====
module

public import proofs.«01_k».proof.Proof.Gen.Kernel12Ideal.Value
public import proofs.«01_k».proof.Proof.Common
public import proofs.«01_k».proof.Proof.LnRow
public import proofs.«01_k».proof.Proof.Finite
public import proofs.«01_k».proof.Defs
public import Idealize.ShloMosaic.Lib.Pointwise

/-! The output projection with the layer norm, the loss and their gradient: six results, four of them sums over blocks of rows. -/

@[expose] public section

set_option maxRecDepth 16384

noncomputable section

namespace Cert.LnLoss

open Cert.Kernel12Ideal Cert.Kernel12Ideal.Gen Cert.Rd
open Idealize.ShloMosaic Idealize.ShloMosaic.TcCoe Idealize.SL.Sem

/-! ## The mathematics, row by row -/

section Row
variable (C : S8192x2048.Idx → EReal) (w : S2048x2048.Idx → EReal) (x : S8192x2048.Idx → EReal) (g : S1x2048.Idx → EReal)

/-- The output projection at row `r` and column `q`. -/
def proj (r q : ℕ) : EReal := ∑ k : Fin 2048, rd C r k.val * rd w k.val q

/-- The residual sum: the scaled layer input and the gated projection. -/
def res (r q : ℕ) : EReal := Ideal.ofBits FTy.f32 1068827891#32 * rd x r q + (1 + rd g 0 q) * proj C w r q

/-- The residual sum less the mean of its row. -/
def cen (r q : ℕ) : EReal :=
  res C w x g r q - Ideal.div (∑ k : Fin 2048, res C w x g r k.val) (Ideal.ofBits FTy.f32 1157627904#32)

/-- The reciprocal of a row's standard deviation. -/
def rstd (r : ℕ) : EReal :=
  Ideal.rsqrt (Ideal.div (∑ k : Fin 2048, cen C w x g r k.val * cen C w x g r k.val) (Ideal.ofBits FTy.f32 1157627904#32)
    + Ideal.ofBits FTy.f32 925353388#32)

/-- The normalised row. -/
def xhat (r q : ℕ) : EReal := cen C w x g r q * rstd C w x g r

variable (lg lb : S1x2048.Idx → EReal) (T : S8192x2048.Idx → EReal)

/-- The next layer's input less the target. -/
def err (r q : ℕ) : EReal := xhat C w x g r q * rd lg 0 q + rd lb 0 q - rd T r q

/-- The loss's gradient at the next layer's input: the error over the row's length. -/
def gx (r q : ℕ) : EReal := err C w x g lg lb T r q * Ideal.ofBits FTy.f32 973078528#32

/-- The gradient at the normalised row. -/
def up (r q : ℕ) : EReal := gx C w x g lg lb T r q * rd lg 0 q

/-- The gradient at the residual sum, in closed form. -/
def dres (r q : ℕ) : EReal :=
  rstd C w x g r * ((up C w x g lg lb T r q
      - Ideal.div (∑ k : Fin 2048, up C w x g lg lb T r k.val) (Ideal.ofBits FTy.f32 1157627904#32))
    - xhat C w x g r q * Ideal.div (∑ k : Fin 2048, up C w x g lg lb T r k.val * xhat C w x g r k.val)
        (Ideal.ofBits FTy.f32 1157627904#32))

/-- The gradient at the projection. -/
def dy (r q : ℕ) : EReal := (1 + rd g 0 q) * dres C w x g lg lb T r q

/-- The gradient at the layer input, through the residual. -/
def dx (r q : ℕ) : EReal := Ideal.ofBits FTy.f32 1068827891#32 * dres C w x g lg lb T r q

end Row

/-! ## The kernel's blocks -/

variable (m : (ℓ : Loc nD τ sig) → Buf (Elt Ideal) ℓ)

/-- The mixers' outputs. -/
abbrev Y (c : Dev nD) : S8192x2048.Idx → EReal := m ((c : Thread nD τ).loc main_arg0)
/-- The projection's weight. -/
abbrev W (c : Dev nD) : S2048x2048.Idx → EReal := m ((c : Thread nD τ).loc main_arg1)
/-- The layer's input. -/
abbrev X (c : Dev nD) : S8192x2048.Idx → EReal := m ((c : Thread nD τ).loc main_arg2)
/-- The residual's gate. -/
abbrev Gt (c : Dev nD) : S1x2048.Idx → EReal := m ((c : Thread nD τ).loc main_arg3)
/-- The layer norm's scale. -/
abbrev Lg (c : Dev nD) : S1x2048.Idx → EReal := m ((c : Thread nD τ).loc main_arg4)
/-- The layer norm's shift. -/
abbrev Lb (c : Dev nD) : S1x2048.Idx → EReal := m ((c : Thread nD τ).loc main_arg5)
/-- The target. -/
abbrev Tg (c : Dev nD) : S8192x2048.Idx → EReal := m ((c : Thread nD τ).loc main_arg6)

/-- The block indices of the windows at grid point `t`. -/
theorem idx : ∀ t : Fin grid0.N,
    win0_0.index t = ![t.val, 0]
      ∧ win0_1.index t = ![0, 0]
      ∧ win0_2.index t = ![t.val, 0]
      ∧ win0_3.index t = ![0, 0]
      ∧ win0_4.index t = ![0, 0]
      ∧ win0_5.index t = ![0, 0]
      ∧ win0_6.index t = ![t.val, 0]
      ∧ win0_7.index t = ![0, 0]
      ∧ win0_8.index t = ![t.val, 0]
      ∧ win0_9.index t = ![t.val, 0]
      ∧ win0_10.index t = ![0, 0]
      ∧ win0_11.index t = ![0, 0]
      ∧ win0_12.index t = ![0, 0] := by
  decide +kernel

/-- A point's block of the argument: the mixers' outputs. -/
theorem blk0 (c : Dev nD) (t : Fin cfg0.N) (y : S256x2048.Idx) :
    (iblk m c 0 t : S256x2048.Idx → EReal) y = rd (Y m c) (256 * t.val + (y 0).val) (y 1).val := by
  have e := idx t
  refine (rfl : _ = Y m c (((cfg0.win 0).blk t).view.emb y)).trans (rd_at _ _ _ _ ?_ ?_) <;> blk_simp [e.1] <;> omega

/-- A point's block of the argument: the projection's weight. -/
theorem blk1 (c : Dev nD) (t : Fin cfg0.N) (y : S2048x2048.Idx) :
    (iblk m c 1 t : S2048x2048.Idx → EReal) y = rd (W m c) ((y 0).val) (y 1).val := by
  have e := idx t
  refine (rfl : _ = W m c (((cfg0.win 1).blk t).view.emb y)).trans (rd_at _ _ _ _ ?_ ?_) <;> blk_simp [e.2.1] <;> omega

/-- A point's block of the argument: the layer's input. -/
theorem blk2 (c : Dev nD) (t : Fin cfg0.N) (y : S256x2048.Idx) :
    (iblk m c 2 t : S256x2048.Idx → EReal) y = rd (X m c) (256 * t.val + (y 0).val) (y 1).val := by
  have e := idx t
  refine (rfl : _ = X m c (((cfg0.win 2).blk t).view.emb y)).trans (rd_at _ _ _ _ ?_ ?_) <;> blk_simp [e.2.2.1] <;> omega

/-- A point's block of the argument: the residual's gate. -/
theorem blk3 (c : Dev nD) (t : Fin cfg0.N) (y : S1x2048.Idx) :
    (iblk m c 3 t : S1x2048.Idx → EReal) y = rd (Gt m c) ((y 0).val) (y 1).val := by
  have e := idx t
  refine (rfl : _ = Gt m c (((cfg0.win 3).blk t).view.emb y)).trans (rd_at _ _ _ _ ?_ ?_) <;> blk_simp [e.2.2.2.1] <;> omega

/-- A point's block of the argument: the layer norm's scale. -/
theorem blk4 (c : Dev nD) (t : Fin cfg0.N) (y : S1x2048.Idx) :
    (iblk m c 4 t : S1x2048.Idx → EReal) y = rd (Lg m c) ((y 0).val) (y 1).val := by
  have e := idx t
  refine (rfl : _ = Lg m c (((cfg0.win 4).blk t).view.emb y)).trans (rd_at _ _ _ _ ?_ ?_) <;> blk_simp [e.2.2.2.2.1] <;> omega

/-- A point's block of the argument: the layer norm's shift. -/
theorem blk5 (c : Dev nD) (t : Fin cfg0.N) (y : S1x2048.Idx) :
    (iblk m c 5 t : S1x2048.Idx → EReal) y = rd (Lb m c) ((y 0).val) (y 1).val := by
  have e := idx t
  refine (rfl : _ = Lb m c (((cfg0.win 5).blk t).view.emb y)).trans (rd_at _ _ _ _ ?_ ?_) <;> blk_simp [e.2.2.2.2.2.1] <;> omega

/-- A point's block of the argument: the target. -/
theorem blk6 (c : Dev nD) (t : Fin cfg0.N) (y : S256x2048.Idx) :
    (iblk m c 6 t : S256x2048.Idx → EReal) y = rd (Tg m c) (256 * t.val + (y 0).val) (y 1).val := by
  have e := idx t
  refine (rfl : _ = Tg m c (((cfg0.win 6).blk t).view.emb y)).trans (rd_at _ _ _ _ ?_ ?_) <;> blk_simp [e.2.2.2.2.2.2.1] <;> omega

section Block
variable (c : Dev nD) (t : Fin cfg0.N)

/-- A point's block of the projection. -/
def q5 : S256x2048.Idx → EReal := k0_pay10 (F := Ideal) (iblk m c 0 t) (iblk m c 1 t)

/-- A point's block of the centred residual sum. -/
def q20 : S256x2048.Idx → EReal := k0_pay11 (F := Ideal) (iblk m c 0 t) (iblk m c 1 t) (iblk m c 2 t) (iblk m c 3 t)

/-- A point's block of the reciprocal deviations. -/
def q28 : S256x1.Idx → EReal := k0_pay12 (F := Ideal) (iblk m c 0 t) (iblk m c 1 t) (iblk m c 2 t) (iblk m c 3 t)

/-- A point's block of the normalised rows. -/
def q30 : S256x2048.Idx → EReal := k0_pay13 (F := Ideal) (iblk m c 0 t) (iblk m c 1 t) (iblk m c 2 t) (iblk m c 3 t)

/-- A point's block of the scaled rows. -/
def q33 : S256x2048.Idx → EReal := k0_pay14 (F := Ideal) (iblk m c 0 t) (iblk m c 1 t) (iblk m c 2 t) (iblk m c 3 t) (iblk m c 4 t)

/-- A point's block of the shift. -/
def q35 : S256x2048.Idx → EReal := k0_pay15 (F := Ideal) (iblk m c 5 t)

/-- A point's block of the error. -/
def q38 : S256x2048.Idx → EReal := k0_pay16 (F := Ideal) (q33 m c t) (q35 m c t) (iblk m c 6 t)

/-- A point's block of the gradient at the next layer's input. -/
def q52 : S256x2048.Idx → EReal := k0_pay18 (F := Ideal) (q33 m c t) (q35 m c t) (iblk m c 6 t)

/-- A point's block of the gradient at the residual sum. -/
def q71 : S256x2048.Idx → EReal := k0_pay19 (F := Ideal) (q28 m c t) (q30 m c t) (q33 m c t) (q35 m c t) (iblk m c 6 t) (iblk m c 4 t)

/-- A point's block of the gradient at the projection. -/
def q76 : S256x2048.Idx → EReal := k0_pay20 (F := Ideal) (q28 m c t) (q30 m c t) (q33 m c t) (q35 m c t) (iblk m c 6 t) (iblk m c 4 t) (iblk m c 3 t)

/-- The projection's block. -/
theorem q5_eq (y : S256x2048.Idx) : q5 m c t y = proj (Y m c) (W m c) (256 * t.val + (y 0).val) (y 1).val := by
  unfold q5
  pointwise [k0_pay10, proj]
  exact Finset.sum_congr rfl fun k _ => by rw [blk0, blk1]; rfl

/-- The centred residual sum's block. -/
theorem q20_eq (y : S256x2048.Idx) : q20 m c t y = cen (Y m c) (W m c) (X m c) (Gt m c) (256 * t.val + (y 0).val) (y 1).val := by
  have h := q5_eq m c t
  have b2 := blk2 m c t
  have b3 := blk3 m c t
  unfold q20 k0_pay11
  unfold q5 at h
  generalize k0_pay10 (F := Ideal) (iblk m c 0 t) (iblk m c 1 t) = p at h ⊢
  generalize (iblk m c 2 t : S256x2048.Idx → EReal) = x2 at b2 ⊢
  generalize (iblk m c 3 t : S1x2048.Idx → EReal) = x3 at b3 ⊢
  pointwise [cen, res]
  simp only [h, b2, b3]
  rfl

/-- The reciprocal deviations' block. -/
theorem q28_eq (y : S256x1.Idx) : q28 m c t y = rstd (Y m c) (W m c) (X m c) (Gt m c) (256 * t.val + (y 0).val) := by
  have h := q20_eq m c t
  unfold q28 k0_pay12
  unfold q20 at h
  generalize k0_pay11 (F := Ideal) (iblk m c 0 t) (iblk m c 1 t) (iblk m c 2 t) (iblk m c 3 t) = p at h ⊢
  pointwise [rstd]
  simp only [h]
  rfl

/-- The normalised rows' block. -/
theorem q30_eq (y : S256x2048.Idx) : q30 m c t y = xhat (Y m c) (W m c) (X m c) (Gt m c) (256 * t.val + (y 0).val) (y 1).val := by
  have h := q20_eq m c t
  have h' := q28_eq m c t
  unfold q30 k0_pay13
  unfold q20 at h
  unfold q28 at h'
  generalize k0_pay11 (F := Ideal) (iblk m c 0 t) (iblk m c 1 t) (iblk m c 2 t) (iblk m c 3 t) = p at h ⊢
  generalize k0_pay12 (F := Ideal) (iblk m c 0 t) (iblk m c 1 t) (iblk m c 2 t) (iblk m c 3 t) = q at h' ⊢
  pointwise [xhat]
  rw [h, h']
  rfl

/-- The scaled rows' block. -/
theorem q33_eq (y : S256x2048.Idx) :
    q33 m c t y = xhat (Y m c) (W m c) (X m c) (Gt m c) (256 * t.val + (y 0).val) (y 1).val * rd (Lg m c) 0 (y 1).val := by
  have h := q30_eq m c t
  have b4 := blk4 m c t
  unfold q33 k0_pay14
  unfold q30 at h
  generalize k0_pay13 (F := Ideal) (iblk m c 0 t) (iblk m c 1 t) (iblk m c 2 t) (iblk m c 3 t) = p at h ⊢
  generalize (iblk m c 4 t : S1x2048.Idx → EReal) = x4 at b4 ⊢
  pointwise []
  simp only [h, b4]
  rfl

/-- The shift's block. -/
theorem q35_eq (y : S256x2048.Idx) : q35 m c t y = rd (Lb m c) 0 (y 1).val := by
  have b5 := blk5 m c t
  unfold q35 k0_pay15
  generalize (iblk m c 5 t : S1x2048.Idx → EReal) = x5 at b5 ⊢
  pointwise []
  simp only [b5]
  rfl

/-- The error's block. -/
theorem q38_eq (y : S256x2048.Idx) :
    q38 m c t y
      = err (Y m c) (W m c) (X m c) (Gt m c) (Lg m c) (Lb m c) (Tg m c) (256 * t.val + (y 0).val) (y 1).val := by
  have hq33 := q33_eq m c t
  have hq35 := q35_eq m c t
  have b6 := blk6 m c t
  unfold q38 k0_pay16
  generalize q33 m c t = pq33 at hq33 ⊢
  generalize q35 m c t = pq35 at hq35 ⊢
  generalize (iblk m c 6 t : S256x2048.Idx → EReal) = x6 at b6 ⊢
  pointwise [err]
  simp only [hq33, hq35, b6]

/-- The block of the gradient at the next layer's input. -/
theorem q52_eq (y : S256x2048.Idx) : q52 m c t y = gx (Y m c) (W m c) (X m c) (Gt m c) (Lg m c) (Lb m c) (Tg m c) (256 * t.val + (y 0).val) (y 1).val := by
  have h := q38_eq m c t
  unfold q52 k0_pay18
  unfold q38 at h
  generalize k0_pay16 (F := Ideal) (q33 m c t) (q35 m c t) (iblk m c 6 t) = p at h ⊢
  pointwise [gx]
  simp only [h]

/-- The block of the gradient at the residual sum. -/
theorem q71_eq (y : S256x2048.Idx) : q71 m c t y = dres (Y m c) (W m c) (X m c) (Gt m c) (Lg m c) (Lb m c) (Tg m c) (256 * t.val + (y 0).val) (y 1).val := by
  have h := q52_eq m c t
  have h1 := q28_eq m c t
  have h2 := q30_eq m c t
  have b4 := blk4 m c t
  unfold q71 k0_pay19
  unfold q52 at h
  generalize k0_pay18 (F := Ideal) (q33 m c t) (q35 m c t) (iblk m c 6 t) = p at h ⊢
  generalize q28 m c t = p1 at h1 ⊢
  generalize q30 m c t = p2 at h2 ⊢
  generalize (iblk m c 4 t : S1x2048.Idx → EReal) = x4 at b4 ⊢
  pointwise [dres, up]
  simp only [h, h1, h2, b4]
  rfl

/-- The block of the gradient at the projection. -/
theorem q76_eq (y : S256x2048.Idx) : q76 m c t y = dy (Y m c) (W m c) (X m c) (Gt m c) (Lg m c) (Lb m c) (Tg m c) (256 * t.val + (y 0).val) (y 1).val := by
  have h := q71_eq m c t
  have b3 := blk3 m c t
  unfold q76 k0_pay20
  unfold q71 at h
  generalize k0_pay19 (F := Ideal) (q28 m c t) (q30 m c t) (q33 m c t) (q35 m c t) (iblk m c 6 t) (iblk m c 4 t) = p at h ⊢
  generalize (iblk m c 3 t : S1x2048.Idx → EReal) = x3 at b3 ⊢
  pointwise [dy]
  simp only [h, b3]
  rfl

/-- The gradient at the projection, as written. -/
theorem pay1 (y : S256x2048.Idx) : k0_pay1 (F := Ideal) (q76 m c t) y = dy (Y m c) (W m c) (X m c) (Gt m c) (Lg m c) (Lb m c) (Tg m c) (256 * t.val + (y 0).val) (y 1).val := by
  refine Eq.trans ?_ (q76_eq m c t y)
  pointwise [k0_pay1]

/-- The gradient at the layer input, as written. -/
theorem pay2 (y : S256x2048.Idx) : k0_pay2 (F := Ideal) (q71 m c t) y = dx (Y m c) (W m c) (X m c) (Gt m c) (Lg m c) (Lb m c) (Tg m c) (256 * t.val + (y 0).val) (y 1).val := by
  have h := q71_eq m c t
  unfold k0_pay2
  generalize q71 m c t = p at h ⊢
  pointwise [dx]
  rw [h]

/-- What a point adds to the loss: its rows' squared errors, over twice the row's length. -/
def term7 (t : ℕ) (_ : S1x1.Idx) : EReal :=
  Ideal.ofBits FTy.f32 964689920#32 * ∑ l : Fin 256, ∑ k : Fin 2048,
    err (Y m c) (W m c) (X m c) (Gt m c) (Lg m c) (Lb m c) (Tg m c) (256 * t + l.val) k.val * err (Y m c) (W m c) (X m c) (Gt m c) (Lg m c) (Lb m c) (Tg m c) (256 * t + l.val) k.val

/-- The loss with one more block of rows. -/
theorem pay17 (a : S1x1.Idx → EReal) (j : S1x1.Idx) :
    k0_pay17 (F := Ideal) (q33 m c t) (q35 m c t) (iblk m c 6 t) a j = a j + term7 m c t.val j := by
  have h := q38_eq m c t
  unfold k0_pay17
  unfold q38 at h
  generalize k0_pay16 (F := Ideal) (q33 m c t) (q35 m c t) (iblk m c 6 t) = p at h ⊢
  pointwise [term7]
  simp only [h]
  rfl

/-- What a point adds to the gradient of the layer norm's scale. -/
def term10 (t : ℕ) (j : S1x2048.Idx) : EReal :=
  ∑ l : Fin 256, gx (Y m c) (W m c) (X m c) (Gt m c) (Lg m c) (Lb m c) (Tg m c) (256 * t + l.val) (j 1).val * xhat (Y m c) (W m c) (X m c) (Gt m c) (256 * t + l.val) (j 1).val

/-- With one more block of rows: the gradient of the layer norm's scale. -/
theorem pay3 (a : S1x2048.Idx → EReal) (j : S1x2048.Idx) :
    k0_pay3 (F := Ideal) (q30 m c t) (q52 m c t) a j = a j + term10 m c t.val j := by
  have hq30 := q30_eq m c t
  have hq52 := q52_eq m c t
  unfold k0_pay3
  generalize q30 m c t = pq30 at hq30 ⊢
  generalize q52 m c t = pq52 at hq52 ⊢
  pointwise [term10]
  simp only [hq30, hq52]
  rfl

/-- What a point adds to the gradient of the layer norm's shift. -/
def term11 (t : ℕ) (j : S1x2048.Idx) : EReal :=
  ∑ l : Fin 256, gx (Y m c) (W m c) (X m c) (Gt m c) (Lg m c) (Lb m c) (Tg m c) (256 * t + l.val) (j 1).val

/-- With one more block of rows: the gradient of the layer norm's shift. -/
theorem pay4 (a : S1x2048.Idx → EReal) (j : S1x2048.Idx) :
    k0_pay4 (F := Ideal) (q52 m c t) a j = a j + term11 m c t.val j := by
  have hq52 := q52_eq m c t
  unfold k0_pay4
  generalize q52 m c t = pq52 at hq52 ⊢
  pointwise [term11]
  simp only [hq52]
  rfl

/-- What a point adds to the gradient of the gate. -/
def term12 (t : ℕ) (j : S1x2048.Idx) : EReal :=
  ∑ l : Fin 256, dres (Y m c) (W m c) (X m c) (Gt m c) (Lg m c) (Lb m c) (Tg m c) (256 * t + l.val) (j 1).val * proj (Y m c) (W m c) (256 * t + l.val) (j 1).val

/-- With one more block of rows: the gradient of the gate. -/
theorem pay5 (a : S1x2048.Idx → EReal) (j : S1x2048.Idx) :
    k0_pay5 (F := Ideal) (q5 m c t) (q71 m c t) a j = a j + term12 m c t.val j := by
  have hq5 := q5_eq m c t
  have hq71 := q71_eq m c t
  unfold k0_pay5
  generalize q5 m c t = pq5 at hq5 ⊢
  generalize q71 m c t = pq71 at hq71 ⊢
  pointwise [term12]
  simp only [hq5, hq71]
  rfl

end Block

/-! ## What each point leaves in the six buffers -/

/-- A point's block of the gradient at the projection, as left for the write back. -/
theorem out8 (c : Dev nD) (t : Fin cfg0.N) (y : S256x2048.Idx) :
    (outsAt0 m c t.val t.isLt).2.1 y = dy (Y m c) (W m c) (X m c) (Gt m c) (Lg m c) (Lb m c) (Tg m c) (256 * t.val + (y 0).val) (y 1).val := by
  by_cases h : t.val % 32 = 0
  · rw [outsAt0_A m c t h]
    frame_out
    exact pay1 m c t y
  · rw [outsAt0_B m c t h]
    frame_out
    exact pay1 m c t y

/-- A point's block of the gradient at the layer input, as left for the write back. -/
theorem out9 (c : Dev nD) (t : Fin cfg0.N) (y : S256x2048.Idx) :
    (outsAt0 m c t.val t.isLt).2.2.1 y = dx (Y m c) (W m c) (X m c) (Gt m c) (Lg m c) (Lb m c) (Tg m c) (256 * t.val + (y 0).val) (y 1).val := by
  by_cases h : t.val % 32 = 0
  · rw [outsAt0_A m c t h]
    frame_out
    exact pay2 m c t y
  · rw [outsAt0_B m c t h]
    frame_out
    exact pay2 m c t y

/-- The loss after grid point `t`: the blocks of rows so far. -/
theorem acc7 (c : Dev nD) (t : Fin cfg0.N) (j : S1x1.Idx) :
    (outsAt0 m c t.val t.isLt).1 j = 0 + ∑ k ∈ Finset.range (t.val % 32 + 1), term7 m c (32 * (t.val / 32) + k) j := by
  refine Pipeline.eq_sum_of_reset_step_apply (fun n h => (outsAt0 m c n h).1) 32 (fun _ => 0) (term7 m c)
    (fun t h j => ?_) (fun t h j => ?_) t j
  · rw [outsAt0_A m c t h]
    frame_out
    refine (pay17 m c t _ j).trans (congrArg (· + _) ?_)
    pointwise [k0_pay6]
  · rw [outsAt0_B m c t h]
    frame_out
    exact pay17 m c t _ j

/-- The gradient of the layer norm's scale after grid point `t`: the blocks of rows so far. -/
theorem acc10 (c : Dev nD) (t : Fin cfg0.N) (j : S1x2048.Idx) :
    (outsAt0 m c t.val t.isLt).2.2.2.1 j = 0 + ∑ k ∈ Finset.range (t.val % 32 + 1), term10 m c (32 * (t.val / 32) + k) j := by
  refine Pipeline.eq_sum_of_reset_step_apply (fun n h => (outsAt0 m c n h).2.2.2.1) 32 (fun _ => 0) (term10 m c)
    (fun t h j => ?_) (fun t h j => ?_) t j
  · rw [outsAt0_A m c t h]
    frame_out
    refine (pay3 m c t _ j).trans (congrArg (· + _) ?_)
    pointwise [k0_pay7]
  · rw [outsAt0_B m c t h]
    frame_out
    exact pay3 m c t _ j

/-- The gradient of the layer norm's shift after grid point `t`: the blocks of rows so far. -/
theorem acc11 (c : Dev nD) (t : Fin cfg0.N) (j : S1x2048.Idx) :
    (outsAt0 m c t.val t.isLt).2.2.2.2.1 j = 0 + ∑ k ∈ Finset.range (t.val % 32 + 1), term11 m c (32 * (t.val / 32) + k) j := by
  refine Pipeline.eq_sum_of_reset_step_apply (fun n h => (outsAt0 m c n h).2.2.2.2.1) 32 (fun _ => 0) (term11 m c)
    (fun t h j => ?_) (fun t h j => ?_) t j
  · rw [outsAt0_A m c t h]
    frame_out
    refine (pay4 m c t _ j).trans (congrArg (· + _) ?_)
    pointwise [k0_pay8]
  · rw [outsAt0_B m c t h]
    frame_out
    exact pay4 m c t _ j

/-- The gradient of the gate after grid point `t`: the blocks of rows so far. -/
theorem acc12 (c : Dev nD) (t : Fin cfg0.N) (j : S1x2048.Idx) :
    (outsAt0 m c t.val t.isLt).2.2.2.2.2 j = 0 + ∑ k ∈ Finset.range (t.val % 32 + 1), term12 m c (32 * (t.val / 32) + k) j := by
  refine Pipeline.eq_sum_of_reset_step_apply (fun n h => (outsAt0 m c n h).2.2.2.2.2) 32 (fun _ => 0) (term12 m c)
    (fun t h j => ?_) (fun t h j => ?_) t j
  · rw [outsAt0_A m c t h]
    frame_out
    refine (pay5 m c t _ j).trans (congrArg (· + _) ?_)
    pointwise [k0_pay9]
  · rw [outsAt0_B m c t h]
    frame_out
    exact pay5 m c t _ j

/-! ## The result arrays -/

/-- The kernel's result array of the gradient at the projection. -/
def G8 (c : Dev nD) : S8192x2048.Idx → EReal := fun i => dy (Y m c) (W m c) (X m c) (Gt m c) (Lg m c) (Lb m c) (Tg m c) (i 0).val (i 1).val

/-- The points' blocks of the gradient at the projection make up the array. -/
theorem final8 (c : Dev nD) : (dats m 0 c).arrAt 8 cfg0.N = G8 m c := by
  refine (dats m 0 c).arrAt_eq_of_covers 8 _ (by decide +kernel) fun t hf y => ?_
  have e := idx t
  blk_simp
  rw [after0_8]
  refine (out8 m c t y).trans ?_
  have e0 : (((win0_8.blk t).view.emb y) 0).val = 256 * t.val + (y 0).val := by blk_simp [e.2.2.2.2.2.2.2.2.1]; omega
  have e1 : (((win0_8.blk t).view.emb y) 1).val = (y 1).val := by blk_simp [e.2.2.2.2.2.2.2.2.1]
  rw [G8, e0, e1]

/-- The kernel's result array of the gradient at the layer input. -/
def G9 (c : Dev nD) : S8192x2048.Idx → EReal := fun i => dx (Y m c) (W m c) (X m c) (Gt m c) (Lg m c) (Lb m c) (Tg m c) (i 0).val (i 1).val

/-- The points' blocks of the gradient at the layer input make up the array. -/
theorem final9 (c : Dev nD) : (dats m 0 c).arrAt 9 cfg0.N = G9 m c := by
  refine (dats m 0 c).arrAt_eq_of_covers 9 _ (by decide +kernel) fun t hf y => ?_
  have e := idx t
  blk_simp
  rw [after0_9]
  refine (out9 m c t y).trans ?_
  have e0 : (((win0_9.blk t).view.emb y) 0).val = 256 * t.val + (y 0).val := by blk_simp [e.2.2.2.2.2.2.2.2.2.1]; omega
  have e1 : (((win0_9.blk t).view.emb y) 1).val = (y 1).val := by blk_simp [e.2.2.2.2.2.2.2.2.2.1]
  rw [G9, e0, e1]

/-- The kernel's result array of the gradient of the layer norm's scale: a sum over all rows. -/
def G10 (c : Dev nD) : S1x2048.Idx → EReal := fun i => ∑ q : Fin 8192, gx (Y m c) (W m c) (X m c) (Gt m c) (Lg m c) (Lb m c) (Tg m c) q.val (i 1).val * xhat (Y m c) (W m c) (X m c) (Gt m c) q.val (i 1).val

/-- The last point leaves the gradient of the layer norm's scale. -/
theorem final10 (c : Dev nD) : (dats m 0 c).arrAt 10 cfg0.N = G10 m c := by
  refine (dats m 0 c).arrAt_eq_of_covers 10 _ (by decide +kernel) fun t hf y => ?_
  have hr := (flush0_10 t).mp hf
  have ht : t.val / 32 = 0 := Nat.div_eq_of_lt t.isLt
  have e := idx t
  blk_simp
  rw [after0_10]
  refine (acc10 m c t y).trans ?_
  have e1 : (((win0_10.blk t).view.emb y) 1).val = (y 1).val := by blk_simp [e.2.2.2.2.2.2.2.2.2.2.1]
  rw [zero_add, G10, e1, hr, ht]
  refine Eq.trans ?_ (sum_blocks 32 256 fun q => gx (Y m c) (W m c) (X m c) (Gt m c) (Lg m c) (Lb m c) (Tg m c) q (y 1).val * xhat (Y m c) (W m c) (X m c) (Gt m c) q (y 1).val)
  exact Finset.sum_congr rfl fun k _ => by rw [Nat.mul_zero, Nat.zero_add]; rfl

/-- The kernel's result array of the gradient of the layer norm's shift: a sum over all rows. -/
def G11 (c : Dev nD) : S1x2048.Idx → EReal := fun i => ∑ q : Fin 8192, gx (Y m c) (W m c) (X m c) (Gt m c) (Lg m c) (Lb m c) (Tg m c) q.val (i 1).val

/-- The last point leaves the gradient of the layer norm's shift. -/
theorem final11 (c : Dev nD) : (dats m 0 c).arrAt 11 cfg0.N = G11 m c := by
  refine (dats m 0 c).arrAt_eq_of_covers 11 _ (by decide +kernel) fun t hf y => ?_
  have hr := (flush0_11 t).mp hf
  have ht : t.val / 32 = 0 := Nat.div_eq_of_lt t.isLt
  have e := idx t
  blk_simp
  rw [after0_11]
  refine (acc11 m c t y).trans ?_
  have e1 : (((win0_11.blk t).view.emb y) 1).val = (y 1).val := by blk_simp [e.2.2.2.2.2.2.2.2.2.2.2.1]
  rw [zero_add, G11, e1, hr, ht]
  refine Eq.trans ?_ (sum_blocks 32 256 fun q => gx (Y m c) (W m c) (X m c) (Gt m c) (Lg m c) (Lb m c) (Tg m c) q (y 1).val)
  exact Finset.sum_congr rfl fun k _ => by rw [Nat.mul_zero, Nat.zero_add]; rfl

/-- The kernel's result array of the gradient of the gate: a sum over all rows. -/
def G12 (c : Dev nD) : S1x2048.Idx → EReal := fun i => ∑ q : Fin 8192, dres (Y m c) (W m c) (X m c) (Gt m c) (Lg m c) (Lb m c) (Tg m c) q.val (i 1).val * proj (Y m c) (W m c) q.val (i 1).val

/-- The last point leaves the gradient of the gate. -/
theorem final12 (c : Dev nD) : (dats m 0 c).arrAt 12 cfg0.N = G12 m c := by
  refine (dats m 0 c).arrAt_eq_of_covers 12 _ (by decide +kernel) fun t hf y => ?_
  have hr := (flush0_12 t).mp hf
  have ht : t.val / 32 = 0 := Nat.div_eq_of_lt t.isLt
  have e := idx t
  blk_simp
  rw [after0_12]
  refine (acc12 m c t y).trans ?_
  have e1 : (((win0_12.blk t).view.emb y) 1).val = (y 1).val := by blk_simp [e.2.2.2.2.2.2.2.2.2.2.2.2]
  rw [zero_add, G12, e1, hr, ht]
  refine Eq.trans ?_ (sum_blocks 32 256 fun q => dres (Y m c) (W m c) (X m c) (Gt m c) (Lg m c) (Lb m c) (Tg m c) q (y 1).val * proj (Y m c) (W m c) q (y 1).val)
  exact Finset.sum_congr rfl fun k _ => by rw [Nat.mul_zero, Nat.zero_add]; rfl

/-- The kernel's loss: a sum over all blocks of rows. -/
def G7 (c : Dev nD) : S1x1.Idx → EReal := fun i => ∑ k ∈ Finset.range 32, term7 m c k i

/-- The last point leaves the loss. -/
theorem final7 (c : Dev nD) : (dats m 0 c).arrAt 7 cfg0.N = G7 m c := by
  refine (dats m 0 c).arrAt_eq_of_covers 7 _ (by decide +kernel) fun t hf y => ?_
  have hr := (flush0_7 t).mp hf
  have ht : t.val / 32 = 0 := Nat.div_eq_of_lt t.isLt
  blk_simp
  rw [after0_7]
  refine (acc7 m c t y).trans ?_
  rw [zero_add, G7, hr, ht]
  exact Finset.sum_congr rfl fun k _ => by rw [Nat.mul_zero, Nat.zero_add]; rfl

end Cert.LnLoss
end
-- ==== Proof.LnLossRef.lean ====
module

public import proofs.«01_k».proof.Proof.LnLoss
public import proofs.«01_k».proof.Proof.Gen.Reference12Ideal.Read

/-! The reference's loss and gradients, and that the kernel's equal them on finite arguments. -/

@[expose] public section

set_option maxRecDepth 16384

noncomputable section

namespace Cert.LnLoss

open Cert.Rd Cert.Reference12Ideal.Read
open Cert.Kernel12Ideal (nD τ sig main_arg0 main_arg1 main_arg2 main_arg3 main_arg4 main_arg5 main_arg6 S8192x2048 S1x2048 S2048x2048)
open Cert.Kernel12Ideal.Gen (dats)
open Idealize.ShloMosaic Idealize.ShloMosaic.TcCoe Idealize.SL.Sem

/-! ## Real numbers among the extended ones -/

/-- An extended real that is a real number. -/
def Re (a : EReal) : Prop := ∃ x : ℝ, a = x

/-- A product of real numbers is real. -/
theorem Re.mul {a b : EReal} (ha : Re a) (hb : Re b) : Re (a * b) := by
  obtain ⟨x, rfl⟩ := ha
  obtain ⟨y, rfl⟩ := hb
  exact ⟨x * y, (EReal.coe_mul x y).symm⟩

/-- A sum of two real numbers is real. -/
theorem Re.add {a b : EReal} (ha : Re a) (hb : Re b) : Re (a + b) := by
  obtain ⟨x, rfl⟩ := ha
  obtain ⟨y, rfl⟩ := hb
  exact ⟨x + y, (EReal.coe_add x y).symm⟩

/-- A difference of real numbers is real. -/
theorem Re.sub {a b : EReal} (ha : Re a) (hb : Re b) : Re (a - b) := by
  obtain ⟨x, rfl⟩ := ha
  obtain ⟨y, rfl⟩ := hb
  exact ⟨x - y, (EReal.coe_sub x y).symm⟩

/-- A sum of real numbers, as a real number. -/
theorem coe_sum {ι : Type} (s : Finset ι) (f : ι → ℝ) : ∑ j ∈ s, (f j : EReal) = ((∑ j ∈ s, f j : ℝ) : EReal) := by
  classical
  induction s using Finset.induction_on with
  | empty => simp
  | insert a s h ih => rw [Finset.sum_insert h, Finset.sum_insert h, ih, EReal.coe_add]

/-- A sum over a row of real numbers is real. -/
theorem Re.sum {f : Fin 2048 → EReal} (h : ∀ k, Re (f k)) : Re (∑ k, f k) := by
  choose F hF using h
  exact ⟨∑ k, F k, by rw [Finset.sum_congr rfl fun k _ => hF k, coe_sum]⟩

/-- A real number over the row's length is real. -/
theorem Re.div {a : EReal} (ha : Re a) : Re (Ideal.div a LnRow.N) := by
  obtain ⟨x, rfl⟩ := ha
  exact ⟨x / 2048, LnRow.div_N x⟩

/-- A row of real numbers has a real reciprocal deviation. -/
theorem re_rstd {f : Fin 2048 → EReal} (h : ∀ k, Re (f k)) : Re (LnRow.rstd f) := by
  have hc (k : Fin 2048) : Re (LnRow.cen f k) := (h k).sub (Re.sum h).div
  choose c hc using hc
  obtain ⟨e, he, hE⟩ := LnRow.E_eq
  have hv : LnRow.var f = (((∑ j, c j * c j) / 2048 + e : ℝ) : EReal) := by
    rw [LnRow.var, Finset.sum_congr rfl fun j _ =>
      (by rw [hc, ← EReal.coe_mul] : LnRow.cen f j * LnRow.cen f j = ((c j * c j : ℝ) : EReal)), coe_sum, LnRow.div_N, hE,
      ← EReal.coe_add]
  have hq : 0 < (∑ j, c j * c j) / 2048 + e := by
    have : 0 ≤ ∑ j, c j * c j := Finset.sum_nonneg fun j _ => mul_self_nonneg _
    positivity
  refine ⟨(Real.sqrt ((∑ j, c j * c j) / 2048 + e))⁻¹, ?_⟩
  rw [LnRow.rstd, hv, Ideal.rsqrt_coe, if_neg (not_lt.mpr hq.le), if_neg hq.ne']

/-- A reading of a matrix of real numbers is a real number. -/
theorem re_rd {a b : ℕ} {A : (⟨2, ![a, b]⟩ : Shape).Idx → EReal} (h : ∀ i, Re (A i)) (r q : ℕ) : Re (rd A r q) := by
  unfold rd
  split
  · exact h _
  · exact ⟨0, rfl⟩

/-- The precondition makes every entry real. -/
theorem real_of_pre [Cert.Pre_finite12.Facts] (x0 : Vec Ideal ⟨2, ![8192, 2048]⟩ .bf16) (x1 : Vec Ideal ⟨2, ![2048, 2048]⟩ .bf16)
    (x2 : Vec Ideal ⟨2, ![8192, 2048]⟩ .f32) (x3 x4 x5 : Vec Ideal ⟨2, ![1, 2048]⟩ .f32) (x6 : Vec Ideal ⟨2, ![8192, 2048]⟩ .f32)
    (h0 : (Cert.Pre_finite12.fn (F := Ideal) x0 x1 x2 x3 x4 x5 x6).1 = fun _ => 1#1)
    (h1 : (Cert.Pre_finite12.fn (F := Ideal) x0 x1 x2 x3 x4 x5 x6).2.1 = fun _ => 1#1)
    (h2 : (Cert.Pre_finite12.fn (F := Ideal) x0 x1 x2 x3 x4 x5 x6).2.2.1 = fun _ => 1#1)
    (h3 : (Cert.Pre_finite12.fn (F := Ideal) x0 x1 x2 x3 x4 x5 x6).2.2.2.1 = fun _ => 1#1)
    (h4 : (Cert.Pre_finite12.fn (F := Ideal) x0 x1 x2 x3 x4 x5 x6).2.2.2.2.1 = fun _ => 1#1)
    (h5 : (Cert.Pre_finite12.fn (F := Ideal) x0 x1 x2 x3 x4 x5 x6).2.2.2.2.2.1 = fun _ => 1#1)
    (h6 : (Cert.Pre_finite12.fn (F := Ideal) x0 x1 x2 x3 x4 x5 x6).2.2.2.2.2.2 = fun _ => 1#1) :
    (∀ i, Re (x0 i)) ∧ (∀ i, Re (x1 i)) ∧ (∀ i, Re (x2 i)) ∧ (∀ i, Re (x3 i)) ∧ (∀ i, Re (x4 i)) ∧ (∀ i, Re (x5 i))
      ∧ ∀ i, Re (x6 i) := by
  refine ⟨fun i => Finite.real_of_abs _ ?_, fun i => Finite.real_of_abs _ ?_, fun i => Finite.real_of_abs _ ?_,
    fun i => Finite.real_of_abs _ ?_, fun i => Finite.real_of_abs _ ?_, fun i => Finite.real_of_abs _ ?_,
    fun i => Finite.real_of_abs _ ?_⟩
  · exact congrFun h0 i
  · exact congrFun h1 i
  · exact congrFun h2 i
  · exact congrFun h3 i
  · exact congrFun h4 i
  · exact congrFun h5 i
  · exact congrFun h6 i

/-! ## Constants -/

/-- One half. -/
theorem half_eq : Ideal.ofBits FTy.f32 1056964608#32 = ((1 / 2 : ℝ) : EReal) := by
  simp [Ideal.ofBits, Ideal.ieee, -EReal.coe_mul, -EReal.coe_neg]
  norm_num

/-- One over the row's length. -/
theorem inv_eq : Ideal.ofBits FTy.f32 973078528#32 = ((1 / 2048 : ℝ) : EReal) := by
  simp [Ideal.ofBits, Ideal.ieee, -EReal.coe_mul, -EReal.coe_neg]
  norm_num

/-- One over twice the row's length. -/
theorem inv2_eq : Ideal.ofBits FTy.f32 964689920#32 = ((1 / 4096 : ℝ) : EReal) := by
  simp [Ideal.ofBits, Ideal.ieee, -EReal.coe_mul, -EReal.coe_neg]
  norm_num

/-- Half, over the row's length, times the square's two, is one over the row's length. -/
theorem const_eq : Ideal.div (Ideal.ofBits FTy.f32 1056964608#32) LnRow.N * Ideal.ofBits FTy.f32 1073741824#32
    = Ideal.ofBits FTy.f32 973078528#32 := by
  rw [half_eq, LnRow.div_N, LnRow.T_eq, inv_eq, ← EReal.coe_mul]
  norm_num

variable (x0 : S8192x2048.Idx → EReal) (x1 : S2048x2048.Idx → EReal) (x2 : S8192x2048.Idx → EReal) (x3 x4 x5 : S1x2048.Idx → EReal)
  (x6 : S8192x2048.Idx → EReal)

/-- The chain rule's gradient at the residual sum, of one row and column. -/
def chn (r : ℕ) (q : Fin 2048) : EReal :=
  LnRow.chain (fun k => res x0 x1 x2 x3 r k.val) (fun k => up x0 x1 x2 x3 x4 x5 x6 r k.val) q

/-! ## The reference's stages -/

/-- The reference's projection. -/
theorem ref2 (i : S8192x2048.Idx) : val_main_v2 (F := Ideal) x0 x1 i = proj x0 x1 (i 0).val (i 1).val := by
  rw [val_main_v2_apply]
  refine Finset.sum_congr rfl fun k _ => ?_
  exact congrArg₂ (· * ·) (rd_at x0 _ _ _ rfl rfl) (rd_at x1 _ _ _ rfl rfl)

/-- The reference's residual sum. -/
theorem ref9 (i : S8192x2048.Idx) : val_main_v9 (F := Ideal) x0 x1 x2 x3 i = res x0 x1 x2 x3 (i 0).val (i 1).val := by
  rw [val_main_v9_apply, val_main_v8_apply, val_main_v7_apply, val_main_v6_apply, val_main_v5_apply, val_main_v4_apply,
    val_main_v3_apply, val_main_cst_apply, val_main_cst_0_apply, ref2, rd_at x2 i _ _ rfl rfl, rd_at x3 _ 0 (i 1).val rfl rfl]
  pointwise [res]

/-- The reference's centred residual sum. -/
theorem ref15 (i : S8192x2048.Idx) : val_main_v15 (F := Ideal) x0 x1 x2 x3 i = cen x0 x1 x2 x3 (i 0).val (i 1).val := by
  rw [val_main_v15_apply, val_main_v14_apply, val_main_v13_apply, val_main_v12_apply, val_main_v11_apply, val_main_v10_apply,
    val_main_cst_1_apply, val_main_cst_2_apply]
  pointwise [cen]
  simp only [ref9]

/-- The same, of its second appearance. -/
theorem ref24 (i : S8192x2048.Idx) : val_main_v24 (F := Ideal) x0 x1 x2 x3 i = cen x0 x1 x2 x3 (i 0).val (i 1).val :=
  ref15 x0 x1 x2 x3 i

/-- The reference's variance with the small number added. -/
theorem ref26 (i : Cert.Reference12Ideal.S8192x1.Idx) :
    val_main_v26 (F := Ideal) x0 x1 x2 x3 i = LnRow.var (fun k => res x0 x1 x2 x3 (i 0).val k.val) := by
  rw [val_main_v26_apply, val_main_v25_apply, val_main_cst_6_apply, val_main_v22_apply, val_main_v21_apply, val_main_cst_5_apply,
    val_main_v20_apply, val_main_v19_apply, val_main_cst_4_apply]
  pointwise [LnRow.var]
  simp only [val_main_v16_apply, ref15]
  rfl

/-- The reference's reciprocal standard deviation. -/
theorem ref27 (i : Cert.Reference12Ideal.S8192x1.Idx) :
    val_main_v27 (F := Ideal) x0 x1 x2 x3 i = rstd x0 x1 x2 x3 (i 0).val := by
  rw [val_main_v27_apply, ref26]
  rfl

/-- The reference's normalised rows. -/
theorem ref32 (i : S8192x2048.Idx) : val_main_v32 (F := Ideal) x0 x1 x2 x3 i = xhat x0 x1 x2 x3 (i 0).val (i 1).val := by
  rw [val_main_v32_apply, val_main_v31_apply, ref24, ref27]
  rfl

/-- The reference's error. -/
theorem ref37 (i : S8192x2048.Idx) :
    val_main_v37 (F := Ideal) x0 x1 x2 x3 x4 x5 x6 i = err x0 x1 x2 x3 x4 x5 x6 (i 0).val (i 1).val := by
  rw [val_main_v37_apply, val_main_v36_apply, val_main_v35_apply, val_main_v34_apply, val_main_v33_apply, ref32,
    rd_at x4 _ 0 (i 1).val rfl rfl, rd_at x5 _ 0 (i 1).val rfl rfl, rd_at x6 i _ _ rfl rfl]
  rfl

/-- The loss's gradient at the next layer's input. -/
theorem ref51 (i : S8192x2048.Idx) :
    val_main_v51 (F := Ideal) x0 x1 x2 x3 x4 x5 x6 i = gx x0 x1 x2 x3 x4 x5 x6 (i 0).val (i 1).val := by
  rw [val_main_v51_apply, val_main_v50_apply, val_main_v49_apply, val_main_v48_apply, val_main_cst_15_apply, val_main_v47_apply,
    val_main_v46_apply, val_main_cst_13_apply, val_main_cst_14_apply, val_main_v40_apply, val_main_v39_apply,
    val_main_cst_8_apply, ref37]
  pointwise [gx]
  rw [← mul_assoc]
  refine (congrArg (· * _) const_eq).trans (mul_comm _ _)

/-- The gradient at the normalised rows. -/
theorem ref58 (i : S8192x2048.Idx) :
    val_main_v58 (F := Ideal) x0 x1 x2 x3 x4 x5 x6 i = up x0 x1 x2 x3 x4 x5 x6 (i 0).val (i 1).val := by
  rw [val_main_v58_apply, ref51, val_main_v57_apply, rd_at x4 _ 0 (i 1).val rfl rfl]
  rfl

/-- The direct part of the gradient. -/
theorem ref63 (i : S8192x2048.Idx) :
    val_main_v63 (F := Ideal) x0 x1 x2 x3 x4 x5 x6 i
      = up x0 x1 x2 x3 x4 x5 x6 (i 0).val (i 1).val * rstd x0 x1 x2 x3 (i 0).val := by
  rw [val_main_v63_apply, val_main_v62_apply, ref58, ref27]
  rfl

/-- What goes back through the root and the mean square, by row. -/
theorem ref69 (i : Cert.Reference12Ideal.S8192x1.Idx) :
    val_main_v69 (F := Ideal) x0 x1 x2 x3 x4 x5 x6 i
      = LnRow.back (fun k => res x0 x1 x2 x3 (i 0).val k.val) (fun k => up x0 x1 x2 x3 x4 x5 x6 (i 0).val k.val) := by
  rw [val_main_v69_apply, val_main_v68_apply, val_main_cst_20_apply, val_main_v64_apply, val_main_v61_apply, val_main_v60_apply,
    val_main_cst_18_apply, val_main_v30_apply, val_main_v29_apply, val_main_cst_7_apply, val_main_v28_apply, ref27, ref26]
  pointwise [LnRow.back]
  have h : (i 1).val = 0 := by have := (i 1).isLt; change (i 1).val < 1 at this; omega
  simp only [val_main_v59_apply, ref24, ref58, h, Nat.mul_one, Nat.add_zero]
  rfl

/-- The same, spread over the row's columns and through the square. -/
theorem ref72 (i : S8192x2048.Idx) :
    val_main_v72 (F := Ideal) x0 x1 x2 x3 x4 x5 x6 i
      = LnRow.back (fun k => res x0 x1 x2 x3 (i 0).val k.val) (fun k => up x0 x1 x2 x3 x4 x5 x6 (i 0).val k.val)
        * (Ideal.ofBits FTy.f32 1073741824#32 * cen x0 x1 x2 x3 (i 0).val (i 1).val) := by
  rw [val_main_v72_apply, val_main_v71_apply, val_main_v70_apply, val_main_cst_21_apply, val_main_v18_apply, val_main_v17_apply,
    val_main_cst_3_apply, ref15, Fin.sum_univ_one, ref69]
  pointwise []

/-- The reference's gradient at the residual sum is the chain rule's. -/
theorem ref82 (i : S8192x2048.Idx) :
    val_main_v82 (F := Ideal) x0 x1 x2 x3 x4 x5 x6 i = chn x0 x1 x2 x3 x4 x5 x6 (i 0).val ⟨(i 1).val, (i 1).isLt⟩ := by
  rw [val_main_v82_apply, val_main_v81_apply, val_main_v80_apply, val_main_cst_24_apply, Fin.sum_univ_one, val_main_v79_apply,
    val_main_v78_apply, val_main_cst_23_apply, val_main_v77_apply, val_main_v67_apply, val_main_v66_apply, val_main_cst_19_apply,
    val_main_v75_apply, val_main_v74_apply, val_main_cst_22_apply, val_main_v76_apply, ref63, ref72]
  pointwise [chn, LnRow.chain]
  simp only [val_main_v65_apply, val_main_v73_apply, ref63, ref72, Fin.val_zero, Nat.mul_one, Nat.add_zero]
  rfl

/-- The column of a summand is the result's. -/
theorem col52 (i : S1x2048.Idx) (k : Fin 8192) : (idx_main_v52 (idx_main_v53 i) k 1).val = (i 1).val := by
  have h : (i 0).val = 0 := by have := (i 0).isLt; change (i 0).val < 1 at this; omega
  show (i 0).val * 2048 + (i 1).val = (i 1).val
  omega

/-- The column of a summand is the result's. -/
theorem col55 (i : S1x2048.Idx) (k : Fin 8192) : (idx_main_v55 (idx_main_v56 i) k 1).val = (i 1).val := by
  have h : (i 0).val = 0 := by have := (i 0).isLt; change (i 0).val < 1 at this; omega
  show (i 0).val * 2048 + (i 1).val = (i 1).val
  omega

/-- The column of a summand is the result's. -/
theorem col86 (i : S1x2048.Idx) (k : Fin 8192) : (idx_main_v86 (idx_main_v87 i) k 1).val = (i 1).val := by
  have h : (i 0).val = 0 := by have := (i 0).isLt; change (i 0).val < 1 at this; omega
  show (i 0).val * 2048 + (i 1).val = (i 1).val
  omega

/-- The reference's gradient of the layer norm's shift. -/
theorem ref53 (i : S1x2048.Idx) :
    val_main_v53 (F := Ideal) x0 x1 x2 x3 x4 x5 x6 i = ∑ q : Fin 8192, gx x0 x1 x2 x3 x4 x5 x6 q.val (i 1).val := by
  rw [val_main_v53_apply, val_main_v52_apply, val_main_cst_16_apply]
  pointwise []
  refine Finset.sum_congr rfl fun k _ => ?_
  rw [ref51, col52 i k]

/-- The reference's gradient of the layer norm's scale. -/
theorem ref56 (i : S1x2048.Idx) :
    val_main_v56 (F := Ideal) x0 x1 x2 x3 x4 x5 x6 i
      = ∑ q : Fin 8192, gx x0 x1 x2 x3 x4 x5 x6 q.val (i 1).val * xhat x0 x1 x2 x3 q.val (i 1).val := by
  rw [val_main_v56_apply, val_main_v55_apply, val_main_cst_17_apply]
  pointwise []
  refine Finset.sum_congr rfl fun k _ => ?_
  rw [val_main_v54_apply, ref32, ref51, col55 i k]
  exact mul_comm _ _

/-- The reference's loss: half the sum of the rows' mean squared errors. -/
theorem ref90 (i : Cert.Kernel12Ideal.S1x1.Idx) :
    val_main_v90 (F := Ideal) x0 x1 x2 x3 x4 x5 x6 i
      = Ideal.ofBits FTy.f32 1056964608#32 * ∑ q : Fin 8192, Ideal.div (∑ k : Fin 2048,
          err x0 x1 x2 x3 x4 x5 x6 q.val k.val * err x0 x1 x2 x3 x4 x5 x6 q.val k.val) LnRow.N := by
  refine (rfl : _ = val_main_v45 (F := Ideal) x0 x1 x2 x3 x4 x5 x6 _).trans ?_
  rw [val_main_v45_apply, val_main_cst_12_apply, val_main_v44_apply, val_main_cst_11_apply, sum_idx1]
  pointwise []
  refine congrArg _ (Finset.sum_congr rfl fun q _ => ?_)
  rw [val_main_v43_apply, val_main_v42_apply, val_main_cst_10_apply, val_main_v41_apply, val_main_cst_9_apply]
  pointwise []
  simp only [val_main_v38_apply, ref37]
  rfl

section Real
variable (h0 : ∀ i, Re (x0 i)) (h1 : ∀ i, Re (x1 i)) (h2 : ∀ i, Re (x2 i)) (h3 : ∀ i, Re (x3 i)) (h4 : ∀ i, Re (x4 i))
  (h5 : ∀ i, Re (x5 i)) (h6 : ∀ i, Re (x6 i))

include h0 h1 h2 h3 in
/-- The residual sum is real. -/
theorem re_res (r q : ℕ) : Re (res x0 x1 x2 x3 r q) :=
  (Re.mul LnRow.A_eq (re_rd h2 r q)).add
    ((Re.add ⟨1, rfl⟩ (re_rd h3 0 q)).mul (Re.sum fun k => (re_rd h0 r k.val).mul (re_rd h1 k.val q)))

include h0 h1 h2 h3 h4 h5 h6

/-- The error is real. -/
theorem re_err (r q : ℕ) : Re (err x0 x1 x2 x3 x4 x5 x6 r q) := by
  have hf := re_res x0 x1 x2 x3 h0 h1 h2 h3
  have hc : Re (cen x0 x1 x2 x3 r q) := (hf r q).sub (Re.sum fun k => hf r k.val).div
  have hr : Re (rstd x0 x1 x2 x3 r) := re_rstd (f := fun k => res x0 x1 x2 x3 r k.val) fun k => hf r k.val
  exact (((hc.mul hr).mul (re_rd h4 0 q)).add (re_rd h5 0 q)).sub (re_rd h6 r q)

/-- On real numbers the closed form is the chain rule's gradient. -/
theorem dres_eq (r : ℕ) (q : Fin 2048) :
    dres x0 x1 x2 x3 x4 x5 x6 r q.val = chn x0 x1 x2 x3 x4 x5 x6 r q := by
  refine (rfl : _ = LnRow.closed (fun k => res x0 x1 x2 x3 r k.val) (fun k => up x0 x1 x2 x3 x4 x5 x6 r k.val) q).trans
    (LnRow.closed_eq_chain _ _ (fun k => re_res x0 x1 x2 x3 h0 h1 h2 h3 r k.val) (fun k => ?_) q)
  exact ((re_err x0 x1 x2 x3 x4 x5 x6 h0 h1 h2 h3 h4 h5 h6 r k.val).mul ⟨_, inv_eq⟩).mul (re_rd h4 0 k.val)

/-- On real numbers the reference's gradient at the residual sum is the closed form. -/
theorem refRes (i : S8192x2048.Idx) :
    val_main_v82 (F := Ideal) x0 x1 x2 x3 x4 x5 x6 i = dres x0 x1 x2 x3 x4 x5 x6 (i 0).val (i 1).val := by
  rw [ref82, ← dres_eq x0 x1 x2 x3 x4 x5 x6 h0 h1 h2 h3 h4 h5 h6]

/-- The reference's gradient at the projection. -/
theorem ref91 (i : S8192x2048.Idx) :
    val_main_v91 (F := Ideal) x0 x1 x2 x3 x4 x5 x6 i = dy x0 x1 x2 x3 x4 x5 x6 (i 0).val (i 1).val := by
  rw [val_main_v91_apply, val_main_v84_apply, val_main_v83_apply, val_main_v6_apply, val_main_v5_apply, val_main_cst_0_apply,
    refRes x0 x1 x2 x3 x4 x5 x6 h0 h1 h2 h3 h4 h5 h6, rd_at x3 _ 0 (i 1).val rfl rfl]
  pointwise [dy]

/-- The reference's gradient at the layer input. -/
theorem ref89 (i : S8192x2048.Idx) :
    val_main_v89 (F := Ideal) x0 x1 x2 x3 x4 x5 x6 i = dx x0 x1 x2 x3 x4 x5 x6 (i 0).val (i 1).val := by
  rw [val_main_v89_apply, val_main_v88_apply, val_main_cst_26_apply, refRes x0 x1 x2 x3 x4 x5 x6 h0 h1 h2 h3 h4 h5 h6]
  rfl

/-- The reference's gradient of the gate. -/
theorem ref87 (i : S1x2048.Idx) :
    val_main_v87 (F := Ideal) x0 x1 x2 x3 x4 x5 x6 i
      = ∑ q : Fin 8192, dres x0 x1 x2 x3 x4 x5 x6 q.val (i 1).val * proj x0 x1 q.val (i 1).val := by
  rw [val_main_v87_apply, val_main_v86_apply, val_main_cst_25_apply]
  pointwise []
  refine Finset.sum_congr rfl fun k _ => ?_
  rw [val_main_v85_apply, refRes x0 x1 x2 x3 x4 x5 x6 h0 h1 h2 h3 h4 h5 h6, ref2, col86 i k]
  rfl

/-- On real numbers the kernel's loss, gathered by blocks of rows, is the reference's. -/
theorem loss_eq :
    (∑ k ∈ Finset.range 32, Ideal.ofBits FTy.f32 964689920#32 * ∑ l : Fin 256, ∑ j : Fin 2048,
        err x0 x1 x2 x3 x4 x5 x6 (256 * k + l.val) j.val * err x0 x1 x2 x3 x4 x5 x6 (256 * k + l.val) j.val)
      = Ideal.ofBits FTy.f32 1056964608#32 * ∑ q : Fin 8192, Ideal.div (∑ k : Fin 2048,
          err x0 x1 x2 x3 x4 x5 x6 q.val k.val * err x0 x1 x2 x3 x4 x5 x6 q.val k.val) LnRow.N := by
  have he := re_err x0 x1 x2 x3 x4 x5 x6 h0 h1 h2 h3 h4 h5 h6
  have hs (r : ℕ) : Re (∑ k : Fin 2048, err x0 x1 x2 x3 x4 x5 x6 r k.val * err x0 x1 x2 x3 x4 x5 x6 r k.val) :=
    Re.sum fun k => (he r k.val).mul (he r k.val)
  choose s hs using hs
  simp only [hs, LnRow.div_N]
  rw [half_eq, inv2_eq, coe_sum, ← EReal.coe_mul, Finset.mul_sum, ← coe_sum]
  refine Eq.trans ?_ ((sum_blocks 32 256 fun q => ((1 / 4096 * s q : ℝ) : EReal)).trans ?_)
  · refine Finset.sum_congr rfl fun k _ => ?_
    rw [coe_sum, ← EReal.coe_mul, Finset.mul_sum, ← coe_sum]
  · refine Finset.sum_congr rfl fun q _ => congrArg _ ?_
    ring

end Real

/-- On finite arguments the kernel and the reference end with equal losses and gradients. -/
theorem algebraic [Cert.Pre_finite12.Facts] : Cert.algebraic_Kernel12Ideal_Reference12Ideal_pre_finite12 :=
    fun m ρ m' ρ' pre hag => by
  refine ⟨fun c => G7 m c, fun c => G8 m c, fun c => G9 m c, fun c => G10 m c, fun c => G11 m c, fun c => G12 m c,
    (θ_run _ _ _).mono (fun _ h c => ⟨(h c).1.trans (final7 m c), (h c).2.1.trans (final8 m c), (h c).2.2.1.trans (final9 m c),
      (h c).2.2.2.1.trans (final10 m c), (h c).2.2.2.2.1.trans (final11 m c), (h c).2.2.2.2.2.1.trans (final12 m c),
      (h c).2.2.2.2.2.2⟩) (Cert.Kernel12Ideal.Value.run_blocks m ρ),
    (θ_run _ _ _).mono (fun _ h c => ?_) (Cert.Reference12Ideal.Value.run m' ρ')⟩
  obtain ⟨h0, h1, h2, h3, h4, h5, h6⟩ := real_of_pre _ _ _ _ _ _ _ (pre c).1 (pre c).2.1 (pre c).2.2.1 (pre c).2.2.2.1
    (pre c).2.2.2.2.1 (pre c).2.2.2.2.2.1 (pre c).2.2.2.2.2.2
  have a0 := (hag c).1
  have a1 := (hag c).2.1
  have a2 := (hag c).2.2.1
  have a3 := (hag c).2.2.2.1
  have a4 := (hag c).2.2.2.2.1
  have a5 := (hag c).2.2.2.2.2.1
  have a6 := (hag c).2.2.2.2.2.2
  refine ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩
  · rw [val_main_v90_eq, a0, a1, a2, a3, a4, a5, a6]
    exact funext fun i => (ref90 _ _ _ _ _ _ _ i).trans (loss_eq _ _ _ _ _ _ _ h0 h1 h2 h3 h4 h5 h6).symm
  · rw [val_main_v91_eq, a0, a1, a2, a3, a4, a5, a6]
    exact funext fun i => ref91 _ _ _ _ _ _ _ h0 h1 h2 h3 h4 h5 h6 i
  · rw [val_main_v89_eq, a0, a1, a2, a3, a4, a5, a6]
    exact funext fun i => ref89 _ _ _ _ _ _ _ h0 h1 h2 h3 h4 h5 h6 i
  · rw [val_main_v56_eq, a0, a1, a2, a3, a4, a5, a6]
    exact funext fun i => ref56 _ _ _ _ _ _ _ i
  · rw [val_main_v53_eq, a0, a1, a2, a3, a4, a5, a6]
    exact funext fun i => ref53 _ _ _ _ _ _ _ i
  · rw [val_main_v87_eq, a0, a1, a2, a3, a4, a5, a6]
    exact funext fun i => ref87 _ _ _ _ _ _ _ h0 h1 h2 h3 h4 h5 h6 i

end Cert.LnLoss
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel6
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Pre_finite
public import proofs.«01_k».proof.Proof.Gen.Pre_finite6
public import proofs.«01_k».proof.Proof.Gen.Pre_finite11
public import proofs.«01_k».proof.Proof.Gen.Pre_finite12
public import proofs.«01_k».proof.Proof.Refs
public import proofs.«01_k».proof.Proof.LruFrame
public import proofs.«01_k».proof.Proof.MixerAEq
public import proofs.«01_k».proof.Proof.ConvCRef
public import proofs.«01_k».proof.Proof.Dh
public import proofs.«01_k».proof.Proof.DwIn
public import proofs.«01_k».proof.Proof.LruFEq
public import proofs.«01_k».proof.Proof.LruBEq
public import proofs.«01_k».proof.Proof.InProj
public import proofs.«01_k».proof.Proof.DwOut
public import proofs.«01_k».proof.Proof.DyCat
public import proofs.«01_k».proof.Proof.OutLn
public import proofs.«01_k».proof.Proof.LnBwdRef
public import proofs.«01_k».proof.Proof.LnLossRef

/-! The claims of `Cert.Claim`, assembled: the frames of the kernels from their generated runs, the frames of the references
   from `Refs`, and one module of value claims for each kernel. -/

@[expose] public section

noncomputable section

namespace Cert.Proof

open Idealize.ShloMosaic Idealize.SL.Sem

/-- Every claim: the frames of the kernels, of their idealizations and of the references; that idealizing keeps the program;
    and, for each kernel, that it computes what its reference computes. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Pre_finite.Gen.facts,
  Cert.Pre_finite6.Gen.facts,
  Cert.Pre_finite11.Gen.facts,
  Cert.Pre_finite12.Gen.facts,
  fun m ρ _ => Cert.Kernel.Gen.frame m ρ,
  fun m ρ _ => Cert.KernelIdeal.Gen.frame m ρ,
  fun m ρ _ => Cert.KernelIdeal.Gen.frame m ρ,
  Cert.Refs.frame,
  fun m ρ _ => Cert.Refs.frame m ρ trivial,
  fun m ρ _ => Cert.Kernel2.Gen.frame m ρ,
  fun m ρ _ => Cert.Kernel2Ideal.Gen.frame m ρ,
  Cert.Refs.frame2,
  fun m ρ _ => Cert.Kernel3.Gen.frame m ρ,
  fun m ρ _ => Cert.Kernel3Ideal.Gen.frame m ρ,
  Cert.Refs.frame3,
  fun m ρ _ => Cert.Kernel4.Gen.frame m ρ,
  fun m ρ _ => Cert.Kernel4Ideal.Gen.frame m ρ,
  Cert.Refs.frame4,
  Cert.LruFrame.frame5,
  fun m ρ _ => Cert.Kernel5Ideal.Lru.frame m ρ,
  Cert.Refs.frame5,
  Cert.LruFrame.frame6,
  fun m ρ _ => Cert.Kernel6Ideal.Lru.frame m ρ,
  fun m ρ _ => Cert.Kernel6Ideal.Lru.frame m ρ,
  Cert.Refs.frame6,
  fun m ρ _ => Cert.Refs.frame6 m ρ trivial,
  fun m ρ _ => Cert.Kernel7.Gen.frame m ρ,
  fun m ρ _ => Cert.Kernel7Ideal.Gen.frame m ρ,
  Cert.Refs.frame7,
  fun m ρ _ => Cert.Kernel8.Gen.frame m ρ,
  fun m ρ _ => Cert.Kernel8Ideal.Gen.frame m ρ,
  Cert.Refs.frame8,
  fun m ρ _ => Cert.Kernel9.Gen.frame m ρ,
  fun m ρ _ => Cert.Kernel9Ideal.Gen.frame m ρ,
  Cert.Refs.frame9,
  fun m ρ _ => Cert.Kernel10.Gen.frame m ρ,
  fun m ρ _ => Cert.Kernel10Ideal.Gen.frame m ρ,
  Cert.Refs.frame10,
  fun m ρ _ => Cert.Kernel11.Gen.frame m ρ,
  fun m ρ _ => Cert.Kernel11Ideal.Gen.frame m ρ,
  fun m ρ _ => Cert.Kernel11Ideal.Gen.frame m ρ,
  Cert.Refs.frame11,
  fun m ρ _ => Cert.Refs.frame11 m ρ trivial,
  fun m ρ _ => Cert.Kernel12.Gen.frame m ρ,
  fun m ρ _ => Cert.Kernel12Ideal.Gen.frame m ρ,
  fun m ρ _ => Cert.Kernel12Ideal.Gen.frame m ρ,
  Cert.Refs.frame12,
  fun m ρ _ => Cert.Refs.frame12 m ρ trivial,
  trivial,
  Cert.MixerAEq.algebraic,
  trivial,
  Cert.ConvCRef.algebraic,
  trivial,
  Cert.Dh.algebraic,
  trivial,
  Cert.DwIn.algebraic,
  trivial,
  Cert.LruF.algebraic,
  trivial,
  Cert.LruB.algebraic,
  trivial,
  Cert.InProj.algebraic,
  trivial,
  Cert.DwOut.algebraic,
  trivial,
  Cert.DyCat.algebraic,
  trivial,
  Cert.OutLn.algebraic,
  trivial,
  Cert.LnBwd.algebraic,
  trivial,
  Cert.LnLoss.algebraic⟩

end Cert.Proof

end
